-- ==== Defs.lean ====
def Pre_Kernel [hPre_one_hot_targets : Cert.Pre_one_hot_targets.Facts] (m : (ℓ : Loc Cert.Kernel.nD Cert.Kernel.τ Cert.Kernel.sig) → Buf (Elt Bits) ℓ) : Prop :=
  ∀ c : Dev Cert.Kernel.nD,
    (Cert.Pre_one_hot_targets.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_one_hot_targets : Cert.Pre_one_hot_targets.Facts] (m : (ℓ : Loc Cert.KernelIdeal.nD Cert.KernelIdeal.τ Cert.KernelIdeal.sig) → Buf (Elt Ideal) ℓ) : Prop :=
  ∀ c : Dev Cert.KernelIdeal.nD,
    (Cert.Pre_one_hot_targets.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_hot_targets [hPre_one_hot_targets : Cert.Pre_one_hot_targets.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_hot_targets.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_one_hot_targets : Cert.Pre_one_hot_targets.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_one_hot_targets : Cert.Pre_one_hot_targets.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_one_hot_targets [hReferenceIdeal : Cert.ReferenceIdeal.Facts] [hPre_one_hot_targets : Cert.Pre_one_hot_targets.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_hot_targets m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_n" .f32 0x3883126F#32 ((1 / 16000 : ℝ) : EReal)

def algebraic_KernelIdeal_ReferenceIdeal [hKernelIdeal : Cert.KernelIdeal.Facts] [hReferenceIdeal : Cert.ReferenceIdeal.Facts] [hPre_one_hot_targets : Cert.Pre_one_hot_targets.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_one_hot_targets : Cert.Pre_one_hot_targets.Facts),
    quiescent_Kernel (hKernel := hKernel) (hPre_one_hot_targets := hPre_one_hot_targets)
    ∧ quiescent_KernelIdeal (hKernelIdeal := hKernelIdeal) (hPre_one_hot_targets := hPre_one_hot_targets)
    ∧ quiescent_ReferenceIdeal (hReferenceIdeal := hReferenceIdeal)
    ∧ quiescent_ReferenceIdeal_pre_one_hot_targets (hReferenceIdeal := hReferenceIdeal) (hPre_one_hot_targets := hPre_one_hot_targets)
    ∧ preserves_Kernel_KernelIdeal
    ∧ algebraic_KernelIdeal_ReferenceIdeal (hKernelIdeal := hKernelIdeal) (hReferenceIdeal := hReferenceIdeal) (hPre_one_hot_targets := hPre_one_hot_targets)
-- ==== Pre_one_hot_targets.lean ====
abbrev S1x16000x324 : Shape := ⟨3, ![1, 16000, 324]⟩
abbrev S1x16000x81 : Shape := ⟨3, ![1, 16000, 81]⟩
abbrev S_ : Shape := ⟨0, ![]⟩
abbrev S1x16000x81x1 : Shape := ⟨4, ![1, 16000, 81, 1]⟩
abbrev S1x16000x81x2 : Shape := ⟨4, ![1, 16000, 81, 2]⟩
abbrev S1x16000 : Shape := ⟨2, ![1, 16000]⟩
abbrev S1x16000x1 : Shape := ⟨3, ![1, 16000, 1]⟩

class Facts : Prop where
  bcast_S_S1x16000x81 : S_.BroadcastsInDim S1x16000x81 (![] : Fin 0 → Fin S1x16000x81.rank)
  bcast_S1x16000x81_S1x16000x81x1_0_1_2 : S1x16000x81.BroadcastsInDim S1x16000x81x1 (![0, 1, 2] : Fin 3 → Fin S1x16000x81x1.rank)
  concatenates_S1x16000x81x1_S1x16000x81x1_S1x16000x81x2_d3 : Shape.Concatenates [S1x16000x81x1, S1x16000x81x1] S1x16000x81x2 3
  sliceFits_S1x16000x81x2_S1x16000x81x1 : S1x16000x81x2.Slices (fun _ => 0) S1x16000x81x1
  shapeCasts_S1x16000x81x1_S1x16000x81 : S1x16000x81x1.ShapeCasts S1x16000x81
  natLt_1_32 : 1 < 32
  reducesTo_S1x16000x81_S1x16000_d2 : S1x16000x81.ReducesTo [2] S1x16000
  h_S_ : 0 < S_.numel
  bcast_S1x16000_S1x16000x1_0_1 : S1x16000.BroadcastsInDim S1x16000x1 (![0, 1] : Fin 2 → Fin S1x16000x1.rank)
  bcast_S_S1x16000x1 : S_.BroadcastsInDim S1x16000x1 (![] : Fin 0 → Fin S1x16000x1.rank)
  bcast_S1x16000x1_S1x16000x81_0_1_2 : S1x16000x1.BroadcastsInDim S1x16000x81 (![0, 1, 2] : Fin 3 → Fin S1x16000x81.rank)

variable [Facts]

def fn_part2 {F : FTy → Type} [FloatOps F] (main_v28 : IVec S1x16000x81 1) (main_v31 : IVec S1x16000x1 32) (main_c_11 : IVec S_ 32) : IVec S1x16000x81 1 :=
  let main_v32 : IVec S1x16000x1 32 := broadcastInDim S1x16000x1 ![] bcast_S_S1x16000x1 main_c_11
  let main_v33 : IVec S1x16000x1 1 := cmpi .eq main_v31 main_v32
  let main_v34 : IVec S1x16000x81 1 := broadcastInDim S1x16000x81 ![0, 1, 2] bcast_S1x16000x1_S1x16000x81_0_1_2 main_v33
  let main_v35 : IVec S1x16000x81 1 := andi main_v28 main_v34
  main_v35

def fn_part1 {F : FTy → Type} [FloatOps F] (main_arg1 : FVec F S1x16000x81 .f32) (main_v13 : IVec S1x16000x81 1) (main_v14 : FVec F S1x16000x81 .f32) (main_v15 : FVec F S1x16000x81x1 .f32) : IVec S1x16000x81 1 :=
  let main_v16 : FVec F S1x16000x81x1 .f32 := broadcastInDim S1x16000x81x1 ![0, 1, 2] bcast_S1x16000x81_S1x16000x81x1_0_1_2 main_v14
  let main_v17 : FVec F S1x16000x81x2 .f32 := (fun a b => concatenate S1x16000x81x2 3 [⟨S1x16000x81x1, a⟩, ⟨S1x16000x81x1, b⟩] concatenates_S1x16000x81x1_S1x16000x81x1_S1x16000x81x2_d3) main_v15 main_v16
  let main_values_4 : FVec F S1x16000x81x1 .f32 := (fun x => (Host.topK S1x16000x81x1 3 (FloatOps.cmpfTotal .gt) x sliceFits_S1x16000x81x2_S1x16000x81x1).1) main_v17
  let main_indices_5 : IVec S1x16000x81x1 32 := (fun x => (Host.topK S1x16000x81x1 3 (FloatOps.cmpfTotal .gt) x sliceFits_S1x16000x81x2_S1x16000x81x1).2) main_v17
  let main_v18 : IVec S1x16000x81 32 := shapeCast S1x16000x81 main_indices_5 shapeCasts_S1x16000x81x1_S1x16000x81
  let main_c_6 : IVec S_ 32 := constantI S_ 32 0#32
  let main_v19 : IVec S1x16000x81 32 := broadcastInDim S1x16000x81 ![] bcast_S_S1x16000x81 main_c_6
  let main_v20 : IVec S1x16000x81 1 := cmpi .eq main_v18 main_v19
  let main_v21 : FVec F S1x16000x81x1 .f32 := broadcastInDim S1x16000x81x1 ![0, 1, 2] bcast_S1x16000x81_S1x16000x81x1_0_1_2 main_v14
  let main_v22 : FVec F S1x16000x81x1 .f32 := broadcastInDim S1x16000x81x1 ![0, 1, 2] bcast_S1x16000x81_S1x16000x81x1_0_1_2 main_arg1
  let main_v23 : FVec F S1x16000x81x2 .f32 := (fun a b => concatenate S1x16000x81x2 3 [⟨S1x16000x81x1, a⟩, ⟨S1x16000x81x1, b⟩] concatenates_S1x16000x81x1_S1x16000x81x1_S1x16000x81x2_d3) main_v21 main_v22
  let main_values_7 : FVec F S1x16000x81x1 .f32 := (fun x => (Host.topK S1x16000x81x1 3 (FloatOps.cmpfTotal .gt) x sliceFits_S1x16000x81x2_S1x16000x81x1).1) main_v23
  let main_indices_8 : IVec S1x16000x81x1 32 := (fun x => (Host.topK S1x16000x81x1 3 (FloatOps.cmpfTotal .gt) x sliceFits_S1x16000x81x2_S1x16000x81x1).2) main_v23
  let main_v24 : IVec S1x16000x81 32 := shapeCast S1x16000x81 main_indices_8 shapeCasts_S1x16000x81x1_S1x16000x81
  let main_c_9 : IVec S_ 32 := constantI S_ 32 0#32
  let main_v25 : IVec S1x16000x81 32 := broadcastInDim S1x16000x81 ![] bcast_S_S1x16000x81 main_c_9
  let main_v26 : IVec S1x16000x81 1 := cmpi .eq main_v24 main_v25
  let main_v27 : IVec S1x16000x81 1 := andi main_v20 main_v26
  let main_v28 : IVec S1x16000x81 1 := ori main_v13 main_v27
  let main_v29 : IVec S1x16000x81 32 := (extui 32 · natLt_1_32) main_v13
  let main_c_10 : IVec S_ 32 := constantI S_ 32 0#32
  let main_v30 : IVec S1x16000 32 := (fun x v => Host.reduce IntOp.addi x v reducesTo_S1x16000x81_S1x16000_d2 h_S_) main_v29 main_c_10
  let main_v31 : IVec S1x16000x1 32 := broadcastInDim S1x16000x1 ![0, 1] bcast_S1x16000_S1x16000x1_0_1 main_v30
  let main_c_11 : IVec S_ 32 := constantI S_ 32 1#32
  fn_part2 (F := F) main_v28 main_v31 main_c_11

def fn {F : FTy → Type} [FloatOps F] (main_arg0 : FVec F S1x16000x324 .f32) (main_arg1 : FVec F S1x16000x81 .f32) (main_arg2 : FVec F S1x16000x324 .f32) (main_arg3 : FVec F S1x16000x81 .f32) : IVec S1x16000x81 1 :=
  let main_cst : FVec F S_ .f32 := constant S_ .f32 0x3F800000#32
  let main_v0 : FVec F S1x16000x81 .f32 := broadcastInDim S1x16000x81 ![] bcast_S_S1x16000x81 main_cst
  let main_v1 : FVec F S1x16000x81x1 .f32 := broadcastInDim S1x16000x81x1 ![0, 1, 2] bcast_S1x16000x81_S1x16000x81x1_0_1_2 main_arg1
  let main_v2 : FVec F S1x16000x81x1 .f32 := broadcastInDim S1x16000x81x1 ![0, 1, 2] bcast_S1x16000x81_S1x16000x81x1_0_1_2 main_v0
  let main_v3 : FVec F S1x16000x81x2 .f32 := (fun a b => concatenate S1x16000x81x2 3 [⟨S1x16000x81x1, a⟩, ⟨S1x16000x81x1, b⟩] concatenates_S1x16000x81x1_S1x16000x81x1_S1x16000x81x2_d3) main_v1 main_v2
  let main_values : FVec F S1x16000x81x1 .f32 := (fun x => (Host.topK S1x16000x81x1 3 (FloatOps.cmpfTotal .gt) x sliceFits_S1x16000x81x2_S1x16000x81x1).1) main_v3
  let main_indices : IVec S1x16000x81x1 32 := (fun x => (Host.topK S1x16000x81x1 3 (FloatOps.cmpfTotal .gt) x sliceFits_S1x16000x81x2_S1x16000x81x1).2) main_v3
  let main_v4 : IVec S1x16000x81 32 := shapeCast S1x16000x81 main_indices shapeCasts_S1x16000x81x1_S1x16000x81
  let main_c : IVec S_ 32 := constantI S_ 32 0#32
  let main_v5 : IVec S1x16000x81 32 := broadcastInDim S1x16000x81 ![] bcast_S_S1x16000x81 main_c
  let main_v6 : IVec S1x16000x81 1 := cmpi .eq main_v4 main_v5
  let main_v7 : FVec F S1x16000x81x1 .f32 := broadcastInDim S1x16000x81x1 ![0, 1, 2] bcast_S1x16000x81_S1x16000x81x1_0_1_2 main_v0
  let main_v8 : FVec F S1x16000x81x1 .f32 := broadcastInDim S1x16000x81x1 ![0, 1, 2] bcast_S1x16000x81_S1x16000x81x1_0_1_2 main_arg1
  let main_v9 : FVec F S1x16000x81x2 .f32 := (fun a b => concatenate S1x16000x81x2 3 [⟨S1x16000x81x1, a⟩, ⟨S1x16000x81x1, b⟩] concatenates_S1x16000x81x1_S1x16000x81x1_S1x16000x81x2_d3) main_v7 main_v8
  let main_values_0 : FVec F S1x16000x81x1 .f32 := (fun x => (Host.topK S1x16000x81x1 3 (FloatOps.cmpfTotal .gt) x sliceFits_S1x16000x81x2_S1x16000x81x1).1) main_v9
  let main_indices_1 : IVec S1x16000x81x1 32 := (fun x => (Host.topK S1x16000x81x1 3 (FloatOps.cmpfTotal .gt) x sliceFits_S1x16000x81x2_S1x16000x81x1).2) main_v9
  let main_v10 : IVec S1x16000x81 32 := shapeCast S1x16000x81 main_indices_1 shapeCasts_S1x16000x81x1_S1x16000x81
  let main_c_2 : IVec S_ 32 := constantI S_ 32 0#32
  let main_v11 : IVec S1x16000x81 32 := broadcastInDim S1x16000x81 ![] bcast_S_S1x16000x81 main_c_2
  let main_v12 : IVec S1x16000x81 1 := cmpi .eq main_v10 main_v11
  let main_v13 : IVec S1x16000x81 1 := andi main_v6 main_v12
  let main_cst_3 : FVec F S_ .f32 := constant S_ .f32 0x00000000#32
  let main_v14 : FVec F S1x16000x81 .f32 := broadcastInDim S1x16000x81 ![] bcast_S_S1x16000x81 main_cst_3
  let main_v15 : FVec F S1x16000x81x1 .f32 := broadcastInDim S1x16000x81x1 ![0, 1, 2] bcast_S1x16000x81_S1x16000x81x1_0_1_2 main_arg1
  fn_part1 (F := F) main_arg1 main_v13 main_v14 main_v15
-- ==== Kernel.lean ====
abbrev S1x16000x324 : Shape := ⟨3, ![1, 16000, 324]⟩
abbrev S1x16000x81 : Shape := ⟨3, ![1, 16000, 81]⟩
abbrev S16000x81 : Shape := ⟨2, ![16000, 81]⟩
abbrev S16384 : Shape := ⟨1, ![16384]⟩
abbrev S1x128 : Shape := ⟨2, ![1, 128]⟩
abbrev S1x16 : Shape := ⟨2, ![1, 16]⟩
abbrev S128 : Shape := ⟨1, ![128]⟩
abbrev S640x81 : Shape := ⟨2, ![640, 81]⟩
abbrev S640 : Shape := ⟨1, ![640]⟩
abbrev S1x81 : Shape := ⟨2, ![1, 81]⟩
abbrev S81 : Shape := ⟨1, ![81]⟩
abbrev S384 : Shape := ⟨1, ![384]⟩
abbrev S1x1x128 : Shape := ⟨3, ![1, 1, 128]⟩
abbrev S1 : Shape := ⟨1, ![1]⟩
abbrev S1x1x1 : Shape := ⟨3, ![1, 1, 1]⟩
abbrev S1x1 : Shape := ⟨2, ![1, 1]⟩
abbrev S16000x324 : Shape := ⟨2, ![16000, 324]⟩
abbrev S640x324 : Shape := ⟨2, ![640, 324]⟩
abbrev S81x324 : Shape := ⟨2, ![81, 324]⟩
abbrev S1x324 : Shape := ⟨2, ![1, 324]⟩
abbrev S1x640x324 : Shape := ⟨3, ![1, 640, 324]⟩
abbrev S32x16 : Shape := ⟨2, ![32, 16]⟩
abbrev S512 : Shape := ⟨1, ![512]⟩
abbrev S16 : Shape := ⟨1, ![16]⟩
abbrev S_ : Shape := ⟨0, ![]⟩

abbrev nBuf : Table → Nat
  | .hbm => 20
  | .local .tc .vmem => 19
  | .local .tc .smem => 2
  | .local .scVector .vmem => 4
  | _ => 0

abbrev bufTy : (tb : Table) → Fin (nBuf tb) → BufTy
  | .hbm, ⟨0, _⟩ => ⟨S1x16000x324, .f32⟩
  | .hbm, ⟨1, _⟩ => ⟨S1x16000x81, .f32⟩
  | .hbm, ⟨2, _⟩ => ⟨S1x16000x324, .f32⟩
  | .hbm, ⟨3, _⟩ => ⟨S1x16000x81, .f32⟩
  | .hbm, ⟨4, _⟩ => ⟨S16000x81, .f32⟩
  | .hbm, ⟨5, _⟩ => ⟨S16000x81, .f32⟩
  | .hbm, ⟨6, _⟩ => ⟨S16384, .f32⟩
  | .hbm, ⟨7, _⟩ => ⟨S16384, .i32⟩
  | .hbm, ⟨8, _⟩ => ⟨S1x128, .f32⟩
  | .hbm, ⟨9, _⟩ => ⟨S1x128, .f32⟩
  | .hbm, ⟨10, _⟩ => ⟨S1x16, .f32⟩
  | .hbm, ⟨11, _⟩ => ⟨S128, .f32⟩
  | .hbm, ⟨12, _⟩ => ⟨S16000x324, .f32⟩
  | .hbm, ⟨13, _⟩ => ⟨S16000x324, .f32⟩
  | .hbm, ⟨14, _⟩ => ⟨S1x1, .f32⟩
  | .hbm, ⟨15, _⟩ => ⟨S32x16, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local .tc .vmem, ⟨0, _⟩ => ⟨S640x81, .f32⟩
  | .local .tc .vmem, ⟨1, _⟩ => ⟨S640x81, .f32⟩
  | .local .tc .vmem, ⟨2, _⟩ => ⟨S640x81, .f32⟩
  | .local .tc .vmem, ⟨3, _⟩ => ⟨S640x81, .f32⟩
  | .local .tc .vmem, ⟨4, _⟩ => ⟨S16384, .f32⟩
  | .local .tc .vmem, ⟨5, _⟩ => ⟨S16384, .i32⟩
  | .local .tc .vmem, ⟨6, _⟩ => ⟨S1x128, .f32⟩
  | .local .tc .vmem, ⟨7, _⟩ => ⟨S1x128, .f32⟩
  | .local .tc .vmem, ⟨8, _⟩ => ⟨S1x16, .f32⟩
  | .local .tc .vmem, ⟨9, _⟩ => ⟨S128, .f32⟩
  | .local .tc .vmem, ⟨10, _⟩ => ⟨S1x128, .f32⟩
  | .local .tc .vmem, ⟨11, _⟩ => ⟨S640x324, .f32⟩
  | .local .tc .vmem, ⟨12, _⟩ => ⟨S640x324, .f32⟩
  | .local .tc .vmem, ⟨13, _⟩ => ⟨S640x324, .f32⟩
  | .local .tc .vmem, ⟨14, _⟩ => ⟨S640x324, .f32⟩
  | .local .tc .vmem, ⟨15, _⟩ => ⟨S640x81, .f32⟩
  | .local .tc .vmem, ⟨16, _⟩ => ⟨S640x81, .f32⟩
  | .local .tc .vmem, ⟨17, _⟩ => ⟨S1x128, .f32⟩
  | .local .tc .vmem, ⟨18, _⟩ => ⟨S1x16, .f32⟩
  | .local .tc .smem, ⟨0, _⟩ => ⟨S1x1, .f32⟩
  | .local .tc .smem, ⟨1, _⟩ => ⟨S1x1, .f32⟩
  | .local .scVector .vmem, ⟨0, _⟩ => ⟨S512, .i32⟩
  | .local .scVector .vmem, ⟨1, _⟩ => ⟨S512, .f32⟩
  | .local .scVector .vmem, ⟨2, _⟩ => ⟨S128, .f32⟩
  | .local .scVector .vmem, ⟨3, _⟩ => ⟨S16, .f32⟩
  | _, _ => ⟨S1x16000x324, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => false
  | ⟨20, _⟩ => false
  | ⟨21, _⟩ => false
  | ⟨22, _⟩ => false
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v2_1_scv : Ref sig .scVector := ⟨.hbm, 7, rfl⟩
abbrev main_v2_0_scv : Ref sig .scVector := ⟨.hbm, 6, rfl⟩
abbrev main_v2_5_scv : Ref sig .scVector := ⟨.hbm, 11, rfl⟩
abbrev main_v6_scv : Ref sig .scVector := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.smem, 0, rfl⟩
abbrev cc1_scratch0 : Ref sig .tc := ⟨.smem, 1, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![25], ![false]⟩

def k0_off1 (i : grid0.Coords) : Fin 1 → Nat :=
  let arg0 : BitVec 32 := BitVec.ofNat 32 (i 0).val
  let c640_i32 : BitVec 32 := 640#32
  let v12 : BitVec 32 := Scalar.muli arg0 c640_i32
  let v13 : Index := Scalar.indexCast v12
  ![v13.toNat]
def k0_cond2 (i : grid0.Coords) : BitVec 1 :=
  let arg0 : BitVec 32 := BitVec.ofNat 32 (i 0).val
  let c24_i32 : BitVec 32 := 24#32
  let v36 : BitVec 1 := Scalar.cmpi .eq arg0 c24_i32
  let v37 : BitVec 32 := Scalar.extui v36
  let c0_i32_15 : BitVec 32 := 0#32
  let v38 : BitVec 1 := Scalar.cmpi .ne v37 c0_i32_15
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S640x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x81 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16384 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v41 : BitVec 1 := Scalar.cmpi .eq arg0 c24_i32
  let v42 : BitVec 32 := Scalar.extui v41
  let c0_i32_17 : BitVec 32 := 0#32
  let v43 : BitVec 1 := Scalar.cmpi .ne v42 c0_i32_17
  v43

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S640x324 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S640x324 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S640x81 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .smem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]

def k2_chk1 (v4 : IVec S16 32) : Prop :=
  (∀ a x, ((![v4] : Fin 1 → IVec S16 32) a x).toNat < S128.size a)
theorem k2_idx1_inb : ∀ (v4 : IVec S16 32) (k2_hw1 : k2_chk1 v4), ∀ a x, ((![v4] : Fin 1 → IVec S16 32) a x).toNat < S128.size a := fun v4 k2_hw1 => k2_hw1

def k2_chk2 (v9 : IVec S16 32) : Prop :=
  (∀ a x, ((![v9] : Fin 1 → IVec S16 32) a x).toNat < S128.size a)
theorem k2_idx2_inb : ∀ (v9 : IVec S16 32) (k2_hw2 : k2_chk2 v9), ∀ a x, ((![v9] : Fin 1 → IVec S16 32) a x).toNat < S128.size a := fun v9 k2_hw2 => k2_hw2

def k2_chk3 (v14 : IVec S16 32) : Prop :=
  (∀ a x, ((![v14] : Fin 1 → IVec S16 32) a x).toNat < S128.size a)
theorem k2_idx3_inb : ∀ (v14 : IVec S16 32) (k2_hw3 : k2_chk3 v14), ∀ a x, ((![v14] : Fin 1 → IVec S16 32) a x).toNat < S128.size a := fun v14 k2_hw3 => k2_hw3

def k2_chk4 (v19 : IVec S16 32) : Prop :=
  (∀ a x, ((![v19] : Fin 1 → IVec S16 32) a x).toNat < S128.size a)
theorem k2_idx4_inb : ∀ (v19 : IVec S16 32) (k2_hw4 : k2_chk4 v19), ∀ a x, ((![v19] : Fin 1 → IVec S16 32) a x).toNat < S128.size a := fun v19 k2_hw4 => k2_hw4

def k2_chk5 (v24 : IVec S16 32) : Prop :=
  (∀ a x, ((![v24] : Fin 1 → IVec S16 32) a x).toNat < S128.size a)
theorem k2_idx5_inb : ∀ (v24 : IVec S16 32) (k2_hw5 : k2_chk5 v24), ∀ a x, ((![v24] : Fin 1 → IVec S16 32) a x).toNat < S128.size a := fun v24 k2_hw5 => k2_hw5

def k2_chk6 (v29 : IVec S16 32) : Prop :=
  (∀ a x, ((![v29] : Fin 1 → IVec S16 32) a x).toNat < S128.size a)
theorem k2_idx6_inb : ∀ (v29 : IVec S16 32) (k2_hw6 : k2_chk6 v29), ∀ a x, ((![v29] : Fin 1 → IVec S16 32) a x).toNat < S128.size a := fun v29 k2_hw6 => k2_hw6

def k2_chk7 (v34 : IVec S16 32) : Prop :=
  (∀ a x, ((![v34] : Fin 1 → IVec S16 32) a x).toNat < S128.size a)
theorem k2_idx7_inb : ∀ (v34 : IVec S16 32) (k2_hw7 : k2_chk7 v34), ∀ a x, ((![v34] : Fin 1 → IVec S16 32) a x).toNat < S128.size a := fun v34 k2_hw7 => k2_hw7

def k2_chk8 (v39 : IVec S16 32) : Prop :=
  (∀ a x, ((![v39] : Fin 1 → IVec S16 32) a x).toNat < S128.size a)
theorem k2_idx8_inb : ∀ (v39 : IVec S16 32) (k2_hw8 : k2_chk8 v39), ∀ a x, ((![v39] : Fin 1 → IVec S16 32) a x).toNat < S128.size a := fun v39 k2_hw8 => k2_hw8

def k2_chk9 (v44 : IVec S16 32) : Prop :=
  (∀ a x, ((![v44] : Fin 1 → IVec S16 32) a x).toNat < S128.size a)
theorem k2_idx9_inb : ∀ (v44 : IVec S16 32) (k2_hw9 : k2_chk9 v44), ∀ a x, ((![v44] : Fin 1 → IVec S16 32) a x).toNat < S128.size a := fun v44 k2_hw9 => k2_hw9

def k2_chk10 (v49 : IVec S16 32) : Prop :=
  (∀ a x, ((![v49] : Fin 1 → IVec S16 32) a x).toNat < S128.size a)
theorem k2_idx10_inb : ∀ (v49 : IVec S16 32) (k2_hw10 : k2_chk10 v49), ∀ a x, ((![v49] : Fin 1 → IVec S16 32) a x).toNat < S128.size a := fun v49 k2_hw10 => k2_hw10

def k2_chk11 (v54 : IVec S16 32) : Prop :=
  (∀ a x, ((![v54] : Fin 1 → IVec S16 32) a x).toNat < S128.size a)
theorem k2_idx11_inb : ∀ (v54 : IVec S16 32) (k2_hw11 : k2_chk11 v54), ∀ a x, ((![v54] : Fin 1 → IVec S16 32) a x).toNat < S128.size a := fun v54 k2_hw11 => k2_hw11

def k2_chk12 (v59 : IVec S16 32) : Prop :=
  (∀ a x, ((![v59] : Fin 1 → IVec S16 32) a x).toNat < S128.size a)
theorem k2_idx12_inb : ∀ (v59 : IVec S16 32) (k2_hw12 : k2_chk12 v59), ∀ a x, ((![v59] : Fin 1 → IVec S16 32) a x).toNat < S128.size a := fun v59 k2_hw12 => k2_hw12

def k2_chk13 (v64 : IVec S16 32) : Prop :=
  (∀ a x, ((![v64] : Fin 1 → IVec S16 32) a x).toNat < S128.size a)
theorem k2_idx13_inb : ∀ (v64 : IVec S16 32) (k2_hw13 : k2_chk13 v64), ∀ a x, ((![v64] : Fin 1 → IVec S16 32) a x).toNat < S128.size a := fun v64 k2_hw13 => k2_hw13

def k2_chk14 (v69 : IVec S16 32) : Prop :=
  (∀ a x, ((![v69] : Fin 1 → IVec S16 32) a x).toNat < S128.size a)
theorem k2_idx14_inb : ∀ (v69 : IVec S16 32) (k2_hw14 : k2_chk14 v69), ∀ a x, ((![v69] : Fin 1 → IVec S16 32) a x).toNat < S128.size a := fun v69 k2_hw14 => k2_hw14

def k2_chk15 (v74 : IVec S16 32) : Prop :=
  (∀ a x, ((![v74] : Fin 1 → IVec S16 32) a x).toNat < S128.size a)
theorem k2_idx15_inb : ∀ (v74 : IVec S16 32) (k2_hw15 : k2_chk15 v74), ∀ a x, ((![v74] : Fin 1 → IVec S16 32) a x).toNat < S128.size a := fun v74 k2_hw15 => k2_hw15

def k2_chk16 (v79 : IVec S16 32) : Prop :=
  (∀ a x, ((![v79] : Fin 1 → IVec S16 32) a x).toNat < S128.size a)
theorem k2_idx16_inb : ∀ (v79 : IVec S16 32) (k2_hw16 : k2_chk16 v79), ∀ a x, ((![v79] : Fin 1 → IVec S16 32) a x).toNat < S128.size a := fun v79 k2_hw16 => k2_hw16

def k2_chk17 (v84 : IVec S16 32) : Prop :=
  (∀ a x, ((![v84] : Fin 1 → IVec S16 32) a x).toNat < S128.size a)
theorem k2_idx17_inb : ∀ (v84 : IVec S16 32) (k2_hw17 : k2_chk17 v84), ∀ a x, ((![v84] : Fin 1 → IVec S16 32) a x).toNat < S128.size a := fun v84 k2_hw17 => k2_hw17

def k2_chk18 (v89 : IVec S16 32) : Prop :=
  (∀ a x, ((![v89] : Fin 1 → IVec S16 32) a x).toNat < S128.size a)
theorem k2_idx18_inb : ∀ (v89 : IVec S16 32) (k2_hw18 : k2_chk18 v89), ∀ a x, ((![v89] : Fin 1 → IVec S16 32) a x).toNat < S128.size a := fun v89 k2_hw18 => k2_hw18

def k2_chk19 (v94 : IVec S16 32) : Prop :=
  (∀ a x, ((![v94] : Fin 1 → IVec S16 32) a x).toNat < S128.size a)
theorem k2_idx19_inb : ∀ (v94 : IVec S16 32) (k2_hw19 : k2_chk19 v94), ∀ a x, ((![v94] : Fin 1 → IVec S16 32) a x).toNat < S128.size a := fun v94 k2_hw19 => k2_hw19

def k2_chk20 (v99 : IVec S16 32) : Prop :=
  (∀ a x, ((![v99] : Fin 1 → IVec S16 32) a x).toNat < S128.size a)
theorem k2_idx20_inb : ∀ (v99 : IVec S16 32) (k2_hw20 : k2_chk20 v99), ∀ a x, ((![v99] : Fin 1 → IVec S16 32) a x).toNat < S128.size a := fun v99 k2_hw20 => k2_hw20

def k2_chk21 (v104 : IVec S16 32) : Prop :=
  (∀ a x, ((![v104] : Fin 1 → IVec S16 32) a x).toNat < S128.size a)
theorem k2_idx21_inb : ∀ (v104 : IVec S16 32) (k2_hw21 : k2_chk21 v104), ∀ a x, ((![v104] : Fin 1 → IVec S16 32) a x).toNat < S128.size a := fun v104 k2_hw21 => k2_hw21

def k2_chk22 (v109 : IVec S16 32) : Prop :=
  (∀ a x, ((![v109] : Fin 1 → IVec S16 32) a x).toNat < S128.size a)
theorem k2_idx22_inb : ∀ (v109 : IVec S16 32) (k2_hw22 : k2_chk22 v109), ∀ a x, ((![v109] : Fin 1 → IVec S16 32) a x).toNat < S128.size a := fun v109 k2_hw22 => k2_hw22

def k2_chk23 (v114 : IVec S16 32) : Prop :=
  (∀ a x, ((![v114] : Fin 1 → IVec S16 32) a x).toNat < S128.size a)
theorem k2_idx23_inb : ∀ (v114 : IVec S16 32) (k2_hw23 : k2_chk23 v114), ∀ a x, ((![v114] : Fin 1 → IVec S16 32) a x).toNat < S128.size a := fun v114 k2_hw23 => k2_hw23

def k2_chk24 (v119 : IVec S16 32) : Prop :=
  (∀ a x, ((![v119] : Fin 1 → IVec S16 32) a x).toNat < S128.size a)
theorem k2_idx24_inb : ∀ (v119 : IVec S16 32) (k2_hw24 : k2_chk24 v119), ∀ a x, ((![v119] : Fin 1 → IVec S16 32) a x).toNat < S128.size a := fun v119 k2_hw24 => k2_hw24

def k2_chk25 (v124 : IVec S16 32) : Prop :=
  (∀ a x, ((![v124] : Fin 1 → IVec S16 32) a x).toNat < S128.size a)
theorem k2_idx25_inb : ∀ (v124 : IVec S16 32) (k2_hw25 : k2_chk25 v124), ∀ a x, ((![v124] : Fin 1 → IVec S16 32) a x).toNat < S128.size a := fun v124 k2_hw25 => k2_hw25

def k2_chk26 (v129 : IVec S16 32) : Prop :=
  (∀ a x, ((![v129] : Fin 1 → IVec S16 32) a x).toNat < S128.size a)
theorem k2_idx26_inb : ∀ (v129 : IVec S16 32) (k2_hw26 : k2_chk26 v129), ∀ a x, ((![v129] : Fin 1 → IVec S16 32) a x).toNat < S128.size a := fun v129 k2_hw26 => k2_hw26

def k2_chk27 (v134 : IVec S16 32) : Prop :=
  (∀ a x, ((![v134] : Fin 1 → IVec S16 32) a x).toNat < S128.size a)
theorem k2_idx27_inb : ∀ (v134 : IVec S16 32) (k2_hw27 : k2_chk27 v134), ∀ a x, ((![v134] : Fin 1 → IVec S16 32) a x).toNat < S128.size a := fun v134 k2_hw27 => k2_hw27

def k2_chk28 (v139 : IVec S16 32) : Prop :=
  (∀ a x, ((![v139] : Fin 1 → IVec S16 32) a x).toNat < S128.size a)
theorem k2_idx28_inb : ∀ (v139 : IVec S16 32) (k2_hw28 : k2_chk28 v139), ∀ a x, ((![v139] : Fin 1 → IVec S16 32) a x).toNat < S128.size a := fun v139 k2_hw28 => k2_hw28

def k2_chk29 (v144 : IVec S16 32) : Prop :=
  (∀ a x, ((![v144] : Fin 1 → IVec S16 32) a x).toNat < S128.size a)
theorem k2_idx29_inb : ∀ (v144 : IVec S16 32) (k2_hw29 : k2_chk29 v144), ∀ a x, ((![v144] : Fin 1 → IVec S16 32) a x).toNat < S128.size a := fun v144 k2_hw29 => k2_hw29

def k2_chk30 (v149 : IVec S16 32) : Prop :=
  (∀ a x, ((![v149] : Fin 1 → IVec S16 32) a x).toNat < S128.size a)
theorem k2_idx30_inb : ∀ (v149 : IVec S16 32) (k2_hw30 : k2_chk30 v149), ∀ a x, ((![v149] : Fin 1 → IVec S16 32) a x).toNat < S128.size a := fun v149 k2_hw30 => k2_hw30

def k2_chk31 (v154 : IVec S16 32) : Prop :=
  (∀ a x, ((![v154] : Fin 1 → IVec S16 32) a x).toNat < S128.size a)
theorem k2_idx31_inb : ∀ (v154 : IVec S16 32) (k2_hw31 : k2_chk31 v154), ∀ a x, ((![v154] : Fin 1 → IVec S16 32) a x).toNat < S128.size a := fun v154 k2_hw31 => k2_hw31

def k2_chk32 (v159 : IVec S16 32) : Prop :=
  (∀ a x, ((![v159] : Fin 1 → IVec S16 32) a x).toNat < S128.size a)
theorem k2_idx32_inb : ∀ (v159 : IVec S16 32) (k2_hw32 : k2_chk32 v159), ∀ a x, ((![v159] : Fin 1 → IVec S16 32) a x).toNat < S128.size a := fun v159 k2_hw32 => k2_hw32
def k2_off2 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_r3 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_n" => some ((1 / 16000 : ℝ) : EReal)
  | _ => none
-- ==== ReferenceIdeal.lean ====
abbrev S1x16000x324 : Shape := ⟨3, ![1, 16000, 324]⟩
abbrev S1x16000x81 : Shape := ⟨3, ![1, 16000, 81]⟩
abbrev S_ : Shape := ⟨0, ![]⟩
abbrev S1x81 : Shape := ⟨2, ![1, 81]⟩
abbrev S1x1x81 : Shape := ⟨3, ![1, 1, 81]⟩
abbrev S1x16000 : Shape := ⟨2, ![1, 16000]⟩
abbrev S16000x81 : Shape := ⟨2, ![16000, 81]⟩
abbrev S16000 : Shape := ⟨1, ![16000]⟩
abbrev S16000x1 : Shape := ⟨2, ![16000, 1]⟩
abbrev S1x16000x320 : Shape := ⟨3, ![1, 16000, 320]⟩
abbrev S1x16000x80 : Shape := ⟨3, ![1, 16000, 80]⟩
abbrev S1x80 : Shape := ⟨2, ![1, 80]⟩
abbrev S1x1x80 : Shape := ⟨3, ![1, 1, 80]⟩
abbrev S1x16000x80x4 : Shape := ⟨4, ![1, 16000, 80, 4]⟩
abbrev S1x16000x1 : Shape := ⟨3, ![1, 16000, 1]⟩

abbrev nBuf : Space → Nat
  | .hbm => 109
  | .vmem => 0
  | .smem => 0
  | _ => 0

abbrev bufTy : (tb : Table) → Fin (tcTables nBuf tb) → BufTy
  | .hbm, ⟨0, _⟩ => ⟨S1x16000x324, .f32⟩
  | .hbm, ⟨1, _⟩ => ⟨S1x16000x81, .f32⟩
  | .hbm, ⟨2, _⟩ => ⟨S1x16000x324, .f32⟩
  | .hbm, ⟨3, _⟩ => ⟨S1x16000x81, .f32⟩
  | .hbm, ⟨4, _⟩ => ⟨S_, .f32⟩
  | .hbm, ⟨5, _⟩ => ⟨S1x81, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1x81, .f32⟩
  | .hbm, ⟨10, _⟩ => ⟨S1x81, .f32⟩
  | .hbm, ⟨11, _⟩ => ⟨S1x81, .f32⟩
  | .hbm, ⟨12, _⟩ => ⟨S1x81, .f32⟩
  | .hbm, ⟨13, _⟩ => ⟨S1x81, .f32⟩
  | .hbm, ⟨14, _⟩ => ⟨S1x81, .f32⟩
  | .hbm, ⟨15, _⟩ => ⟨S_, .f32⟩
  | .hbm, ⟨16, _⟩ => ⟨S1x81, .f32⟩
  | .hbm, ⟨17, _⟩ => ⟨S1x81, .f32⟩
  | .hbm, ⟨18, _⟩ => ⟨S_, .f32⟩
  | .hbm, ⟨19, _⟩ => ⟨S1x81, .f32⟩
  | .hbm, ⟨20, _⟩ => ⟨S1x81, .f32⟩
  | .hbm, ⟨21, _⟩ => ⟨S1x1x81, .f32⟩
  | .hbm, ⟨22, _⟩ => ⟨S1x16000x81, .f32⟩
  | .hbm, ⟨23, _⟩ => ⟨S1x16000x81, .f32⟩
  | .hbm, ⟨24, _⟩ => ⟨S_, .f32⟩
  | .hbm, ⟨25, _⟩ => ⟨S1x16000, .f32⟩
  | .hbm, ⟨26, _⟩ => ⟨S16000x81, .f32⟩
  | .hbm, ⟨27, _⟩ => ⟨S16000x81, .f32⟩
  | .hbm, ⟨28, _⟩ => ⟨S16000, .f32⟩
  | .hbm, ⟨29, _⟩ => ⟨S_, .f32⟩
  | .hbm, ⟨30, _⟩ => ⟨S16000, .f32⟩
  | .hbm, ⟨31, _⟩ => ⟨S16000x1, .f32⟩
  | .hbm, ⟨32, _⟩ => ⟨S16000x81, .f32⟩
  | .hbm, ⟨33, _⟩ => ⟨S16000x81, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S16000x81, .f32⟩
  | .hbm, ⟨38, _⟩ => ⟨S16000x81, .f32⟩
  | .hbm, ⟨39, _⟩ => ⟨S_, .f32⟩
  | .hbm, ⟨40, _⟩ => ⟨S16000x81, .f32⟩
  | .hbm, ⟨41, _⟩ => ⟨S16000x81, .f32⟩
  | .hbm, ⟨42, _⟩ => ⟨S16000x81, .f32⟩
  | .hbm, ⟨43, _⟩ => ⟨S16000x81, .f32⟩
  | .hbm, ⟨44, _⟩ => ⟨S_, .f32⟩
  | .hbm, ⟨45, _⟩ => ⟨S16000, .f32⟩
  | .hbm, ⟨46, _⟩ => ⟨S16000, .f32⟩
  | .hbm, ⟨47, _⟩ => ⟨S16000, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S1x16000x320, .f32⟩
  | .hbm, ⟨53, _⟩ => ⟨S1x16000x320, .f32⟩
  | .hbm, ⟨54, _⟩ => ⟨S1x16000x80, .f32⟩
  | .hbm, ⟨55, _⟩ => ⟨S_, .f32⟩
  | .hbm, ⟨56, _⟩ => ⟨S1x80, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S1x80, .f32⟩
  | .hbm, ⟨61, _⟩ => ⟨S1x80, .f32⟩
  | .hbm, ⟨62, _⟩ => ⟨S1x80, .f32⟩
  | .hbm, ⟨63, _⟩ => ⟨S1x80, .f32⟩
  | .hbm, ⟨64, _⟩ => ⟨S1x80, .f32⟩
  | .hbm, ⟨65, _⟩ => ⟨S1x80, .f32⟩
  | .hbm, ⟨66, _⟩ => ⟨S_, .f32⟩
  | .hbm, ⟨67, _⟩ => ⟨S1x80, .f32⟩
  | .hbm, ⟨68, _⟩ => ⟨S1x80, .f32⟩
  | .hbm, ⟨69, _⟩ => ⟨S_, .f32⟩
  | .hbm, ⟨70, _⟩ => ⟨S1x80, .f32⟩
  | .hbm, ⟨71, _⟩ => ⟨S1x80, .f32⟩
  | .hbm, ⟨72, _⟩ => ⟨S1x1x80, .f32⟩
  | .hbm, ⟨73, _⟩ => ⟨S1x16000x80, .f32⟩
  | .hbm, ⟨74, _⟩ => ⟨S1x16000x80, .f32⟩
  | .hbm, ⟨75, _⟩ => ⟨S_, .f32⟩
  | .hbm, ⟨76, _⟩ => ⟨S1x16000, .f32⟩
  | .hbm, ⟨77, _⟩ => ⟨S_, .f32⟩
  | .hbm, ⟨78, _⟩ => ⟨S1x16000x80, .f32⟩
  | .hbm, ⟨79, _⟩ => ⟨S1x16000x80, .i1⟩
  | .hbm, ⟨80, _⟩ => ⟨S1x16000x80, .f32⟩
  | .hbm, ⟨81, _⟩ => ⟨S1x16000x80x4, .f32⟩
  | .hbm, ⟨82, _⟩ => ⟨S1x16000x320, .f32⟩
  | .hbm, ⟨83, _⟩ => ⟨S1x16000x1, .f32⟩
  | .hbm, ⟨84, _⟩ => ⟨S1x16000x320, .f32⟩
  | .hbm, ⟨85, _⟩ => ⟨S1x16000x320, .f32⟩
  | .hbm, ⟨86, _⟩ => ⟨S1x16000x320, .f32⟩
  | .hbm, ⟨87, _⟩ => ⟨S1x16000x320, .f32⟩
  | .hbm, ⟨88, _⟩ => ⟨S1x16000x320, .f32⟩
  | .hbm, ⟨89, _⟩ => ⟨S1x16000x320, .f32⟩
  | .hbm, ⟨90, _⟩ => ⟨S_, .f32⟩
  | .hbm, ⟨91, _⟩ => ⟨S1x16000x320, .f32⟩
  | .hbm, ⟨92, _⟩ => ⟨S1x16000x320, .i1⟩
  | .hbm, ⟨93, _⟩ => ⟨S1x16000x320, .f32⟩
  | .hbm, ⟨94, _⟩ => ⟨S_, .f32⟩
  | .hbm, ⟨95, _⟩ => ⟨S1x16000x320, .f32⟩
  | .hbm, ⟨96, _⟩ => ⟨S1x16000x320, .f32⟩
  | .hbm, ⟨97, _⟩ => ⟨S_, .f32⟩
  | .hbm, ⟨98, _⟩ => ⟨S1x16000x320, .f32⟩
  | .hbm, ⟨99, _⟩ => ⟨S1x16000x320, .f32⟩
  | .hbm, ⟨100, _⟩ => ⟨S1x16000x320, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | _, _ => ⟨S1x16000x324, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_cst_7 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_cst_10 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_11 : Ref sig .tc := ⟨.hbm, 55, rfl⟩
abbrev main_v34 : Ref sig .tc := ⟨.hbm, 56, rfl⟩
abbrev main_cst_12 : Ref sig .tc := ⟨.hbm, 57, rfl⟩
abbrev main_v35 : Ref sig .tc := ⟨.hbm, 58, rfl⟩
abbrev main_cst_13 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_14 : Ref sig .tc := ⟨.hbm, 66, rfl⟩
abbrev main_v42 : Ref sig .tc := ⟨.hbm, 67, rfl⟩
abbrev main_v43 : Ref sig .tc := ⟨.hbm, 68, rfl⟩
abbrev main_cst_15 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_16 : Ref sig .tc := ⟨.hbm, 75, rfl⟩
abbrev main_v49 : Ref sig .tc := ⟨.hbm, 76, rfl⟩
abbrev main_cst_17 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_18 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_19 : Ref sig .tc := ⟨.hbm, 94, rfl⟩
abbrev main_v65 : Ref sig .tc := ⟨.hbm, 95, rfl⟩
abbrev main_v66 : Ref sig .tc := ⟨.hbm, 96, rfl⟩
abbrev main_cst_20 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_21 : Ref sig .tc := ⟨.hbm, 101, rfl⟩
abbrev main_v70 : Ref sig .tc := ⟨.hbm, 102, rfl⟩
abbrev main_cst_22 : Ref sig .tc := ⟨.hbm, 103, rfl⟩
abbrev main_v71 : Ref sig .tc := ⟨.hbm, 104, rfl⟩
abbrev main_cst_23 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩

abbrev nD : Nat := 1
abbrev τ : Topo := Topo.v7x

variable {F : FTy → Type} [FloatOps F]
-- ==== Proof.Run.Base.lean ====
/-
  The program as the launch theorem sees it, and the resource algebra of the run: the handshakes' rounds, the two
  TensorCore pipelines' rounds, and the counters of the tiles' local copies, side by side.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

/-- The launch semaphores are distinct and not scoped, and no buffer of a SparseCore is shared by its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipelines' rounds. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

end Cert.Proof.Run

end
-- ==== Proof.Run.Tile.lean ====
/-
  One task of the SparseCore call: subcore `j` of core `c` fetches row `2 j + c` of the labels and of the negated
  logarithms, 512 words each, and the 128 weights, sums over 32 chunks of sixteen the weight of each label times its
  logarithm, and writes the sixteen sums, scaled, to its row of the output. Proved over any float values: what the row
  is left at is `outV`, computed lane by lane. The labels, the logarithms and the weights are any contents with every
  label below 128.
-/
module

public import proofs.«01_k».proof.Proof.Run.Base

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The arrays -/

abbrev labLoc (d : Dev nD) : Loc nD τ sig := (SparseCore.T d).loc main_v2_1
abbrev nlLoc (d : Dev nD) : Loc nD τ sig := (SparseCore.T d).loc main_v2_0
abbrev wLoc (d : Dev nD) : Loc nD τ sig := (SparseCore.T d).loc main_v2_5
abbrev oLoc (d : Dev nD) : Loc nD τ sig := (SparseCore.T d).loc main_v6

local notation "lV" => (Memref.whole Cert.KernelIdeal.main_v2_1_scv : Memref Cert.KernelIdeal.sig Kind.scVector Space.hbm Cert.KernelIdeal.S16384 EltTy.i32)
local notation "nV" => (Memref.whole Cert.KernelIdeal.main_v2_0_scv : Memref Cert.KernelIdeal.sig Kind.scVector Space.hbm Cert.KernelIdeal.S16384 EltTy.f32)
local notation "wV" => (Memref.whole Cert.KernelIdeal.main_v2_5_scv : Memref Cert.KernelIdeal.sig Kind.scVector Space.hbm Cert.KernelIdeal.S128 EltTy.f32)
local notation "oV" => (Memref.whole Cert.KernelIdeal.main_v6_scv : Memref Cert.KernelIdeal.sig Kind.scVector Space.hbm Cert.KernelIdeal.S32x16 EltTy.f32)
local notation "sL" => (Memref.whole Cert.KernelIdeal.cc2_scratch0 : Memref Cert.KernelIdeal.sig Kind.scVector Space.vmem Cert.KernelIdeal.S512 EltTy.i32)
local notation "sN" => (Memref.whole Cert.KernelIdeal.cc2_scratch1 : Memref Cert.KernelIdeal.sig Kind.scVector Space.vmem Cert.KernelIdeal.S512 EltTy.f32)
local notation "sW" => (Memref.whole Cert.KernelIdeal.cc2_scratch2 : Memref Cert.KernelIdeal.sig Kind.scVector Space.vmem Cert.KernelIdeal.S128 EltTy.f32)
local notation "sO" => (Memref.whole Cert.KernelIdeal.cc2_scratch3 : Memref Cert.KernelIdeal.sig Kind.scVector Space.vmem Cert.KernelIdeal.S16 EltTy.f32)

theorem ldiv : 32 ∣ S16384.size 0 := ⟨512, rfl⟩
theorem odiv : 32 ∣ S32x16.size 0 := ⟨1, rfl⟩
abbrev lrow (r : Fin 32) : Rect S16384 := Rect.part (s := S16384) (a₀ := 0) ldiv r
abbrev orow (r : Fin 32) : Rect S32x16 := Rect.part (s := S32x16) (a₀ := 0) odiv r
abbrev lRowSet (r : Fin 32) : Finset S16384.Idx := ((lV).view.slice (lrow r)).set
abbrev nRowSet (r : Fin 32) : Finset S16384.Idx := ((nV).view.slice (lrow r)).set
abbrev oRowSet (r : Fin 32) : Finset S32x16.Idx := ((oV).view.slice (orow r)).set

/-! ## What a task computes -/

/-- Entry `n` of an array of 16384 (of 128), `n` read modulo the extent. -/
def i1 (n : ℕ) : S16384.Idx := fun a => ⟨n % 16384, by match a with | 0 => exact Nat.mod_lt _ (by decide)⟩
def w1 (n : ℕ) : S128.Idx := fun a => ⟨n % 128, by match a with | 0 => exact Nat.mod_lt _ (by decide)⟩

/-- The sixteen labels, weights and logarithms that row `r` reads at offset `o`. -/
def Lb (lab : S16384.Idx → BitVec 32) (r o : ℕ) : IVec S16 32 := fun x => lab (i1 (512 * r + (o + (x 0).val)))
def Gw (lab : S16384.Idx → BitVec 32) (w : S128.Idx → F .f32) (r o : ℕ) : FVec F S16 .f32 := fun x => w (w1 (Lb lab r o x).toNat)
def Nn (nl : S16384.Idx → F .f32) (r o : ℕ) : FVec F S16 .f32 := fun x => nl (i1 (512 * r + (o + (x 0).val)))

section Val
variable [FloatOps F] [Named F]

/-- The running sum after `n` chunks. -/
def accN (lab : S16384.Idx → BitVec 32) (nl : S16384.Idx → F .f32) (w : S128.Idx → F .f32) (r : ℕ) : ℕ → FVec F S16 .f32
  | 0 => broadcast S16 (Scalar.ofBits .f32 0x00000000#32)
  | n + 1 => addf (accN lab nl w r n) (mulf (Nn nl r (16 * n)) (Gw lab w r (16 * n)))

/-- What row `r` is left at. -/
def rowV (lab : S16384.Idx → BitVec 32) (nl : S16384.Idx → F .f32) (w : S128.Idx → F .f32) (r : ℕ) : FVec F S16 .f32 :=
  mulf (accN lab nl w r 32) (broadcast S16 (Named.named κ "inv_n" 0x3883126F#32))

/-- The output array: row by row. -/
def outV (lab : S16384.Idx → BitVec 32) (nl : S16384.Idx → F .f32) (w : S128.Idx → F .f32) : S32x16.Idx → F .f32 :=
  fun j => rowV lab nl w (j 0).val (fun a => ⟨(j 1).val, by match a with | 0 => exact (j 1).isLt⟩)

end Val

variable (lab : (d : Dev nD) → Buf (Elt F) (labLoc d)) (nl : (d : Dev nD) → Buf (Elt F) (nlLoc d)) (w : (d : Dev nD) → Buf (Elt F) (wLoc d))
  (o₀ : (d : Dev nD) → Buf (Elt F) (oLoc d))

/-- What the proof asks of the labels: each below 128. -/
def LabOK : Prop := ∀ (d : Dev nD) (j : S16384.Idx), (lab d j : BitVec 32).toNat < 128

/-- Task `r`'s share of the weights. -/
abbrev wq (r : Fin 32) : PosShare TreeShare := Transfers.shareTok fullShare 32 r

abbrev lRowPts (d : Dev nD) (r : Fin 32) : sProp 𝕄 := labLoc d ↦[lRowSet r]{fullShare} lab d
abbrev nRowPts (d : Dev nD) (r : Fin 32) : sProp 𝕄 := nlLoc d ↦[nRowSet r]{fullShare} nl d
abbrev wShPts (d : Dev nD) (r : Fin 32) : sProp 𝕄 := wLoc d ↦{wq r} w d
abbrev oRowPts (d : Dev nD) (r : Fin 32) (f : Buf (Elt F) (oLoc d)) : sProp 𝕄 := oLoc d ↦[oRowSet r]{fullShare} f

/-- What task `r` is handed, and what it hands back. -/
abbrev goP (d : Dev nD) (r : Fin 32) : sProp 𝕄 :=
  iprop(lRowPts lab d r ∗ nRowPts nl d r ∗ wShPts w d r ∗ oRowPts d r (o₀ d))
abbrev tdP [FloatOps F] [Named F] (d : Dev nD) (r : Fin 32) : sProp 𝕄 :=
  iprop(lRowPts lab d r ∗ nRowPts nl d r ∗ wShPts w d r ∗ oRowPts d r (outV (lab d) (nl d) (w d)))

/-- The row of subcore `i` of core `c`. -/
def rowOf (c : Fin 2) (i : Fin 16) : Fin 32 := ⟨2 * i.val + c.val, by omega⟩

variable [FloatOps F] [Named F]

/-- The call's record: a core is handed its sixteen tasks' pieces, and hands them back. -/
def P : (K (F := F)).Pay (nD := nD) (Val := Elt F) (Name := ℕ) (U := UU) where
  st := fun q d c => match q with
    | 0 => bigSep Finset.univ fun i : Fin ((K (F := F)).nSub 0) => goP lab nl w o₀ d (rowOf (Fin.cast nCore_zero c) (Fin.cast nSub_zero i))
  dn := fun q d c => match q with
    | 0 => bigSep Finset.univ fun i : Fin ((K (F := F)).nSub 0) => tdP lab nl w d (rowOf (Fin.cast nCore_zero c) (Fin.cast nSub_zero i))
  go := fun q d c i => match q with | 0 => goP lab nl w o₀ d (rowOf (Fin.cast nCore_zero c) (Fin.cast nSub_zero i))
  td := fun q d c i => match q with | 0 => tdP lab nl w d (rowOf (Fin.cast nCore_zero c) (Fin.cast nSub_zero i))
  x := fun _ _ => iprop(emp)

instance P_storable : (P (F := F) lab nl w o₀).IsStorable where
  st q d c := match q with
    | 0 => (inferInstance : BI.Storable (upEmb : UEmb _ 𝕄)
        (bigSep Finset.univ fun i : Fin ((K (F := F)).nSub 0) => goP lab nl w o₀ d (rowOf (Fin.cast nCore_zero c) (Fin.cast nSub_zero i))))
  dn q d c := match q with
    | 0 => (inferInstance : BI.Storable (upEmb : UEmb _ 𝕄)
        (bigSep Finset.univ fun i : Fin ((K (F := F)).nSub 0) => tdP lab nl w d (rowOf (Fin.cast nCore_zero c) (Fin.cast nSub_zero i))))
  go q d c i := match q with
    | 0 => (inferInstance : BI.Storable (upEmb : UEmb _ 𝕄) (goP lab nl w o₀ d (rowOf (Fin.cast nCore_zero c) (Fin.cast nSub_zero i))))
  td q d c i := match q with
    | 0 => (inferInstance : BI.Storable (upEmb : UEmb _ 𝕄) (tdP lab nl w d (rowOf (Fin.cast nCore_zero c) (Fin.cast nSub_zero i))))

/-! ## The task -/

section Tile

variable (d : Dev nD) (L : grid2.Coords)

abbrev cV (L : grid2.Coords) : Fin τ.nSC := (L 0).castLE hcore2
abbrev jV (L : grid2.Coords) : Fin τ.nSub := (L 1).castLE hsub2
theorem bound_zero : grid2.bound 0 = 2 := rfl
theorem bound_one : grid2.bound 1 = 16 := rfl
/-- The row of the task at `L`. -/
abbrev rL (L : grid2.Coords) : Fin 32 := rowOf (Fin.cast bound_zero (L 0)) (Fin.cast bound_one (L 1))

theorem rL_val : (rL L).val = 2 * (L 1).val + (L 0).val := rfl

abbrev lrowK (L : grid2.Coords) : Rect S16384 := Rect.unit (s := S16384) (k2_off1 L) S512.size (k2_off1_inb L)
abbrev orowK (L : grid2.Coords) : Rect S32x16 := Rect.unit (s := S32x16) (k2_off2 L) S1x16.size (k2_off2_inb L)
abbrev lRowK (L : grid2.Coords) : Memref sig .scVector .hbm S512 .i32 := (lV).slice (lrowK L) (fun _ => rfl)
abbrev nRowK (L : grid2.Coords) : Memref sig .scVector .hbm S512 .f32 := (nV).slice (lrowK L) (fun _ => rfl)
abbrev oRowK (L : grid2.Coords) : Memref sig .scVector .hbm S16 .f32 := ((oV).slice (orowK L) (fun _ => rfl)).squeeze S16 squeezes_S1x16_S16

omit [FloatOps F] [Named F] in
theorem lrowK_eq : lrowK L = lrow (rL L) := by
  unfold lrowK lrow Rect.part Rect.block
  congr 1 <;> funext a
  · rw [k2_off1_eq]
    match a with
    | 0 => simp [Shape.partIx, Shape.partSize]; rw [rL_val]; omega
  · match a with
    | 0 => simp [Shape.partSize]
omit [FloatOps F] [Named F] in
theorem orowK_eq : orowK L = orow (rL L) := by
  unfold orowK orow Rect.part Rect.block
  congr 1 <;> funext a
  · rw [k2_off2_eq]
    match a with
    | 0 => simp [Shape.partIx, Shape.partSize]; rw [rL_val]
    | 1 => simp [Shape.partIx, Shape.partSize]
  · match a with
    | 0 => simp [Shape.partSize]
    | 1 => simp [Shape.partSize]

omit [FloatOps F] [Named F] in
theorem set_lRowK : (lRowK L).view.set = lRowSet (rL L) := by
  show ((lV).view.slice (lrowK L)).set = ((lV).view.slice (lrow (rL L))).set
  exact lrowK_eq L ▸ rfl
omit [FloatOps F] [Named F] in
theorem set_nRowK : (nRowK L).view.set = nRowSet (rL L) := by
  show ((nV).view.slice (lrowK L)).set = ((nV).view.slice (lrow (rL L))).set
  exact lrowK_eq L ▸ rfl
omit [FloatOps F] [Named F] in
theorem set_oRowK : (oRowK L).view.set = oRowSet (rL L) := by
  show (((oV).view.slice (orowK L)).reshape S16 squeezes_S1x16_S16.numel_eq).set = ((oV).view.slice (orow (rL L))).set
  rw [View.set_reshape]
  exact orowK_eq L ▸ rfl

omit [FloatOps F] [Named F] in
theorem pts_lRowK (f : Buf (Elt F) (labLoc d)) :
    ((lRowK L).view.loc (V d (cV L) (jV L)) ↦[(lRowK L).view.set]{fullShare} f : sProp 𝕄) = labLoc d ↦[lRowSet (rL L)]{fullShare} f := by
  rw [set_lRowK]
omit [FloatOps F] [Named F] in
theorem pts_nRowK (f : Buf (Elt F) (nlLoc d)) :
    ((nRowK L).view.loc (V d (cV L) (jV L)) ↦[(nRowK L).view.set]{fullShare} f : sProp 𝕄) = nlLoc d ↦[nRowSet (rL L)]{fullShare} f := by
  rw [set_nRowK]
omit [FloatOps F] [Named F] in
theorem pts_oRowK (f : Buf (Elt F) (oLoc d)) :
    ((oRowK L).view.loc (V d (cV L) (jV L)) ↦[(oRowK L).view.set]{fullShare} f : sProp 𝕄) = oLoc d ↦[oRowSet (rL L)]{fullShare} f := by
  rw [set_oRowK]
omit [FloatOps F] [Named F] in
theorem pts_wV (q : PosShare TreeShare) (f : Buf (Elt F) (wLoc d)) :
    ((wV).view.loc (V d (cV L) (jV L)) ↦{q} f : sProp 𝕄) = wLoc d ↦{q} f := rfl
omit [FloatOps F] [Named F] in
theorem pts_sL (f : Buf (Elt F) ((V d (cV L) (jV L)).loc cc2_scratch0)) :
    ((sL).view.loc (V d (cV L) (jV L)) ↦{fullShare} f : sProp 𝕄) = (V d (cV L) (jV L)).loc cc2_scratch0 ↦{fullShare} f := rfl
omit [FloatOps F] [Named F] in
theorem pts_sN (f : Buf (Elt F) ((V d (cV L) (jV L)).loc cc2_scratch1)) :
    ((sN).view.loc (V d (cV L) (jV L)) ↦{fullShare} f : sProp 𝕄) = (V d (cV L) (jV L)).loc cc2_scratch1 ↦{fullShare} f := rfl
omit [FloatOps F] [Named F] in
theorem pts_sW (f : Buf (Elt F) ((V d (cV L) (jV L)).loc cc2_scratch2)) :
    ((sW).view.loc (V d (cV L) (jV L)) ↦{fullShare} f : sProp 𝕄) = (V d (cV L) (jV L)).loc cc2_scratch2 ↦{fullShare} f := rfl
omit [FloatOps F] [Named F] in
theorem pts_sO (f : Buf (Elt F) ((V d (cV L) (jV L)).loc cc2_scratch3)) :
    ((sO).view.loc (V d (cV L) (jV L)) ↦{fullShare} f : sProp 𝕄) = (V d (cV L) (jV L)).loc cc2_scratch3 ↦{fullShare} f := rfl

abbrev cell0 (d : Dev nD) (c : Fin τ.nSC) (i : Fin τ.nSub) : GSem nD τ sig := (V d c i, .dma cc2_scoped0.sem)
abbrev cell1 (d : Dev nD) (c : Fin τ.nSC) (i : Fin τ.nSub) : GSem nD τ sig := (V d c i, .dma cc2_scoped1.sem)
abbrev cell2 (d : Dev nD) (c : Fin τ.nSC) (i : Fin τ.nSub) : GSem nD τ sig := (V d c i, .dma cc2_scoped2.sem)
abbrev cell3 (d : Dev nD) (c : Fin τ.nSC) (i : Fin τ.nSub) : GSem nD τ sig := (V d c i, .dma cc2_scoped3.sem)

omit [FloatOps F] [Named F] in
/-- The four copies' counters are among the subcore's own: they are them and the rest. -/
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0
          ∗ bigSep (((((ownCells (V d (cV L) (jV L))).erase (cell0 d (cV L) (jV L))).erase (cell1 d (cV L) (jV L))).erase (cell2 d (cV L) (jV L))).erase (cell3 d (cV L) (jV L)))
              fun g => semVal g 0) := by
  have h0 : cell0 d (cV L) (jV L) ∈ ownCells (V d (cV L) (jV L)) :=
    mem_ownCells.mpr ⟨rfl, by show (SemLoc.dma cc2_scoped0.sem : SemLoc sig).isScoped .scVector = true; decide⟩
  have h1 : cell1 d (cV L) (jV L) ∈ ownCells (V d (cV L) (jV L)) :=
    mem_ownCells.mpr ⟨rfl, by show (SemLoc.dma cc2_scoped1.sem : SemLoc sig).isScoped .scVector = true; decide⟩
  have h2 : cell2 d (cV L) (jV L) ∈ ownCells (V d (cV L) (jV L)) :=
    mem_ownCells.mpr ⟨rfl, by show (SemLoc.dma cc2_scoped2.sem : SemLoc sig).isScoped .scVector = true; decide⟩
  have h3 : cell3 d (cV L) (jV L) ∈ ownCells (V d (cV L) (jV L)) :=
    mem_ownCells.mpr ⟨rfl, by show (SemLoc.dma cc2_scoped3.sem : SemLoc sig).isScoped .scVector = true; decide⟩
  have n10 : cell1 d (cV L) (jV L) ≠ cell0 d (cV L) (jV L) := by simp [cell0, cell1]; decide
  have n20 : cell2 d (cV L) (jV L) ≠ cell0 d (cV L) (jV L) := by simp [cell0, cell2]; decide
  have n21 : cell2 d (cV L) (jV L) ≠ cell1 d (cV L) (jV L) := by simp [cell1, cell2]; decide
  have n30 : cell3 d (cV L) (jV L) ≠ cell0 d (cV L) (jV L) := by simp [cell0, cell3]; decide
  have n31 : cell3 d (cV L) (jV L) ≠ cell1 d (cV L) (jV L) := by simp [cell1, cell3]; decide
  have n32 : cell3 d (cV L) (jV L) ≠ cell2 d (cV L) (jV L) := by simp [cell2, cell3]; decide
  unfold SparseCore.Cfg.ownSems0
  rw [SparseCore.bigSep_erase' h0, SparseCore.bigSep_erase' (Finset.mem_erase.mpr ⟨n10, h1⟩),
    SparseCore.bigSep_erase' (Finset.mem_erase.mpr ⟨n21, Finset.mem_erase.mpr ⟨n20, h2⟩⟩),
    SparseCore.bigSep_erase' (Finset.mem_erase.mpr ⟨n32, Finset.mem_erase.mpr ⟨n31, Finset.mem_erase.mpr ⟨n30, h3⟩⟩⟩)]

abbrev devR (L : grid2.Coords) (b : Ref sig .scVector) : DevRef τ sig := (Proc.scVector (cV L) (jV L)).devRef b

omit [FloatOps F] [Named F] in
/-- The four scratch buffers are among the subcore's own: they are them, at some contents, and the rest. -/
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ (∃ f, (V d (cV L) (jV L)).loc cc2_scratch2 ↦{fullShare} f) ∗ (∃ f, (V d (cV L) (jV L)).loc cc2_scratch3 ↦{fullShare} f)
          ∗ bigSep (((((ownRefs (τ := τ) (.scVector (cV L) (jV L))).erase (devR L cc2_scratch0)).erase (devR L cc2_scratch1)).erase (devR L cc2_scratch2)).erase (devR L cc2_scratch3))
              fun b => iprop(∃ f, ((d, b) : Loc nD τ sig) ↦{fullShare} f)) := by
  have hm : ∀ b : Ref sig .scVector, (devR L b).owner = .proc (Proc.scVector (cV L) (jV L)) → devR L b ∈ ownRefs (τ := τ) (.scVector (cV L) (jV L)) :=
    fun b h => SparseCore.Cfg.mem_ownRefs_of_owner (p := Proc.scVector (cV L) (jV L)) (b := devR L b) h
  have hn : ∀ b b' : Ref sig .scVector, b ≠ b' → devR L b ≠ devR L b' := fun b b' h e => h (Proc.devRef_injective _ e)
  unfold SparseCore.Cfg.ownBufs
  refine (SparseCore.bigSep_erase' (hm cc2_scratch0 rfl)).trans ?_
  rw [SparseCore.bigSep_erase' (Finset.mem_erase.mpr ⟨hn cc2_scratch1 cc2_scratch0 (by decide), hm cc2_scratch1 rfl⟩),
    SparseCore.bigSep_erase' (Finset.mem_erase.mpr ⟨hn cc2_scratch2 cc2_scratch1 (by decide), Finset.mem_erase.mpr ⟨hn cc2_scratch2 cc2_scratch0 (by decide), hm cc2_scratch2 rfl⟩⟩),
    SparseCore.bigSep_erase' (Finset.mem_erase.mpr ⟨hn cc2_scratch3 cc2_scratch2 (by decide), Finset.mem_erase.mpr ⟨hn cc2_scratch3 cc2_scratch1 (by decide),
      Finset.mem_erase.mpr ⟨hn cc2_scratch3 cc2_scratch0 (by decide), hm cc2_scratch3 rfl⟩⟩⟩)]

/-! ### The scratch buffers once fetched, and the reads of them -/

/-- The fetched labels, logarithms and weights. -/
abbrev labS : Buf (Elt F) ((sL).view.loc (V d (cV L) (jV L))) := fun k : S512.Idx => lab d (i1 (512 * (rL L).val + (k 0).val))
abbrev nlS : Buf (Elt F) ((sN).view.loc (V d (cV L) (jV L))) := fun k : S512.Idx => nl d (i1 (512 * (rL L).val + (k 0).val))
abbrev wS : Buf (Elt F) ((sW).view.loc (V d (cV L) (jV L))) := w d

omit [FloatOps F] [Named F] in
theorem lRow_emb (k : S512.Idx) : (lRowK L).view.emb k = i1 (512 * (rL L).val + (k 0).val) := by
  funext a
  match a with
  | 0 =>
    apply Fin.ext
    have h0 := (k 0).isLt
    have h1 : (k 0).val < 512 := h0
    have hr := (rL L).isLt
    show (k2_off1 L) 0 + 1 * (k 0).val = (512 * (rL L).val + (k 0).val) % 16384
    rw [k2_off1_eq, Nat.mod_eq_of_lt (by omega), rL_val]
    show 1024 * (L 1).val + 512 * (L 0).val + 1 * (k 0).val = _
    omega
omit [FloatOps F] [Named F] in
theorem nRow_emb (k : S512.Idx) : (nRowK L).view.emb k = i1 (512 * (rL L).val + (k 0).val) := lRow_emb L k

omit [FloatOps F] [Named F] in
theorem write_lab (f : Buf (Elt F) ((sL).view.loc (V d (cV L) (jV L)))) (pay : S512.Idx → Elt F .i32) (hp : pay = (lRowK L).view.read (Elt F) (lab d)) :
    View.write (Elt F) (sL).view f pay Finset.univ = labS lab d L := by
  subst hp
  refine (View.write_whole_univ _ _ _).trans ?_
  funext k
  exact (View.read_apply _ _).trans ((cast_eq _ _).trans (congrArg (lab d) (lRow_emb L k)))
omit [FloatOps F] [Named F] in
theorem write_nl (f : Buf (Elt F) ((sN).view.loc (V d (cV L) (jV L)))) (pay : S512.Idx → Elt F .f32) (hp : pay = (nRowK L).view.read (Elt F) (nl d)) :
    View.write (Elt F) (sN).view f pay Finset.univ = nlS nl d L := by
  subst hp
  refine (View.write_whole_univ _ _ _).trans ?_
  funext k
  exact (View.read_apply _ _).trans ((cast_eq _ _).trans (congrArg (nl d) (nRow_emb L k)))
omit [FloatOps F] [Named F] in
theorem write_w (f : Buf (Elt F) ((sW).view.loc (V d (cV L) (jV L)))) (pay : S128.Idx → Elt F .f32) (hp : pay = (wV).view.read (Elt F) (w d)) :
    View.write (Elt F) (sW).view f pay Finset.univ = wS w d L := by
  subst hp
  refine (View.write_whole_univ _ _ _).trans ?_
  rfl

omit [FloatOps F] [Named F] in
theorem read_lab {o : ℕ} {h : ∀ a, (![o] : Fin 1 → ℕ) a + S16.size a ≤ S512.size a} :
    (sL).view.readAt (Elt F) (Rect.unit (s := S512) ![o] S16.size h).toLoadRect (labS lab d L) = Lb (lab d) (rL L).val o := by
  funext x
  refine (View.readAt_apply _ _ _).trans ((View.read_apply _ _).trans ((cast_eq _ _).trans ?_))
  show lab d (i1 (512 * (rL L).val + (o + 1 * (x 0).val))) = _
  rw [one_mul]; rfl
omit [FloatOps F] [Named F] in
theorem read_nl {o : ℕ} {h : ∀ a, (![o] : Fin 1 → ℕ) a + S16.size a ≤ S512.size a} :
    (sN).view.readAt (Elt F) (Rect.unit (s := S512) ![o] S16.size h).toLoadRect (nlS nl d L) = Nn (nl d) (rL L).val o := by
  funext x
  refine (View.readAt_apply _ _ _).trans ((View.read_apply _ _).trans ((cast_eq _ _).trans ?_))
  show nl d (i1 (512 * (rL L).val + (o + 1 * (x 0).val))) = _
  rw [one_mul]; rfl
omit [FloatOps F] [Named F] in
theorem read_wS : (sW).view.readAt (Elt F) (LoadRect.whole S128) (w d) = (w d : S128.Idx → F .f32) := by
  funext x
  refine (View.readAt_apply _ _ _).trans ((View.read_apply _ _).trans ((cast_eq _ _).trans ?_))
  congr 1; funext a
  match a with
  | 0 => apply Fin.ext; show 0 + 1 * (x 0).val = (x 0).val; omega
omit [FloatOps F] [Named F] in
theorem gather_w {o : ℕ} {h : ∀ a x, ((![Lb (lab d) (rL L).val o] : Fin 1 → IVec S16 32) a x).toNat < S128.size a} :
    loadIdx (F := F) (e := .f32) (w d : S128.Idx → F .f32) ![Lb (lab d) (rL L).val o] h = Gw (lab d) (w d) (rL L).val o := by
  funext x
  show w d _ = w d _
  congr 1; funext a
  match a with
  | 0 =>
    apply Fin.ext
    exact (Nat.mod_eq_of_lt (h 0 x)).symm
omit [FloatOps F] [Named F] in
theorem read_sO (fo : Buf (Elt F) ((sO).view.loc (V d (cV L) (jV L)))) (p : S16.Idx → Elt F .f32) {h : ∀ a, (![0] : Fin 1 → ℕ) a + (![16] : Fin 1 → ℕ) a ≤ S16.size a} :
    ReadAs.same.apply ((sO).view.read (Elt F) ((sO).view.writes (Elt F) fo [⟨Rect.unit (s := S16) ![0] ![16] h, p⟩])) = p := by
  funext x
  have hx : (Rect.unit (s := S16) ![0] ![16] h).emb x = x := by
    funext a
    match a with
    | 0 => apply Fin.ext; show 0 + 1 * (x 0).val = (x 0).val; omega
  have := View.read_writes_cons_emb (Val := Elt F) (v := (sO).view) (f := fo) (Rect.unit (s := S16) ![0] ![16] h) p [] x
  rw [hx] at this
  exact this
omit [FloatOps F] [Named F] in
theorem oRow_emb (y : S16.Idx) : (oRowK L).view.emb y = fun a => ⟨![(rL L).val, (y 0).val] a, by
    match a with
    | 0 => exact (rL L).isLt
    | 1 => exact (y 0).isLt⟩ := by
  have e : Shape.reshapeEquiv squeezes_S1x16_S16.numel_eq y = Fin.cons ⟨0, Nat.one_pos⟩ y := Shape.reshapeEquiv_cons_one _ y
  show (orowK L).emb (Shape.reshapeEquiv squeezes_S1x16_S16.numel_eq y) = _
  rw [e]
  funext a
  match a with
  | 0 =>
    apply Fin.ext
    show (k2_off2 L) 0 + 1 * 0 = (rL L).val
    rw [k2_off2_eq, rL_val]; simp
  | 1 =>
    apply Fin.ext
    show (k2_off2 L) 1 + 1 * (y 0).val = (y 0).val
    rw [k2_off2_eq]; simp

/-- The output's row once the sixteen sums are copied to it. -/
theorem oRow_out (f : Buf (Elt F) (oLoc d)) :
    ((oRowK L).view.loc (V d (cV L) (jV L)) ↦[(oRowK L).view.set]{fullShare}
        (oRowK L).view.writes (Elt F) f [⟨Rect.whole S16, rowV (lab d) (nl d) (w d) (rL L).val⟩] : sProp 𝕄)
      = oLoc d ↦[oRowSet (rL L)]{fullShare} outV (lab d) (nl d) (w d) := by
  rw [← pts_oRowK (F := F) d L]
  refine pointsTo_congr fun i hi => ?_
  obtain ⟨y, -, rfl⟩ := Finset.mem_map.mp hi
  have h := View.read_writes_cons_emb (Val := Elt F) (v := (oRowK L).view) (f := f) (Rect.whole S16) (rowV (lab d) (nl d) (w d) (rL L).val) [] y
  rw [Rect.emb_whole_apply] at h
  refine (((View.read_apply _ _).trans (cast_eq _ _)).symm.trans h).trans ?_
  rw [oRow_emb]
  show _ = rowV (lab d) (nl d) (w d) (rL L).val _
  congr 1; funext a
  match a with
  | 0 => rfl
omit [FloatOps F] [Named F] in
theorem chk_ok (hpre : LabOK lab) {o : ℕ} {h : ∀ a, (![o] : Fin 1 → ℕ) a + S16.size a ≤ S512.size a} :
    ∀ a x, ((![(sL).view.readAt (Elt F) (Rect.unit (s := S512) ![o] S16.size h).toLoadRect (labS lab d L)] : Fin 1 → IVec S16 32) a x).toNat < S128.size a := by
  intro a x
  match a with
  | 0 =>
    show ((sL).view.readAt (Elt F) (Rect.unit (s := S512) ![o] S16.size h).toLoadRect (labS lab d L) x).toNat < 128
    rw [read_lab]; exact hpre d _

omit [FloatOps F] [Named F] in
theorem gather_raw {o : ℕ} {h : ∀ a, (![o] : Fin 1 → ℕ) a + S16.size a ≤ S512.size a} {h'} :
    loadIdx (F := F) (e := .f32) ((sW).view.readAt (Elt F) (LoadRect.whole S128) (w d))
      ![(sL).view.readAt (Elt F) (Rect.unit (s := S512) ![o] S16.size h).toLoadRect (labS lab d L)] h'
      = Gw (lab d) (w d) (rL L).val o := by
  revert h'
  rw [read_lab lab d L, read_wS w d]
  intro h'; exact gather_w lab w d L
/-- The five payloads, chained, are the running sum of 32 chunks, scaled. -/
theorem pays (lab : S16384.Idx → BitVec 32) (nl : S16384.Idx → F .f32) (w : S128.Idx → F .f32) (r : ℕ) :
    k2_pay5 (k2_pay4 (k2_pay3 (k2_pay2 (k2_pay1 (Gw lab w r 0) (Nn nl r 0) (Gw lab w r 16) (Nn nl r 16) (Gw lab w r 32) (Nn nl r 32) (Gw lab w r 48) (Nn nl r 48)) (Gw lab w r 64) (Nn nl r 64) (Gw lab w r 80) (Nn nl r 80) (Gw lab w r 96) (Nn nl r 96) (Gw lab w r 112) (Nn nl r 112) (Gw lab w r 128) (Nn nl r 128) (Gw lab w r 144) (Nn nl r 144) (Gw lab w r 160) (Nn nl r 160) (Gw lab w r 176) (Nn nl r 176)) (Gw lab w r 192) (Nn nl r 192) (Gw lab w r 208) (Nn nl r 208) (Gw lab w r 224) (Nn nl r 224) (Gw lab w r 240) (Nn nl r 240) (Gw lab w r 256) (Nn nl r 256) (Gw lab w r 272) (Nn nl r 272) (Gw lab w r 288) (Nn nl r 288)) (Gw lab w r 304) (Nn nl r 304) (Gw lab w r 320) (Nn nl r 320) (Gw lab w r 336) (Nn nl r 336) (Gw lab w r 352) (Nn nl r 352) (Gw lab w r 368) (Nn nl r 368) (Gw lab w r 384) (Nn nl r 384) (Gw lab w r 400) (Nn nl r 400) (Gw lab w r 416) (Nn nl r 416)) (Gw lab w r 432) (Nn nl r 432) (Gw lab w r 448) (Nn nl r 448) (Gw lab w r 464) (Nn nl r 464) (Gw lab w r 480) (Nn nl r 480) (Gw lab w r 496) (Nn nl r 496) = rowV lab nl w r := rfl

theorem pays' (lab : S16384.Idx → BitVec 32) (nl : S16384.Idx → F .f32) (w : S128.Idx → F .f32) (r : ℕ) {g0 n0 g1 n1 g2 n2 g3 n3 g4 n4 g5 n5 g6 n6 g7 n7 g8 n8 g9 n9 g10 n10 g11 n11 g12 n12 g13 n13 g14 n14 g15 n15 g16 n16 g17 n17 g18 n18 g19 n19 g20 n20 g21 n21 g22 n22 g23 n23 g24 n24 g25 n25 g26 n26 g27 n27 g28 n28 g29 n29 g30 n30 g31 n31 : FVec F S16 .f32}
    (hg0 : g0 = Gw lab w r 0) (hn0 : n0 = Nn nl r 0) (hg1 : g1 = Gw lab w r 16) (hn1 : n1 = Nn nl r 16) (hg2 : g2 = Gw lab w r 32) (hn2 : n2 = Nn nl r 32) (hg3 : g3 = Gw lab w r 48) (hn3 : n3 = Nn nl r 48) (hg4 : g4 = Gw lab w r 64) (hn4 : n4 = Nn nl r 64) (hg5 : g5 = Gw lab w r 80) (hn5 : n5 = Nn nl r 80) (hg6 : g6 = Gw lab w r 96) (hn6 : n6 = Nn nl r 96) (hg7 : g7 = Gw lab w r 112) (hn7 : n7 = Nn nl r 112) (hg8 : g8 = Gw lab w r 128) (hn8 : n8 = Nn nl r 128) (hg9 : g9 = Gw lab w r 144) (hn9 : n9 = Nn nl r 144) (hg10 : g10 = Gw lab w r 160) (hn10 : n10 = Nn nl r 160) (hg11 : g11 = Gw lab w r 176) (hn11 : n11 = Nn nl r 176) (hg12 : g12 = Gw lab w r 192) (hn12 : n12 = Nn nl r 192) (hg13 : g13 = Gw lab w r 208) (hn13 : n13 = Nn nl r 208) (hg14 : g14 = Gw lab w r 224) (hn14 : n14 = Nn nl r 224) (hg15 : g15 = Gw lab w r 240) (hn15 : n15 = Nn nl r 240) (hg16 : g16 = Gw lab w r 256) (hn16 : n16 = Nn nl r 256) (hg17 : g17 = Gw lab w r 272) (hn17 : n17 = Nn nl r 272) (hg18 : g18 = Gw lab w r 288) (hn18 : n18 = Nn nl r 288) (hg19 : g19 = Gw lab w r 304) (hn19 : n19 = Nn nl r 304) (hg20 : g20 = Gw lab w r 320) (hn20 : n20 = Nn nl r 320) (hg21 : g21 = Gw lab w r 336) (hn21 : n21 = Nn nl r 336) (hg22 : g22 = Gw lab w r 352) (hn22 : n22 = Nn nl r 352) (hg23 : g23 = Gw lab w r 368) (hn23 : n23 = Nn nl r 368) (hg24 : g24 = Gw lab w r 384) (hn24 : n24 = Nn nl r 384) (hg25 : g25 = Gw lab w r 400) (hn25 : n25 = Nn nl r 400) (hg26 : g26 = Gw lab w r 416) (hn26 : n26 = Nn nl r 416) (hg27 : g27 = Gw lab w r 432) (hn27 : n27 = Nn nl r 432) (hg28 : g28 = Gw lab w r 448) (hn28 : n28 = Nn nl r 448) (hg29 : g29 = Gw lab w r 464) (hn29 : n29 = Nn nl r 464) (hg30 : g30 = Gw lab w r 480) (hn30 : n30 = Nn nl r 480) (hg31 : g31 = Gw lab w r 496) (hn31 : n31 = Nn nl r 496) :
    k2_pay5 (k2_pay4 (k2_pay3 (k2_pay2 (k2_pay1 g0 n0 g1 n1 g2 n2 g3 n3) g4 n4 g5 n5 g6 n6 g7 n7 g8 n8 g9 n9 g10 n10 g11 n11) g12 n12 g13 n13 g14 n14 g15 n15 g16 n16 g17 n17 g18 n18) g19 n19 g20 n20 g21 n21 g22 n22 g23 n23 g24 n24 g25 n25 g26 n26) g27 n27 g28 n28 g29 n29 g30 n30 g31 n31 = rowV lab nl w r := by
  subst_vars; exact pays lab nl w r

set_option maxHeartbeats 4000000 in
/-- The task on vector subcore `(L 0, L 1)` of device `d`. -/
theorem tile_body (hF : (K (F := F)).Facts) (hpre : LabOK lab) (O : CellTallies nD τ sig (HIx 1)) (W : Waits sig (HIx 1)) (hO : ∀ g, O g none = 0) :
    iprop(levAts (K (F := F)).L (K (F := F)).lev ∗ emp ∗ goP lab nl w o₀ d (rL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2__cls_call L lV (Memref.isWhole_whole _) nV (Memref.isWhole_whole _) wV (Memref.isWhole_whole _) oV (Memref.isWhole_whole _)
            sL (Memref.isWhole_whole _) sN (Memref.isWhole_whole _) sW (Memref.isWhole_whole _) sO (Memref.isWhole_whole _)
            cc2_scoped0 cc2_scoped1 cc2_scoped2 cc2_scoped3)
          fun _ => iprop(tdP lab nl w d (rL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2__cls_call_eq_skeleton]; unfold cc2__cls_call_skel
  simp only [k2_part5_eq_skeleton]; unfold k2_part5_skel
  simp only [k2_part1_eq_skeleton, k2_part2_eq_skeleton, k2_part3_eq_skeleton, k2_part4_eq_skeleton]
  unfold k2_part1_skel
  rw [(K (F := F)).scopedBufs_V hF d (cV L) (jV L), SparseCore.Cfg.scopedSems0_V (Val := Elt F) d (cV L) (jV L), ownSems0_V, ownBufs_V]
  iintro ⟨#Hlv, -, ⟨Hl, Hn, Hw, Ho⟩, ⟨⟨%fl, Hsl⟩, ⟨%fn, Hsn⟩, ⟨%fw, Hsw⟩, ⟨%fo, Hso⟩, Hbufs⟩, ⟨Hc0, Hc1, Hc2, Hc3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hl' := (Entails.of_eq (pts_lRowK (F := F) d L _).symm) $$ Hl
  ihave Hn' := (Entails.of_eq (pts_nRowK (F := F) d L _).symm) $$ Hn
  ihave Ho' := (Entails.of_eq (pts_oRowK (F := F) d L _).symm) $$ Ho
  ihave Hw' := (Entails.of_eq (pts_wV (F := F) d L _ _).symm) $$ Hw
  ihave Hsl' := (Entails.of_eq (pts_sL (F := F) d L _).symm) $$ Hsl
  ihave Hsn' := (Entails.of_eq (pts_sN (F := F) d L _).symm) $$ Hsn
  ihave Hsw' := (Entails.of_eq (pts_sW (F := F) d L _).symm) $$ Hsw
  ihave Hso' := (Entails.of_eq (pts_sO (F := F) d L _).symm) $$ Hso
  sl_exec
  rw [write_lab lab d L fl (tile_body.sl.dma0 lab d L) rfl, write_nl nl d L fn (tile_body.sl.dma0_1 nl d L) rfl, write_w w d L fw (tile_body.sl.dma0_2 w d) rfl]
  unfold k2_part2_skel k2_part3_skel k2_part4_skel SparseCore.vectorLoadIdx
  sl_exec (disch := exact chk_ok _ d L hpre)
  have hv : tile_body.sl.dma97 lab nl w d L hpre fo = rowV (lab d) (nl d) (w d) (rL L).val := by
    unfold tile_body.sl.dma97 tile_body.sl.Hso'_1
    refine (read_sO d L fo _).trans ?_
    apply pays' <;> first | exact read_nl nl d L | exact gather_raw lab w d L
  rw [hv]
  sl_step
  isplitl [Hl' Hn' Hw' Ho']
  · isplitl [Hl']; · iapply (Entails.of_eq (pts_lRowK (F := F) d L _)); iexact Hl'
    isplitl [Hn']; · iapply (Entails.of_eq (pts_nRowK (F := F) d L _)); iexact Hn'
    isplitl [Hw']; · iexact Hw'
    iapply (Entails.of_eq (oRow_out lab nl w d L (o₀ d))); iexact Ho'
  isplitl [Hsl' Hsn' Hsw' Hso' Hbufs]
  · isplitl [Hsl']; · iexists _; iexact Hsl'
    isplitl [Hsn']; · iexists _; iexact Hsn'
    isplitl [Hsw']; · iexists _; iexact Hsw'
    isplitl [Hso']; · iexists _; iexact Hso'
    iexact Hbufs
  isplitl [Hc0 Hc1 Hc2 Hc3 Hsems]
  · isplitl [Hc0]; · iexact Hc0
    isplitl [Hc1]; · iexact Hc1
    isplitl [Hc2]; · iexact Hc2
    isplitl [Hc3]; · iexact Hc3
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2__cls_call (coordsV c s)
          lV (Memref.isWhole_whole _) nV (Memref.isWhole_whole _) wV (Memref.isWhole_whole _) oV (Memref.isWhole_whole _)
          sL (Memref.isWhole_whole _) sN (Memref.isWhole_whole _) sW (Memref.isWhole_whole _) sO (Memref.isWhole_whole _)
          cc2_scoped0 cc2_scoped1 cc2_scoped2 cc2_scoped3) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every vector subcore's task of the call, from its pieces to its pieces. -/
theorem tileObl (hF : (K (F := F)).Facts) (hpre : LabOK lab) : (K (F := F)).TileObl (D (F := F)) 𝒱 (P lab nl w o₀) v₀ 0 := by
  intro d c i O W hO _ _
  simp only [show (P lab nl w o₀).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body lab nl w o₀ d (coordsV ⟨_, hci.1⟩ ⟨_, hci.2⟩) hF hpre O W hO).trans (wp_mono frame _ _ fun _ => obl_post)

/-- A core's sixteen tasks are what it is handed and what it hands back. -/
theorem vecSplit : (K (F := F)).VecSplit' (P lab nl w o₀) 0 := by
  intro d c
  show (bigSep Finset.univ fun i : Fin ((K (F := F)).nSub 0) => goP lab nl w o₀ d (rowOf (Fin.cast nCore_zero c) (Fin.cast nSub_zero i)))
    ⊢ |={Set.univ}=> iprop((bigSep Finset.univ fun i : Fin ((K (F := F)).nSub 0) => goP lab nl w o₀ d (rowOf (Fin.cast nCore_zero c) (Fin.cast nSub_zero i)))
      ∗ ((bigSep Finset.univ fun i : Fin ((K (F := F)).nSub 0) => tdP lab nl w d (rowOf (Fin.cast nCore_zero c) (Fin.cast nSub_zero i)))
        -∗ bigSep Finset.univ fun i : Fin ((K (F := F)).nSub 0) => tdP lab nl w d (rowOf (Fin.cast nCore_zero c) (Fin.cast nSub_zero i))))
  iintro H; imodintro
  isplitl [H]; · iexact H
  iintro H; iexact H

end Tile

end Cert.Proof.Run

end
-- ==== Proof.Run.Stats.lean ====
/-
  The first TensorCore call: one block of 640 anchors a grid point. Its body, run at the first, a middle and the last
  point; what it leaves.
-/
module

public import proofs.«01_k».proof.Proof.Run.Base
public import Idealize.ShloMosaic.Lib.VecWindow
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [Named F]

local notation "𝕄" => MT nD τ sig (HIx 1) (Elt F) ℕ UU ℕ

/-- A memref's buffer on core `c`, and it held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A whole memref's contents, owned, are its buffer held at contents that read so. -/
theorem owns_pt (c : Dev nD) {sp : Space} {S : Shape} {e : EltTy} (M : Memref sig .tc sp S e) (hM : M.IsWhole) (Y : S.Idx → Elt F e) :
    (owns (c : Thread nD τ) M fullShare Y : sProp 𝕄) = iprop(∃ f, ⌜M.view.read (Elt F) f = Y⌝ ∗ pt c M f) := by
  unfold owns; rw [hM.set_eq_univ]

/-- A run of stores read back: the newest over what the others left. -/
theorem read_overlay {κ : Kind} {sp : Space} {s : Shape} {e : EltTy} (v : View sig κ sp s e) (f : v.ty.Contents (Elt F)) (r : Rect s)
    (w : r.shape.Idx → Elt F e) (L : List (View.Piece (Elt F) s e)) :
    v.read (Elt F) (v.writes (Elt F) f (⟨r, w⟩ :: L)) = r.overlay (v.read (Elt F) (v.writes (Elt F) f L)) w := by
  funext y
  by_cases hy : y ∈ r.set
  · obtain ⟨x, rfl⟩ := r.exists_idx_of_mem hy
    exact (View.read_writes_cons_emb v f r w L x).trans (r.overlay_emb _ w x).symm
  · rw [View.read_writes_cons_miss v f _ L y hy, Rect.overlay_of_not_mem _ _ _ hy]

theorem overlay_full {s : Shape} {α : Type} {off : Fin s.rank → ℕ} (inb : ∀ a, off a + s.size a ≤ s.size a) (X w : s.Idx → α) :
    (Rect.unit off s.size inb).overlay X w = w := by
  funext y
  have : (Rect.unit off s.size inb).emb y = y := funext fun a => Fin.ext (by
    show off a + 1 * (y a).val = (y a).val
    have := inb a; omega)
  exact (congrArg _ this.symm).trans ((Rect.unit off s.size inb).overlay_emb X w y)

/-! ### What one point leaves -/

/-- The 640 places of point `i`, the 384 padding places, the accumulator's 81 classes, its class 0. -/
abbrev r640 (i : grid0.Coords) : Rect S16384 := Rect.unit (s := S16384) (k0_off1 i) S640.size (k0_off1_inb i)
abbrev r384 : Rect S16384 := Rect.unit (s := S16384) ![16000] S384.size inb_S16384_S384_16000
abbrev r81 : Rect S1x128 := Rect.unit (s := S1x128) ![0, 0] S1x81.size inb_S1x128_S1x81_0_0
abbrev r1 : Rect S1x128 := Rect.unit (s := S1x128) ![0, 0] S1x1.size inb_S1x128_S1x1_0_0

/-- The first point's test, as the body writes it. -/
abbrev isFirst (i : grid0.Coords) : Prop := Scalar.cmpi .ne (Scalar.extui (Scalar.cmpi .eq (BitVec.ofNat 32 (i 0).val) 0#32)) 0#32 = 1#1

/-- A vector of 16384 after point `i` stores `p` into its places, and at the last point `pad` behind them. -/
def chunkNext {α : Type} (i : grid0.Coords) (p : S640.Idx → α) (pad : S384.Idx → α) (Y : S16384.Idx → α) : S16384.Idx → α :=
  if k0_cond2 i = 1#1 then r384.overlay ((r640 i).overlay Y p) pad else (r640 i).overlay Y p

/-- The accumulator as point `i` adds to it: zeros at the first point. -/
def accBase (i : grid0.Coords) (A : S1x128.Idx → F .f32) : S1x128.Idx → F .f32 := if isFirst i then k0_pay12 (F := F) else A

/-- The accumulator after point `i`, whose targets' block is `X`. -/
def accNext (i : grid0.Coords) (X : S640x81.Idx → F .f32) (A : S1x128.Idx → F .f32) : S1x128.Idx → F .f32 :=
  r81.overlay (accBase i A) (k0_pay13 X fun x => accBase i A (r81.emb x))

/-- The four results of the last point, from the finished accumulator. -/
def wOf (A : S1x128.Idx → F .f32) : S1x128.Idx → F .f32 := k0_pay7 A
def w2Of (A : S1x128.Idx → F .f32) : S1x128.Idx → F .f32 := k0_pay8 A fun x => A (r1.emb x)
def auxOf (A : S1x128.Idx → F .f32) : S1x16.Idx → F .f32 := k0_pay2 (k0_pay6 A fun x => A (r1.emb x))
def wflatOf (A : S1x128.Idx → F .f32) : S128.Idx → F .f32 := k0_pay1 (k0_pay7 A)
def atLast {S : Shape} {α : Type} (i : grid0.Coords) (X Y : S.Idx → α) : S.Idx → α := if k0_cond2 i = 1#1 then X else Y

/-- Class 0 is one of the 81. -/
theorem r1_mem (j : r1.shape.Idx) : r1.emb j ∈ r81.set := by
  refine Rect.mem_set_unit.2 fun a => ?_
  have h : (r1.emb j a).val = (![0, 0] : Fin 2 → ℕ) a + 1 * (j a).val := rfl
  have hj : (j a).val < (![1, 1] : Fin 2 → ℕ) a := (j a).isLt
  fin_cases a
  · exact ⟨Nat.zero_le _, by rw [h]; show 0 + 1 * (j 0).val < 0 + 1; have : (j 0).val < 1 := hj; omega⟩
  · exact ⟨Nat.zero_le _, by rw [h]; show 0 + 1 * (j 1).val < 0 + 81; have : (j 1).val < 1 := hj; omega⟩

theorem isFirst_iff : ∀ i : grid0.Coords, isFirst i ↔ (i 0).val = 0 := by decide +kernel
theorem isLast_iff : ∀ i : grid0.Coords, k0_cond2 i = 1#1 ↔ (i 0).val = 24 := by decide +kernel

section Body

variable (c : Dev nD) (i : grid0.Coords)
    (M1 : Memref sig .tc .vmem S640x81 .f32) (w1 : M1.IsWhole) (M2 : Memref sig .tc .vmem S640x81 .f32) (w2 : M2.IsWhole)
    (M3 : Memref sig .tc .vmem S16384 .f32) (w3 : M3.IsWhole) (M4 : Memref sig .tc .vmem S16384 .i32) (w4 : M4.IsWhole)
    (M5 : Memref sig .tc .vmem S1x128 .f32) (w5 : M5.IsWhole) (M6 : Memref sig .tc .vmem S1x128 .f32) (w6 : M6.IsWhole)
    (M7 : Memref sig .tc .vmem S1x16 .f32) (w7 : M7.IsWhole) (M8 : Memref sig .tc .vmem S128 .f32) (w8 : M8.IsWhole)
    (M9 : Memref sig .tc .vmem S1x128 .f32) (w9 : M9.IsWhole)
    (f1 : Bf (F := F) c M1) (f2 : Bf (F := F) c M2) (f3 : Bf (F := F) c M3) (f4 : Bf (F := F) c M4) (f5 : Bf (F := F) c M5)
    (f6 : Bf (F := F) c M6) (f7 : Bf (F := F) c M7) (f8 : Bf (F := F) c M8) (f9 : Bf (F := F) c M9)

/-- What the body leaves in its nine buffers, of which it is told what the first nine held. -/
abbrev Left (g3 : Bf (F := F) c M3) (g4 : Bf (F := F) c M4) (g5 : Bf (F := F) c M5)
    (g6 : Bf (F := F) c M6) (g7 : Bf (F := F) c M7) (g8 : Bf (F := F) c M8) (g9 : Bf (F := F) c M9) : Prop :=
  let Y1 := M1.view.read (Elt F) f1
  let A := accNext i Y1 (M9.view.read (Elt F) f9)
  M3.view.read (Elt F) g3 = chunkNext i (k0_pay11 Y1 (M2.view.read (Elt F) f2)) (k0_pay4 (F := F)) (M3.view.read (Elt F) f3)
  ∧ M4.view.read (Elt F) g4 = chunkNext i (k0_pay10 Y1) k0_pay3 (M4.view.read (Elt F) f4)
  ∧ M5.view.read (Elt F) g5 = atLast i (wOf A) (M5.view.read (Elt F) f5)
  ∧ M6.view.read (Elt F) g6 = atLast i (w2Of A) (M6.view.read (Elt F) f6)
  ∧ M7.view.read (Elt F) g7 = atLast i (auxOf A) (M7.view.read (Elt F) f7)
  ∧ M8.view.read (Elt F) g8 = atLast i (wflatOf A) (M8.view.read (Elt F) f8)
  ∧ M9.view.read (Elt F) g9 = A

theorem body0_mid (h1 : ¬ isFirst i) (h2 : ¬ k0_cond2 i = 1#1) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗
        (∀ g3 g4 g5 g6 g7 g8 g9, iprop(⌜Left c i M1 M2 M3 M4 M5 M6 M7 M8 M9 f1 f2 f3 f4 f5 f6 f7 f8 f9 g3 g4 g5 g6 g7 g8 g9⌝
          ∗ pt c M1 f1 ∗ pt c M2 f2 ∗ pt c M3 g3 ∗ pt c M4 g4 ∗ pt c M5 g5 ∗ pt c M6 g6 ∗ pt c M7 g7 ∗ pt c M8 g8 ∗ pt c M9 g9) -∗ Q ⟨⟩))
      ⊢ wp frame (wpE (defs₀ (F := F)) 𝒱₀ c none) E (cc0__stats_body i M1 w1 M2 w2 M3 w3 M4 w4 M5 w5 M6 w6 M7 w7 M8 w8 M9 w9) Q := by
  iintro ⟨H1, H2, H3, H4, H5, H6, H7, H8, H9, Hk⟩
  sl_exec (disch := first | exact h1 | exact h2)
  sl_step
  ispecialize Hk $$ %_ %_ %_ %_ %_ %_ %_
  iapply Hk
  isplitr
  swap
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  ipureintro
  have e1 := View.readAt_full M1.view f1 (off := ![0, 0]) inb_S640x81_S640x81_0_0
  have e2 := View.readAt_full M2.view f2 (off := ![0, 0]) inb_S640x81_S640x81_0_0
  refine ⟨?_, ?_, ?_, ?_, ?_, ?_, ?_⟩
  · rw [chunkNext, if_neg h2]
    exact (read_overlay _ _ _ _ _).trans (congrArg _ (congrArg₂ k0_pay11 e1 e2))
  · rw [chunkNext, if_neg h2]
    exact (read_overlay _ _ _ _ _).trans (congrArg _ (congrArg k0_pay10 e1))
  · rw [atLast, if_neg h2]
  · rw [atLast, if_neg h2]
  · rw [atLast, if_neg h2]
  · rw [atLast, if_neg h2]
  · rw [accNext, accBase, if_neg h1]
    exact (read_overlay _ _ _ _ _).trans (congrArg _ (congrArg (k0_pay13 · _) e1))

theorem body0_first (h1 : isFirst i) (h2 : ¬ k0_cond2 i = 1#1) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗
        (∀ g3 g4 g5 g6 g7 g8 g9, iprop(⌜Left c i M1 M2 M3 M4 M5 M6 M7 M8 M9 f1 f2 f3 f4 f5 f6 f7 f8 f9 g3 g4 g5 g6 g7 g8 g9⌝
          ∗ pt c M1 f1 ∗ pt c M2 f2 ∗ pt c M3 g3 ∗ pt c M4 g4 ∗ pt c M5 g5 ∗ pt c M6 g6 ∗ pt c M7 g7 ∗ pt c M8 g8 ∗ pt c M9 g9) -∗ Q ⟨⟩))
      ⊢ wp frame (wpE (defs₀ (F := F)) 𝒱₀ c none) E (cc0__stats_body i M1 w1 M2 w2 M3 w3 M4 w4 M5 w5 M6 w6 M7 w7 M8 w8 M9 w9) Q := by
  iintro ⟨H1, H2, H3, H4, H5, H6, H7, H8, H9, Hk⟩
  sl_exec (disch := first | exact h1 | exact h2)
  sl_step
  ispecialize Hk $$ %_ %_ %_ %_ %_ %_ %_
  iapply Hk
  isplitr
  swap
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  ipureintro
  have e1 := View.readAt_full M1.view f1 (off := ![0, 0]) inb_S640x81_S640x81_0_0
  have e2 := View.readAt_full M2.view f2 (off := ![0, 0]) inb_S640x81_S640x81_0_0
  refine ⟨?_, ?_, ?_, ?_, ?_, ?_, ?_⟩
  · rw [chunkNext, if_neg h2]
    exact (read_overlay _ _ _ _ _).trans (congrArg _ (congrArg₂ k0_pay11 e1 e2))
  · rw [chunkNext, if_neg h2]
    exact (read_overlay _ _ _ _ _).trans (congrArg _ (congrArg k0_pay10 e1))
  · rw [atLast, if_neg h2]
  · rw [atLast, if_neg h2]
  · rw [atLast, if_neg h2]
  · rw [atLast, if_neg h2]
  · rw [accNext, accBase, if_pos h1]
    have e3 : ∀ f, M9.view.read (Elt F) (M9.view.writes (Elt F) f [⟨Rect.unit (s := S1x128) ![0, 0] S1x128.size inb_S1x128_S1x128_0_0, k0_pay12 (F := F)⟩]) = k0_pay12 (F := F) :=
      fun f => (read_overlay _ _ _ _ _).trans (overlay_full _ _ _)
    exact (read_overlay _ _ _ _ _).trans (congrArg₂ r81.overlay (e3 f9) (congrArg₂ k0_pay13 e1 (funext fun x => congrFun (e3 _) (r81.emb x))))

theorem body0_last (h1 : ¬ isFirst i) (h2 : k0_cond2 i = 1#1) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗
        (∀ g3 g4 g5 g6 g7 g8 g9, iprop(⌜Left c i M1 M2 M3 M4 M5 M6 M7 M8 M9 f1 f2 f3 f4 f5 f6 f7 f8 f9 g3 g4 g5 g6 g7 g8 g9⌝
          ∗ pt c M1 f1 ∗ pt c M2 f2 ∗ pt c M3 g3 ∗ pt c M4 g4 ∗ pt c M5 g5 ∗ pt c M6 g6 ∗ pt c M7 g7 ∗ pt c M8 g8 ∗ pt c M9 g9) -∗ Q ⟨⟩))
      ⊢ wp frame (wpE (defs₀ (F := F)) 𝒱₀ c none) E (cc0__stats_body i M1 w1 M2 w2 M3 w3 M4 w4 M5 w5 M6 w6 M7 w7 M8 w8 M9 w9) Q := by
  iintro ⟨H1, H2, H3, H4, H5, H6, H7, H8, H9, Hk⟩
  sl_exec (disch := first | exact h1 | exact h2)
  sl_step
  ispecialize Hk $$ %_ %_ %_ %_ %_ %_ %_
  iapply Hk
  isplitr
  swap
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  ipureintro
  have e1 := View.readAt_full M1.view f1 (off := ![0, 0]) inb_S640x81_S640x81_0_0
  have e2 := View.readAt_full M2.view f2 (off := ![0, 0]) inb_S640x81_S640x81_0_0
  have e13 := congrArg (fun Y => k0_pay13 Y (fun x => M9.view.read (Elt F) f9 (r81.emb x))) e1
  have eA : M9.view.read (Elt F) (M9.view.writes (Elt F) f9 [⟨r81, k0_pay13 (M1.view.readAt (Elt F) (Rect.unit ![0, 0] S640x81.size inb_S640x81_S640x81_0_0).toLoadRect f1) (fun x => M9.view.read (Elt F) f9 (r81.emb x))⟩])
      = accNext i (M1.view.read (Elt F) f1) (M9.view.read (Elt F) f9) := by
    rw [accNext, accBase, if_neg h1]
    exact (read_overlay _ _ _ _ _).trans (congrArg _ e13)
  have e43 := (View.readAt_full M9.view (M9.view.writes (Elt F) f9 [⟨r81, k0_pay13 (M1.view.readAt (Elt F) (Rect.unit ![0, 0] S640x81.size inb_S640x81_S640x81_0_0).toLoadRect f1) (fun x => M9.view.read (Elt F) f9 (r81.emb x))⟩]) (off := ![0, 0]) inb_S1x128_S1x128_0_0).trans eA
  have e48 := (View.readAt_writes_of_cover M9.view f9 [⟨r81, k0_pay13 (M1.view.readAt (Elt F) (Rect.unit ![0, 0] S640x81.size inb_S640x81_S640x81_0_0).toLoadRect f1) (fun x => M9.view.read (Elt F) f9 (r81.emb x))⟩] r1.toLoadRect
    (fun j => ⟨_, List.mem_singleton.2 rfl, r1_mem j⟩)).symm.trans (funext fun x => congrFun eA (r1.emb x))
  refine ⟨?_, ?_, ?_, ?_, ?_, ?_, ?_⟩
  · rw [chunkNext, if_pos h2]
    exact (read_overlay _ _ _ _ _).trans (congrArg (r384.overlay · _) ((read_overlay _ _ _ _ _).trans (congrArg _ (congrArg₂ k0_pay11 e1 e2))))
  · rw [chunkNext, if_pos h2]
    exact (read_overlay _ _ _ _ _).trans (congrArg (r384.overlay · _) ((read_overlay _ _ _ _ _).trans (congrArg _ (congrArg k0_pay10 e1))))
  · rw [atLast, if_pos h2]
    exact (read_overlay _ _ _ _ _).trans ((overlay_full _ _ _).trans (congrArg k0_pay7 e43))
  · rw [atLast, if_pos h2]
    refine (read_overlay _ _ _ _ _).trans ((overlay_full _ _ _).trans (congrArg₂ k0_pay8 e43 ?_))
    exact e48
  · rw [atLast, if_pos h2]
    refine (read_overlay _ _ _ _ _).trans ((overlay_full _ _ _).trans (congrArg k0_pay2 (congrArg₂ k0_pay6 e43 ?_)))
    exact e48
  · rw [atLast, if_pos h2]
    exact (read_overlay _ _ _ _ _).trans ((overlay_full _ _ _).trans (congrArg k0_pay1 (congrArg k0_pay7 e43)))
  · exact eA

/-- The body at any point. -/
theorem body0 (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗
        (∀ g3 g4 g5 g6 g7 g8 g9, iprop(⌜Left c i M1 M2 M3 M4 M5 M6 M7 M8 M9 f1 f2 f3 f4 f5 f6 f7 f8 f9 g3 g4 g5 g6 g7 g8 g9⌝
          ∗ pt c M1 f1 ∗ pt c M2 f2 ∗ pt c M3 g3 ∗ pt c M4 g4 ∗ pt c M5 g5 ∗ pt c M6 g6 ∗ pt c M7 g7 ∗ pt c M8 g8 ∗ pt c M9 g9) -∗ Q ⟨⟩))
      ⊢ wp frame (wpE (defs₀ (F := F)) 𝒱₀ c none) E (cc0__stats_body i M1 w1 M2 w2 M3 w3 M4 w4 M5 w5 M6 w6 M7 w7 M8 w8 M9 w9) Q := by
  by_cases h1 : isFirst i
  · have h2 : ¬ k0_cond2 i = 1#1 := by rw [isLast_iff, (isFirst_iff i).1 h1]; decide
    exact body0_first c i M1 w1 M2 w2 M3 w3 M4 w4 M5 w5 M6 w6 M7 w7 M8 w8 M9 w9 f1 f2 f3 f4 f5 f6 f7 f8 f9 h1 h2 E Q
  · by_cases h2 : k0_cond2 i = 1#1
    · exact body0_last c i M1 w1 M2 w2 M3 w3 M4 w4 M5 w5 M6 w6 M7 w7 M8 w8 M9 w9 f1 f2 f3 f4 f5 f6 f7 f8 f9 h1 h2 E Q
    · exact body0_mid c i M1 w1 M2 w2 M3 w3 M4 w4 M5 w5 M6 w6 M7 w7 M8 w8 M9 w9 f1 f2 f3 f4 f5 f6 f7 f8 f9 h1 h2 E Q

end Body

end Cert.Proof.Run

end
-- ==== Proof.Run.StatsSeg.lean ====
/-
  The first TensorCore call: its results in closed form, its proof data and its region.
-/
module

public import proofs.«01_k».proof.Proof.Run.Stats
public import Idealize.ShloMosaic.Lib.Pipeline.ValueKit.Geometry
public import Idealize.ShloMosaic.Lib.Pipeline.ArrRel
public import Idealize.ShloMosaic.Lib.Pipeline.Regions

@[expose] public section

noncomputable section

namespace Cert.Proof.Run

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [Named F]

local notation "𝕄" => MT nD τ sig (HIx 1) (Elt F) ℕ UU ℕ

/-- A whole buffer held is its memref owned at what it reads. -/
theorem pt_owns (c : Dev nD) {sp : Space} {S : Shape} {e : EltTy} (M : Memref sig .tc sp S e) (hM : M.IsWhole) (f : Bf (F := F) c M) :
    (pt c M f : sProp 𝕄) ⊢ owns (c : Thread nD τ) M fullShare (M.view.read (Elt F) f) := by
  rw [owns_pt c M hM]
  iintro H
  iexists f
  isplitr; · ipureintro; rfl
  iexact H

/-! ### Blocks of rows -/

/-- Row `640 t + r`. -/
def rowIx (t : ℕ) (ht : t < 25) (r : Fin 640) : Fin 16000 := ⟨640 * t + r.val, by have := r.isLt; omega⟩

/-- Rows `640 t …` of a 16000 × 81 array, of a 16000 × 324 array. -/
def rows81 {α : Type} (x : S16000x81.Idx → α) (t : ℕ) (ht : t < 25) : S640x81.Idx → α :=
  fun j => x fun | 0 => rowIx t ht (j 0) | 1 => j 1
def rows324 {α : Type} (x : S16000x324.Idx → α) (t : ℕ) (ht : t < 25) : S640x324.Idx → α :=
  fun j => x fun | 0 => rowIx t ht (j 0) | 1 => j 1

theorem coords0 : ∀ t : Fin grid0.N, (grid0.coords t 0).val = t.val := by decide +kernel
theorem coords1 : ∀ t : Fin grid1.N, (grid1.coords t 0).val = t.val := by decide +kernel
theorem lt25 (t : Fin grid0.N) : t.val < 25 := t.isLt
theorem lt25' (t : Fin grid1.N) : t.val < 25 := t.isLt

/-! ### The vectors of 16384, made point by point -/

/-- Places `640 t …` from `P t`, the last 384 from `pad`. -/
def chunkF {α : Type} (P : (t : ℕ) → t < 25 → S640.Idx → α) (pad : S384.Idx → α) : S16384.Idx → α := fun j =>
  if h : (j 0).val < 16000 then P ((j 0).val / 640) (by omega) (fun | 0 => ⟨(j 0).val % 640, Nat.mod_lt _ (by decide)⟩)
  else pad (fun | 0 => ⟨(j 0).val - 16000, by have : (j 0).val < 16384 := (j 0).isLt; show _ < 384; omega⟩)

theorem mem_r640 (i : grid0.Coords) (j : S16384.Idx) : j ∈ (r640 i).set ↔ 640 * (i 0).val ≤ (j 0).val ∧ (j 0).val < 640 * (i 0).val + 640 := by
  rw [Rect.mem_set_unit]
  have e : k0_off1 i 0 = 640 * (i 0).val := congrFun (k0_off1_eq i) 0
  constructor
  · intro h; have := h 0; rw [e] at this; exact this
  · intro h a; obtain rfl : a = 0 := Subsingleton.elim _ _; rw [e]; exact h

theorem mem_r384 (j : S16384.Idx) : j ∈ r384.set ↔ 16000 ≤ (j 0).val := by
  rw [Rect.mem_set_unit]
  constructor
  · intro h; exact (h 0).1
  · intro h a; obtain rfl : a = 0 := Subsingleton.elim _ _
    exact ⟨h, by have : (j 0).val < 16384 := (j 0).isLt; show _ < 16000 + 384; omega⟩

/-- One point's stores carry the closed form on from its first `640 t` places to `640 (t + 1)`, at the last to all. -/
theorem chunkNext_spec {α : Type} (i : grid0.Coords) (hi : (i 0).val < 25) (P : (t : ℕ) → t < 25 → S640.Idx → α) (pad : S384.Idx → α) (Y : S16384.Idx → α)
    (hY : ∀ j : S16384.Idx, (j 0).val < 640 * (i 0).val → Y j = chunkF P pad j) (j : S16384.Idx)
    (hj : (j 0).val < 640 * ((i 0).val + 1) ∨ (i 0).val = 24) :
    chunkNext i (P (i 0).val hi) pad Y j = chunkF P pad j := by
  have inner : (j 0).val < 640 * ((i 0).val + 1) → (r640 i).overlay Y (P (i 0).val hi) j = chunkF P pad j := by
    intro hj
    by_cases hm : j ∈ (r640 i).set
    · obtain ⟨x, hx'⟩ := (r640 i).exists_idx_of_mem hm
      obtain rfl : j = (r640 i).emb x := hx'.symm
      refine (Rect.overlay_emb _ _ _ _).trans ?_
      have hv : ((r640 i).emb x 0).val = 640 * (i 0).val + (x 0).val := by
        have : ((r640 i).emb x 0).val = k0_off1 i 0 + 1 * (x 0).val := rfl
        rw [this, congrFun (k0_off1_eq i) 0]; show 640 * (i 0).val + 1 * (x 0).val = _; omega
      have hx : (x 0).val < 640 := (x 0).isLt
      unfold chunkF
      rw [dif_pos (by rw [hv]; omega)]
      have hd : ((r640 i).emb x 0).val / 640 = (i 0).val := by rw [hv]; omega
      have hr : ((r640 i).emb x 0).val % 640 = (x 0).val := by rw [hv]; omega
      have hP : ∀ (a b : ℕ) (ha : a < 25) (hb : b < 25) (y z : S640.Idx), a = b → y = z → P a ha y = P b hb z := by
        intro a b ha hb y z h1 h2; subst h1; subst h2; rfl
      refine hP _ _ _ _ _ _ hd.symm (funext fun a => Fin.ext ?_)
      obtain rfl : a = 0 := Subsingleton.elim _ _
      exact hr.symm
    · rw [Rect.overlay_of_not_mem _ _ _ hm]
      rw [mem_r640] at hm
      exact hY j (by omega)
  unfold chunkNext
  split
  next hl =>
    have h24 := (isLast_iff i).1 hl
    by_cases hm : j ∈ r384.set
    · have hge := (mem_r384 j).1 hm
      obtain ⟨x, hx'⟩ := r384.exists_idx_of_mem hm
      obtain rfl : j = r384.emb x := hx'.symm
      refine (Rect.overlay_emb _ _ _ _).trans ?_
      unfold chunkF
      rw [dif_neg (by omega)]
      refine congrArg pad (funext fun a => Fin.ext ?_)
      obtain rfl : a = 0 := Subsingleton.elim _ _
      have : (r384.emb x 0).val = 16000 + 1 * (x 0).val := rfl
      show (x 0).val = (r384.emb x 0).val - 16000
      omega
    · rw [Rect.overlay_of_not_mem _ _ _ hm]
      rw [mem_r384] at hm
      exact inner (by omega)
  next hl =>
    have h24 : (i 0).val ≠ 24 := fun h => hl ((isLast_iff i).2 h)
    exact inner (by omega)

/-! ### The results in closed form, over the two arrays the call reads -/

section Values

variable (ts os : S16000x81.Idx → F .f32)

/-- The accumulator before point `t`. -/
def accF : (t : ℕ) → t ≤ 25 → S1x128.Idx → F .f32
  | 0, _ => k0_pay12 (F := F)
  | t + 1, h => r81.overlay (accF t (by omega)) (k0_pay13 (rows81 ts t (by omega)) fun x => accF t (by omega) (r81.emb x))

def accEnd : S1x128.Idx → F .f32 := accF ts 25 le_rfl

/-- The labels, the negated logs of the normalised outputs. -/
def labV : S16384.Idx → BitVec 32 := chunkF (fun t ht => k0_pay10 (rows81 ts t ht)) k0_pay3
def nlV : S16384.Idx → F .f32 := chunkF (fun t ht => k0_pay11 (rows81 ts t ht) (rows81 os t ht)) (k0_pay4 (F := F))

theorem rows81_congr {α : Type} (x : S16000x81.Idx → α) (a b : ℕ) (ha : a < 25) (hb : b < 25) (h : a = b) : rows81 x a ha = rows81 x b hb := by subst h; rfl
theorem accF_congr (a b : ℕ) (ha : a ≤ 25) (hb : b ≤ 25) (h : a = b) : accF ts a ha = accF ts b hb := by subst h; rfl

theorem accNext_step (i : grid0.Coords) (hi : (i 0).val < 25) (A : S1x128.Idx → F .f32) (hA : (i 0).val = 0 ∨ A = accF ts (i 0).val (by omega)) :
    accNext i (rows81 ts (i 0).val hi) A = accF ts ((i 0).val + 1) hi := by
  have hb : accBase i A = accF ts (i 0).val (by omega) := by
    unfold accBase
    split
    next h =>
      have h0 := (isFirst_iff i).1 h
      have : ∀ (n : ℕ) (hn : n ≤ 25), n = 0 → k0_pay12 (F := F) = accF ts n hn := by intro n hn h; subst h; rfl
      exact this _ _ h0
    next h => exact hA.resolve_left fun h0 => h ((isFirst_iff i).2 h0)
  unfold accNext
  rw [hb]; rfl

end Values

/-! ### The proof data -/

abbrev adm : (p : Fin 2) → (pcfgs (F := F) p).Adm := fun q => (cfgs q).toPCfg_adm

/-- Proof data for a pipeline an entry does not run. -/
def junkDat {cfg : Pipeline.Cfg sig Λ₀} (c : Dev nD) : RDat τ (Elt F) (HIx 1) ℕ UU ℕ cfg c where
  A _ := fun _ => Classical.arbitrary _
  after _ _ _ _ := True
  Φ _ := BI.emp
  q _ := fullShare
  owed _ := 0

/-- What the TensorCore's waits may have recorded before the SparseCore call. -/
def recTc (c : Dev nD) : Set (SemLoc sig × HIx 1) := {p | (K (F := F)).lev ((c : Thread nD τ), p.1) p.2 ≤ 0}

/-- What a core owes at a pipeline's entry and exit, as the handshakes state it. -/
abbrev tcOwes (c : Dev nD) : sProp 𝕄 :=
  iprop(∃ W, ⌜(K (F := F)).WBelow (T c) W (8 * 0)⌝ ∗ owes (T c) ((K (F := F)).Otc c 0) W)

theorem Otc_none (c : Dev nD) (g) : (K (F := F)).Otc c 0 g none = 0 := by
  by_contra h
  have := SparseCore.Cfg.lev_of_Otc_pos (K := K (F := F)) (Nat.pos_of_ne_zero h)
  rw [SparseCore.Cfg.lev_none] at this
  omega

/-- A TensorCore buffer held whole. -/
abbrev at' (c : Dev nD) (b : Ref sig .tc) (f : Buf (Elt F) ((c : Thread nD τ).loc b)) : sProp 𝕄 := ((c : Thread nD τ).loc b) ↦{fullShare} f

/-- A pipeline's tallies at its ends are the handshakes' statement of what the core owes. -/
theorem owesIn (c : Dev nD) (B : Set (SemLoc sig × HIx 1)) : tcOwes (F := F) c ⊢ Pipeline.owesWithin c ((K (F := F)).Otc c 0) (recTc (F := F) c ∪ B) := by
  unfold Pipeline.owesWithin
  iintro ⟨%W, %hW, HO⟩
  iexists W
  isplitr; · ipureintro; exact fun p hp => .inl (hW p hp)
  iexact HO

theorem wbelow_of (c : Dev nD) (cfg : Pipeline.Cfg sig Λ₀) (W : Waits sig (HIx 1)) (hW : (↑W : Set _) ⊆ recTc (F := F) c ∪ cfg.waitPairs none) :
    (K (F := F)).WBelow (T c) W (8 * 0) := by
  intro p hp
  rcases hW hp with h | ⟨w, s, h⟩
  · exact h
  · rw [h]; exact le_rfl

section Data

variable (x0 : (c : Dev nD) → S16000x81.Idx → F .f32) (x1 : (c : Dev nD) → S16000x81.Idx → F .f32)
    (o2 : (c : Dev nD) → S16384.Idx → F .f32) (o3 : (c : Dev nD) → S16384.Idx → BitVec 32) (o4 o5 : (c : Dev nD) → S1x128.Idx → F .f32)
    (o6 : (c : Dev nD) → S1x16.Idx → F .f32) (o7 : (c : Dev nD) → S128.Idx → F .f32)

/-- The scratch accumulator before point `n`, and the scoped buffers this call does not touch. -/
def Φ0 (c : Dev nD) (n : ℕ) (hn : n ≤ 25) : sProp 𝕄 :=
  iprop((∃ f : Bf (F := F) c (Memref.whole cc0_scratch0), ⌜n = 0 ∨ (Memref.whole cc0_scratch0).view.read (Elt F) f = accF (x0 c) n hn⌝ ∗ pt c (Memref.whole cc0_scratch0) f)
    ∗ (∃ f, ((c : Thread nD τ).loc cc1_stg0_0) ↦{fullShare} f) ∗ (∃ f, ((c : Thread nD τ).loc cc1_stg0_1) ↦{fullShare} f)
    ∗ (∃ f, ((c : Thread nD τ).loc cc1_stg1_0) ↦{fullShare} f) ∗ (∃ f, ((c : Thread nD τ).loc cc1_stg1_1) ↦{fullShare} f)
    ∗ (∃ f, ((c : Thread nD τ).loc cc1_stg2_0) ↦{fullShare} f) ∗ (∃ f, ((c : Thread nD τ).loc cc1_stg2_1) ↦{fullShare} f)
    ∗ (∃ f, ((c : Thread nD τ).loc cc1_stg3_0) ↦{fullShare} f) ∗ (∃ f, ((c : Thread nD τ).loc cc1_stg4_0) ↦{fullShare} f)
    ∗ (∃ f, ((c : Thread nD τ).loc cc1_stg5_0) ↦{fullShare} f) ∗ (∃ f, ((c : Thread nD τ).loc cc1_scratch0) ↦{fullShare} f))

def rdat0 (c : Dev nD) : RDat τ (Elt F) (HIx 1) ℕ UU ℕ cfg0 c where
  A w := match w with
    | ⟨0, _⟩ => x0 c | ⟨1, _⟩ => x1 c | ⟨2, _⟩ => o2 c | ⟨3, _⟩ => o3 c | ⟨4, _⟩ => o4 c | ⟨5, _⟩ => o5 c | ⟨6, _⟩ => o6 c | ⟨7, _⟩ => o7 c
  after w t _ X := match w with
    | ⟨0, _⟩ => True
    | ⟨1, _⟩ => True
    | ⟨2, _⟩ => ∀ j : S16384.Idx, (j 0).val < 640 * (t.val + 1) ∨ t.val = 24 → X j = nlV (x0 c) (x1 c) j
    | ⟨3, _⟩ => ∀ j : S16384.Idx, (j 0).val < 640 * (t.val + 1) ∨ t.val = 24 → X j = labV (x0 c) j
    | ⟨4, _⟩ => t.val = 24 → X = wOf (accEnd (x0 c))
    | ⟨5, _⟩ => t.val = 24 → X = w2Of (accEnd (x0 c))
    | ⟨6, _⟩ => t.val = 24 → X = auxOf (accEnd (x0 c))
    | ⟨7, _⟩ => t.val = 24 → X = wflatOf (accEnd (x0 c))
  Φ t := Φ0 x0 c t.val (Nat.le_of_lt_succ t.isLt)
  q _ := fullShare
  owed _ := (K (F := F)).Otc c 0
  recorded _ := recTc (F := F) c

theorem index0_0 : ∀ t : Fin grid0.N, win0_0.index t 0 = t.val ∧ win0_0.index t 1 = 0 := by decide +kernel
theorem index0_1 : ∀ t : Fin grid0.N, win0_1.index t 0 = t.val ∧ win0_1.index t 1 = 0 := by decide +kernel

theorem fetched0_0 (c : Dev nD) (t : Fin cfg0.N) (d) : (rdat0 x0 x1 o2 o3 o4 o5 o6 o7 c).fetched 0 t d = rows81 (x0 c) t.val (lt25 t) := by
  funext j
  have hm : (cfg0.win 0).moved (cfg0.grid.coords t) j = true :=
    ((cfg0.win 0).moved_iff _ j).mpr fun a => (j a).isLt
  unfold RDat.fetched Pipeline.Window.fill
  rw [dif_pos hm]
  unfold RDat.blockOf
  refine (View.read_apply _ _).trans ((cast_eq _ _).trans (congrArg (x0 c) (funext fun a => Fin.ext ?_)))
  refine (Pipeline.Window.rect_emb_val (cfg0.win 0) t _ a).trans ?_
  fin_cases a
  · show win0_0.index t 0 * 640 + (j 0).val = 640 * t.val + (j 0).val
    rw [(index0_0 t).1]; omega
  · show win0_0.index t 1 * 81 + (j 1).val = (j 1).val
    rw [(index0_0 t).2]; omega

theorem fetched0_1 (c : Dev nD) (t : Fin cfg0.N) (d) : (rdat0 x0 x1 o2 o3 o4 o5 o6 o7 c).fetched 1 t d = rows81 (x1 c) t.val (lt25 t) := by
  funext j
  have hm : (cfg0.win 1).moved (cfg0.grid.coords t) j = true :=
    ((cfg0.win 1).moved_iff _ j).mpr fun a => (j a).isLt
  unfold RDat.fetched Pipeline.Window.fill
  rw [dif_pos hm]
  unfold RDat.blockOf
  refine (View.read_apply _ _).trans ((cast_eq _ _).trans (congrArg (x1 c) (funext fun a => Fin.ext ?_)))
  refine (Pipeline.Window.rect_emb_val (cfg0.win 1) t _ a).trans ?_
  fin_cases a
  · show win0_1.index t 0 * 640 + (j 0).val = 640 * t.val + (j 0).val
    rw [(index0_1 t).1]; omega
  · show win0_1.index t 1 * 81 + (j 1).val = (j 1).val
    rw [(index0_1 t).2]; omega

theorem found0_out (c : Dev nD) (t : Fin cfg0.N) (w : Fin cfg0.W) (hw : (cfg0.win w).isOut = true) (hfl : ∀ u : Fin cfg0.N, (cfg0.win w).flush u = true ↔ u.val % 25 = 24)
    (Y) (hY : (rdat0 x0 x1 o2 o3 o4 o5 o6 o7 c).Finds w t Y) : t.val = 0 ∨ ∃ u : Fin cfg0.N, u.val + 1 = t.val ∧ ∃ Y', (rdat0 x0 x1 o2 o3 o4 o5 o6 o7 c).after w u Y' Y := by
  by_cases h0 : t.val = 0
  · exact .inl h0
  · have ht := lt25 t
    rcases ((rdat0 x0 x1 o2 o3 o4 o5 o6 o7 c).finds_of_pos ((cfg0.win w).fetch_out hw t) h0 Y).1 hY with h | ⟨Y', -, h⟩
    · have := (hfl _).1 h
      simp only at this
      omega
    · exact .inr ⟨_, by simp only; omega, Y', h⟩

set_option maxHeartbeats 1000000 in
theorem obl0 (c : Dev nD) : (rdat0 x0 x1 o2 o3 o4 o5 o6 o7 c).BodyObligation (defs₀ (F := F)) 𝒱₀ none Set.univ := fun t Y hY => by
  have y0 : Y 0 = rows81 (x0 c) t.val (lt25 t) := by
    obtain ⟨d, h⟩ := ((rdat0 x0 x1 o2 o3 o4 o5 o6 o7 c).finds_of_fetch (fetch0_0 t) _).1 (hY 0)
    exact h.trans (fetched0_0 x0 x1 o2 o3 o4 o5 o6 o7 c t d)
  have y1 : Y 1 = rows81 (x1 c) t.val (lt25 t) := by
    obtain ⟨d, h⟩ := ((rdat0 x0 x1 o2 o3 o4 o5 o6 o7 c).finds_of_fetch (fetch0_1 t) _).1 (hY 1)
    exact h.trans (fetched0_1 x0 x1 o2 o3 o4 o5 o6 o7 c t d)
  have y2 : ∀ j : S16384.Idx, (j 0).val < 640 * t.val → Y 2 j = nlV (x0 c) (x1 c) j := fun j hj => by
    rcases found0_out x0 x1 o2 o3 o4 o5 o6 o7 c t 2 rfl flush0_2 _ (hY 2) with h | ⟨u, hu, Y', h⟩
    · rw [h] at hj; exact absurd hj (Nat.not_lt_zero _)
    · exact h j (.inl (by rw [hu]; exact hj))
  have y3 : ∀ j : S16384.Idx, (j 0).val < 640 * t.val → Y 3 j = labV (x0 c) j := fun j hj => by
    rcases found0_out x0 x1 o2 o3 o4 o5 o6 o7 c t 3 rfl flush0_3 _ (hY 3) with h | ⟨u, hu, Y', h⟩
    · rw [h] at hj; exact absurd hj (Nat.not_lt_zero _)
    · exact h j (.inl (by rw [hu]; exact hj))
  have hc := coords0 t
  rw [bigSep_W0, bigSep_W0]
  rw [show (rdat0 x0 x1 o2 o3 o4 o5 o6 o7 c).Φ t.castSucc = Φ0 x0 c t.val (Nat.le_of_lt (lt25 t)) from rfl, show (rdat0 x0 x1 o2 o3 o4 o5 o6 o7 c).Φ t.succ = Φ0 x0 c (t.val + 1) (lt25 t) from rfl,
    show (rdat0 x0 x1 o2 o3 o4 o5 o6 o7 c).owesAt none t.succ = (rdat0 x0 x1 o2 o3 o4 o5 o6 o7 c).owesAt none t.castSucc from rfl]
  rw [owns_pt c _ (stage_whole0 0 _) (Y 0), owns_pt c _ (stage_whole0 1 _) (Y 1), owns_pt c _ (stage_whole0 2 _) (Y 2), owns_pt c _ (stage_whole0 3 _) (Y 3),
    owns_pt c _ (stage_whole0 4 _) (Y 4), owns_pt c _ (stage_whole0 5 _) (Y 5), owns_pt c _ (stage_whole0 6 _) (Y 6), owns_pt c _ (stage_whole0 7 _) (Y 7)]
  show _ ⊢ wp frame (wpE (defs₀ (F := F)) 𝒱₀ c none) Set.univ (bodyAt0 t) _
  unfold Φ0
  iintro ⟨⟨⟨%f9, %e9, H9⟩, Hr⟩, Ho, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩
  iapply (body0 (F := F) c (grid0.coords t) _ _ _ _ _ _ _ _ _ _ _ _ _ _ _ _ _ _ f1 f2 f3 f4 f5 f6 f7 f8 f9 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro %g3 %g4 %g5 %g6 %g7 %g8 %g9 ⟨%hL, H1, H2, H3, H4, H5, H6, H7, H8, H9⟩
  obtain ⟨l3, l4, l5, l6, l7, l8, l9⟩ := hL
  have hi : ((grid0.coords t) 0).val < 25 := by rw [hc]; exact lt25 t
  have r1 := e1.trans (y0.trans (rows81_congr (x0 c) _ _ (lt25 t) hi hc.symm))
  have r2 := e2.trans (y1.trans (rows81_congr (x1 c) _ _ (lt25 t) hi hc.symm))
  rw [r1, r2] at l3
  rw [r1] at l4 l5 l6 l7 l8 l9
  have hA := accNext_step (x0 c) (grid0.coords t) hi ((Memref.whole cc0_scratch0).view.read (Elt F) f9)
    (e9.imp (hc.trans ·) fun h => h.trans (accF_congr (x0 c) _ _ _ _ hc.symm))
  rw [hA] at l5 l6 l7 l8 l9
  have hlast : t.val = 24 → accF (x0 c) (((grid0.coords t) 0).val + 1) hi = accEnd (x0 c) := fun h =>
    accF_congr (x0 c) _ _ _ _ (by rw [hc, h])
  have hcond : t.val = 24 → k0_cond2 (grid0.coords t) = 1#1 := fun h => (isLast_iff _).2 (hc.trans h)
  isplitl [H9 Hr]
  · isplitl [H9]
    · iexists g9
      isplitr; · ipureintro; exact .inr (l9.trans (accF_congr (x0 c) _ _ _ _ (by rw [hc])))
      iexact H9
    iexact Hr
  isplitl [Ho]; · iexact Ho
  isplitl [H1]
  · iexists _; isplitr; swap; · iapply (pt_owns c _ (stage_whole0 0 _) f1) $$ H1
    ipureintro; trivial
  isplitl [H2]
  · iexists _; isplitr; swap; · iapply (pt_owns c _ (stage_whole0 1 _) f2) $$ H2
    ipureintro; trivial
  isplitl [H3]
  · iexists _; isplitr; swap; · iapply (pt_owns c _ (stage_whole0 2 _) g3) $$ H3
    ipureintro
    intro j hj
    refine (congrFun l3 j).trans (chunkNext_spec (grid0.coords t) hi (fun t ht => k0_pay11 (rows81 (x0 c) t ht) (rows81 (x1 c) t ht)) _ _ (fun j hj => ?_) j (by rw [hc]; exact hj))
    exact (congrFun e3 j).trans (y2 j (by rw [hc] at hj; exact hj))
  isplitl [H4]
  · iexists _; isplitr; swap; · iapply (pt_owns c _ (stage_whole0 3 _) g4) $$ H4
    ipureintro
    intro j hj
    refine (congrFun l4 j).trans (chunkNext_spec (grid0.coords t) hi (fun t ht => k0_pay10 (rows81 (x0 c) t ht)) _ _ (fun j hj => ?_) j (by rw [hc]; exact hj))
    exact (congrFun e4 j).trans (y3 j (by rw [hc] at hj; exact hj))
  isplitl [H5]
  · iexists _; isplitr; swap; · iapply (pt_owns c _ (stage_whole0 4 _) g5) $$ H5
    ipureintro; intro h; exact l5.trans ((if_pos (hcond h)).trans (congrArg wOf (hlast h)))
  isplitl [H6]
  · iexists _; isplitr; swap; · iapply (pt_owns c _ (stage_whole0 5 _) g6) $$ H6
    ipureintro; intro h; exact l6.trans ((if_pos (hcond h)).trans (congrArg w2Of (hlast h)))
  isplitl [H7]
  · iexists _; isplitr; swap; · iapply (pt_owns c _ (stage_whole0 6 _) g7) $$ H7
    ipureintro; intro h; exact l7.trans ((if_pos (hcond h)).trans (congrArg auxOf (hlast h)))
  · iexists _; isplitr; swap; · iapply (pt_owns c _ (stage_whole0 7 _) g8) $$ H8
    ipureintro; intro h; exact l8.trans ((if_pos (hcond h)).trans (congrArg wflatOf (hlast h)))

/-! ### The region -/

theorem wholeAt0 (w : Fin cfg0.W) (hw : 2 ≤ w.val) : (cfg0.win w).WholeAt (⟨24, by decide⟩ : Fin grid0.N) := by
  revert w; decide +kernel

theorem arrEnd0 (c : Dev nD) (w : Fin cfg0.W) (hw : 2 ≤ w.val) (G) (hG : (rdat0 x0 x1 o2 o3 o4 o5 o6 o7 c).ArrAt w cfg0.N G) :
    ∃ X, (∃ Y, (rdat0 x0 x1 o2 o3 o4 o5 o6 o7 c).after w (⟨24, by decide⟩ : Fin grid0.N) Y X) ∧ ∀ j : (cfg0.win w).shape.Idx,
      G ((cfg0.win w).arr.view.emb j) = _root_.cast (congrArg (Elt F) (cfg0.win w).arr.view.elt_eq.symm) (X fun a => ⟨j a, (wholeAt0 w hw).lt_size j a⟩) := by
  obtain ⟨X, ⟨Y, -, hX⟩, h⟩ := RDat.ArrAt.emb_eq_of_wholeAt hG (wholeAt0 w hw)
  exact ⟨X, ⟨Y, hX⟩, h⟩

theorem end0_2 (c : Dev nD) (G : S16384.Idx → F .f32) (hG : (rdat0 x0 x1 o2 o3 o4 o5 o6 o7 c).ArrAt 2 cfg0.N G) : G = nlV (x0 c) (x1 c) := by
  obtain ⟨X, ⟨Y, hX⟩, h⟩ := arrEnd0 x0 x1 o2 o3 o4 o5 o6 o7 c 2 (by decide) G hG
  funext j
  exact (h j).trans (hX j (.inr rfl))

theorem end0_3 (c : Dev nD) (G : S16384.Idx → BitVec 32) (hG : (rdat0 x0 x1 o2 o3 o4 o5 o6 o7 c).ArrAt 3 cfg0.N G) : G = labV (x0 c) := by
  obtain ⟨X, ⟨Y, hX⟩, h⟩ := arrEnd0 x0 x1 o2 o3 o4 o5 o6 o7 c 3 (by decide) G hG
  funext j
  exact (h j).trans (hX j (.inr rfl))

theorem end0_4 (c : Dev nD) (G : S1x128.Idx → F .f32) (hG : (rdat0 x0 x1 o2 o3 o4 o5 o6 o7 c).ArrAt 4 cfg0.N G) : G = wOf (accEnd (x0 c)) := by
  obtain ⟨X, ⟨Y, hX⟩, h⟩ := arrEnd0 x0 x1 o2 o3 o4 o5 o6 o7 c 4 (by decide) G hG
  funext j
  exact (h j).trans (congrFun (hX rfl) j)

theorem end0_5 (c : Dev nD) (G : S1x128.Idx → F .f32) (hG : (rdat0 x0 x1 o2 o3 o4 o5 o6 o7 c).ArrAt 5 cfg0.N G) : G = w2Of (accEnd (x0 c)) := by
  obtain ⟨X, ⟨Y, hX⟩, h⟩ := arrEnd0 x0 x1 o2 o3 o4 o5 o6 o7 c 5 (by decide) G hG
  funext j
  exact (h j).trans (congrFun (hX rfl) j)

theorem end0_6 (c : Dev nD) (G : S1x16.Idx → F .f32) (hG : (rdat0 x0 x1 o2 o3 o4 o5 o6 o7 c).ArrAt 6 cfg0.N G) : G = auxOf (accEnd (x0 c)) := by
  obtain ⟨X, ⟨Y, hX⟩, h⟩ := arrEnd0 x0 x1 o2 o3 o4 o5 o6 o7 c 6 (by decide) G hG
  funext j
  exact (h j).trans (congrFun (hX rfl) j)

theorem end0_7 (c : Dev nD) (G : S128.Idx → F .f32) (hG : (rdat0 x0 x1 o2 o3 o4 o5 o6 o7 c).ArrAt 7 cfg0.N G) : G = wflatOf (accEnd (x0 c)) := by
  obtain ⟨X, ⟨Y, hX⟩, h⟩ := arrEnd0 x0 x1 o2 o3 o4 o5 o6 o7 c 7 (by decide) G hG
  funext j
  exact (h j).trans (congrFun (hX rfl) j)

/-- The proof data by pipeline. -/
def fam0 : (p : Fin 2) → (c : Dev nD) → RDat τ (Elt F) (HIx 1) ℕ UU ℕ (Pipeline.pin (pcfgs (F := F)) adm p) c
  | ⟨0, _⟩ => fun c => rdat0 x0 x1 o2 o3 o4 o5 o6 o7 c
  | ⟨1, _⟩ => fun c => junkDat c

theorem arrays0 (c : Dev nD) : (fam0 x0 x1 o2 o3 o4 o5 o6 o7 0 c).arrays (fam0 x0 x1 o2 o3 o4 o5 o6 o7 0 c).A
    = iprop(at' c main_v0 (x0 c) ∗ at' c main_v1 (x1 c) ∗ at' c main_v2_0 (o2 c) ∗ at' c main_v2_1 (o3 c) ∗ at' c main_v2_2 (o4 c)
      ∗ at' c main_v2_3 (o5 c) ∗ at' c main_v2_4 (o6 c) ∗ at' c main_v2_5 (o7 c)) :=
  (RDat.arrays_eq (p := 0) (pcfgs (F := F)) adm (fam0 x0 x1 o2 o3 o4 o5 o6 o7) c launch0.arr_whole
      ((fam0 x0 x1 o2 o3 o4 o5 o6 o7 0 c).share_full fun _ => rfl) ((fam0 x0 x1 o2 o3 o4 o5 o6 o7 0 c).A)).trans (bigSep_W0 _)

theorem arraysAt0 (c : Dev nD) : (fam0 x0 x1 o2 o3 o4 o5 o6 o7 0 c).arraysAt (Pipeline.pin (pcfgs (F := F)) adm 0).N
    = iprop((∃ G, ⌜(rdat0 x0 x1 o2 o3 o4 o5 o6 o7 c).ArrAt 0 cfg0.N G⌝ ∗ at' c main_v0 G) ∗ (∃ G, ⌜(rdat0 x0 x1 o2 o3 o4 o5 o6 o7 c).ArrAt 1 cfg0.N G⌝ ∗ at' c main_v1 G) ∗ (∃ G, ⌜(rdat0 x0 x1 o2 o3 o4 o5 o6 o7 c).ArrAt 2 cfg0.N G⌝ ∗ at' c main_v2_0 G)
      ∗ (∃ G, ⌜(rdat0 x0 x1 o2 o3 o4 o5 o6 o7 c).ArrAt 3 cfg0.N G⌝ ∗ at' c main_v2_1 G) ∗ (∃ G, ⌜(rdat0 x0 x1 o2 o3 o4 o5 o6 o7 c).ArrAt 4 cfg0.N G⌝ ∗ at' c main_v2_2 G) ∗ (∃ G, ⌜(rdat0 x0 x1 o2 o3 o4 o5 o6 o7 c).ArrAt 5 cfg0.N G⌝ ∗ at' c main_v2_3 G)
      ∗ (∃ G, ⌜(rdat0 x0 x1 o2 o3 o4 o5 o6 o7 c).ArrAt 6 cfg0.N G⌝ ∗ at' c main_v2_4 G) ∗ (∃ G, ⌜(rdat0 x0 x1 o2 o3 o4 o5 o6 o7 c).ArrAt 7 cfg0.N G⌝ ∗ at' c main_v2_5 G)) :=
  (RDat.arraysAt_eq (p := 0) (pcfgs (F := F)) adm (fam0 x0 x1 o2 o3 o4 o5 o6 o7) c launch0.arr_whole
      ((fam0 x0 x1 o2 o3 o4 o5 o6 o7 0 c).share_full fun _ => rfl) _).trans (bigSep_W0 _)

set_option backward.isDefEq.respectTransparency.types false in
/-- The first call's region: from its eight arrays, to the six results in closed form. -/
def reg0 : RDat.RegionSeg (pcfgs (F := F)) adm (fam0 x0 x1 o2 o3 o4 o5 o6 o7) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := obl0 x0 x1 o2 o3 o4 o5 o6 o7 c
  hwaits c := RDat.cellsWaits_intro (Pipeline.pin pcfgs adm) (fam0 x0 x1 o2 o3 o4 o5 o6 o7) none 0 c fun w s t => (K (F := F)).mayWait_none _ (Otc_none c)
  pre c := iprop(at' c main_v0 (x0 c) ∗ at' c main_v1 (x1 c) ∗ at' c main_v2_0 (o2 c) ∗ at' c main_v2_1 (o3 c) ∗ at' c main_v2_2 (o4 c)
    ∗ at' c main_v2_3 (o5 c) ∗ at' c main_v2_4 (o6 c) ∗ at' c main_v2_5 (o7 c) ∗ tcOwes c)
  post c := iprop(at' c main_v0 (x0 c) ∗ at' c main_v1 (x1 c) ∗ at' c main_v2_0 (nlV (x0 c) (x1 c)) ∗ at' c main_v2_1 (labV (x0 c)) ∗ at' c main_v2_2 (wOf (accEnd (x0 c)))
    ∗ at' c main_v2_3 (w2Of (accEnd (x0 c))) ∗ at' c main_v2_4 (auxOf (accEnd (x0 c))) ∗ at' c main_v2_5 (wflatOf (accEnd (x0 c))) ∗ tcOwes c)
  X _ := BI.emp
  Y _ := BI.emp
  Z _ := BI.emp
  hentry c := by
    rw [Pipeline.ownSems0_none, arrays0 x0 x1 o2 o3 o4 o5 o6 o7 c]
    iintro ⟨⟨H0, H1, H2, H3, H4, H5, H6, H7, HO⟩, -, -⟩
    imodintro
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitr; · unfold Pipeline.prefHeld; rw [show (Finset.univ : Finset (Fin 0)) = ∅ from rfl, BI.bigSep_empty]; iempintro
    isplitl [HO]
    · iapply (owesIn c _) $$ HO
    isplitr
    · iempintro
    iempintro
  hin c := by
    rw [show (fam0 x0 x1 o2 o3 o4 o5 o6 o7 0 c).Φ 0 = Φ0 x0 c 0 (Nat.zero_le _) from rfl]
    rw [show Pipeline.scopedRest (Pipeline.pin (pcfgs (F := F)) adm 0).spec c = (Pipeline.scopedRest (Ix := HIx 1) (Name := ℕ) (U := UU) (Lvl := ℕ) (Val := Elt F) spec0 c : sProp 𝕄) from rfl, scopedRest0_eq]
    unfold Φ0
    iintro ⟨-, -, ⟨%f, H⟩, Hr⟩
    isplitl [H]
    · iexists f
      isplitr; · ipureintro; exact .inl rfl
      iexact H
    iexact Hr
  hout c := by
    rw [Pipeline.ownSems0_none, show (fam0 x0 x1 o2 o3 o4 o5 o6 o7 0 c).Φ (Fin.last _) = Φ0 x0 c 25 le_rfl from rfl]
    rw [show Pipeline.scopedRest (Pipeline.pin (pcfgs (F := F)) adm 0).spec c = (Pipeline.scopedRest (Ix := HIx 1) (Name := ℕ) (U := UU) (Lvl := ℕ) (Val := Elt F) spec0 c : sProp 𝕄) from rfl, scopedRest0_eq]
    unfold Φ0
    iintro ⟨⟨%f, -, H⟩, Hr⟩
    isplitr; · iempintro
    isplitr; · iempintro
    isplitl [H]; · iexists f; iexact H
    iexact Hr
  hexit c := by
    rw [arraysAt0 x0 x1 o2 o3 o4 o5 o6 o7 c]
    rw [show (fam0 x0 x1 o2 o3 o4 o5 o6 o7 0 c).owesAt none (Fin.last (Pipeline.pin (pcfgs (F := F)) adm 0).N)
      = (Pipeline.owesWithin c ((K (F := F)).Otc c 0) (recTc (F := F) c ∪ cfg0.waitPairs none) : sProp 𝕄) from rfl]
    unfold Pipeline.owesWithin
    iintro ⟨⟨⟨%G0, %h0, H0⟩, ⟨%G1, %h1, H1⟩, ⟨%G2, %h2, H2⟩, ⟨%G3, %h3, H3⟩, ⟨%G4, %h4, H4⟩, ⟨%G5, %h5, H5⟩, ⟨%G6, %h6, H6⟩, ⟨%G7, %h7, H7⟩⟩, HO, -, -⟩
    obtain rfl : G0 = x0 c := (congrFun ((rdat0 x0 x1 o2 o3 o4 o5 o6 o7 c).ArrAt_in 0 rfl _) G0).mp h0
    obtain rfl : G1 = x1 c := (congrFun ((rdat0 x0 x1 o2 o3 o4 o5 o6 o7 c).ArrAt_in 1 rfl _) G1).mp h1
    obtain rfl := end0_2 x0 x1 o2 o3 o4 o5 o6 o7 c G2 h2
    obtain rfl := end0_3 x0 x1 o2 o3 o4 o5 o6 o7 c G3 h3
    obtain rfl := end0_4 x0 x1 o2 o3 o4 o5 o6 o7 c G4 h4
    obtain rfl := end0_5 x0 x1 o2 o3 o4 o5 o6 o7 c G5 h5
    obtain rfl := end0_6 x0 x1 o2 o3 o4 o5 o6 o7 c G6 h6
    obtain rfl := end0_7 x0 x1 o2 o3 o4 o5 o6 o7 c G7 h7
    imodintro
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    icases HO with ⟨%W, %hW, HO⟩
    iexists W
    isplitr; · ipureintro; exact wbelow_of c cfg0 W hW
    iexact HO

end Data

end Cert.Proof.Run

end
-- ==== Proof.Run.Reg.lean ====
/-
  The second TensorCore call: the regression part, a block of 640 anchors a grid point, its sum in one word.
-/
module

public import proofs.«01_k».proof.Proof.Run.StatsSeg

@[expose] public section

noncomputable section

namespace Cert.Proof.Run

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [Named F]

local notation "𝕄" => MT nD τ sig (HIx 1) (Elt F) ℕ UU ℕ

/-! ### What one point leaves -/

/-- The first point's test, as the body writes it. -/
abbrev isFirst1 (i : grid1.Coords) : Prop := Scalar.cmpi .ne (Scalar.extui (Scalar.cmpi .eq (BitVec.ofNat 32 (i 0).val) 0#32)) 0#32 = 1#1

theorem isFirst1_iff : ∀ i : grid1.Coords, isFirst1 i ↔ (i 0).val = 0 := by decide +kernel
theorem isLast1_iff : ∀ i : grid1.Coords, k1_cond2 i = 1#1 ↔ (i 0).val = 24 := by decide +kernel

/-- The one place of a word. -/
def z11 : S1x1.Idx := fun | 0 => ⟨0, by decide⟩ | 1 => ⟨0, by decide⟩
theorem z11_eq (x : S1x1.Idx) : x = z11 := by
  funext a; apply Fin.ext
  have : (x a).val < S1x1.size a := (x a).isLt
  fin_cases a
  · have : (x 0).val < 1 := (x 0).isLt; show (x 0).val = 0; omega
  · have : (x 1).val < 1 := (x 1).isLt; show (x 1).val = 0; omega

abbrev r11 : Rect S1x1 := Rect.unit (s := S1x1) ![0, 0] S1x1.size inb_S1x1_S1x1_0_0
abbrev rAux : Rect S1x16 := Rect.unit (s := S1x16) ![0, 0] S1x1.size inb_S1x16_S1x1_0_0

/-- The running sum as point `i` adds to it: zero at the first point. -/
def sBase (i : grid1.Coords) (a : F .f32) : F .f32 := if isFirst1 i then Scalar.ofBits .f32 0x00000000#32 else a
/-- The running sum after point `i`. -/
def sNext (i : grid1.Coords) (od td : S640x324.Idx → F .f32) (ts : S640x81.Idx → F .f32) (w2 : S1x128.Idx → F .f32) (a : F .f32) : F .f32 :=
  k1_pay1 (sBase i a) (k1_pay3 od td ts w2)
/-- The result, from the finished sum. -/
def outOf (a : F .f32) (aux : S1x16.Idx → F .f32) : F .f32 := k1_pay2 a fun x => aux (rAux.emb x)

/-- A word stored is a word read. -/
theorem read_word {κ : Kind} {sp : Space} {e : EltTy} (v : View sig κ sp S1x1 e) (f : v.ty.Contents (Elt F)) (w : r11.shape.Idx → Elt F e)
    (L : List (View.Piece (Elt F) S1x1 e)) : v.read (Elt F) (v.writes (Elt F) f (⟨r11, w⟩ :: L)) z11 = w z11 :=
  (congrFun (read_overlay v f r11 w L) z11).trans (congrFun (overlay_full inb_S1x1_S1x1_0_0 _ w) z11)

theorem pay3_congr {a a' b b' : S640x324.Idx → F .f32} {t t' : S640x81.Idx → F .f32} {w w' : S1x128.Idx → F .f32}
    (ha : a = a') (hb : b = b') (ht : t = t') (hw : w = w') : k1_pay3 a b t w = k1_pay3 a' b' t' w' := by subst ha; subst hb; subst ht; subst hw; rfl

section Body1

variable (c : Dev nD) (i : grid1.Coords)
    (M1 : Memref sig .tc .vmem S640x324 .f32) (w1 : M1.IsWhole) (M2 : Memref sig .tc .vmem S640x324 .f32) (w2 : M2.IsWhole)
    (M3 : Memref sig .tc .vmem S640x81 .f32) (w3 : M3.IsWhole) (M4 : Memref sig .tc .vmem S1x128 .f32) (w4 : M4.IsWhole)
    (M5 : Memref sig .tc .vmem S1x16 .f32) (w5 : M5.IsWhole) (M6 : Memref sig .tc .smem S1x1 .f32) (w6 : M6.IsWhole)
    (M7 : Memref sig .tc .smem S1x1 .f32) (w7 : M7.IsWhole)
    (f1 : Bf (F := F) c M1) (f2 : Bf (F := F) c M2) (f3 : Bf (F := F) c M3) (f4 : Bf (F := F) c M4) (f5 : Bf (F := F) c M5)
    (f6 : Bf (F := F) c M6) (f7 : Bf (F := F) c M7)

/-- What the body leaves in the result's word and in the running sum's. -/
abbrev Left1 (g6 : Bf (F := F) c M6) (g7 : Bf (F := F) c M7) : Prop :=
  let a := sNext i (M1.view.read (Elt F) f1) (M2.view.read (Elt F) f2) (M3.view.read (Elt F) f3) (M4.view.read (Elt F) f4) (M7.view.read (Elt F) f7 z11)
  (k1_cond2 i = 1#1 → M6.view.read (Elt F) g6 z11 = outOf a (M5.view.read (Elt F) f5)) ∧ M7.view.read (Elt F) g7 z11 = a

theorem body1_mid (h1 : ¬ isFirst1 i) (h2 : ¬ k1_cond2 i = 1#1) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗
        (∀ g6 g7, iprop(⌜Left1 c i M1 M2 M3 M4 M5 M6 M7 f1 f2 f3 f4 f5 f7 g6 g7⌝
          ∗ pt c M1 f1 ∗ pt c M2 f2 ∗ pt c M3 f3 ∗ pt c M4 f4 ∗ pt c M5 f5 ∗ pt c M6 g6 ∗ pt c M7 g7) -∗ Q ⟨⟩))
      ⊢ wp frame (wpE (defs₀ (F := F)) 𝒱₀ c none) E (cc1__reg_body i M1 w1 M2 w2 M3 w3 M4 w4 M5 w5 M6 w6 M7 w7) Q := by
  iintro ⟨H1, H2, H3, H4, H5, H6, H7, Hk⟩
  sl_exec (disch := first | exact h1 | exact h2)
  sl_step
  ispecialize Hk $$ %_ %_
  iapply Hk
  isplitr
  swap
  · isplitl [H1]; · iexact H1
    isplitl [H2]; · iexact H2
    isplitl [H3]; · iexact H3
    isplitl [H4]; · iexact H4
    isplitl [H5]; · iexact H5
    isplitl [H6]; · iexact H6
    iexact H7
  ipureintro
  have e1 := View.readAt_full M1.view f1 (off := ![0, 0]) inb_S640x324_S640x324_0_0
  have e2 := View.readAt_full M2.view f2 (off := ![0, 0]) inb_S640x324_S640x324_0_0
  have e3 := View.readAt_full M3.view f3 (off := ![0, 0]) inb_S640x81_S640x81_0_0
  have e4 := View.readAt_full M4.view f4 (off := ![0, 0]) inb_S1x128_S1x128_0_0
  refine ⟨fun h => absurd h h2, ?_⟩
  rw [sNext, sBase, if_neg h1]
  exact (read_word _ _ _ _).trans (congrArg₂ k1_pay1 (congrArg (M7.view.read (Elt F) f7) (z11_eq _)) (pay3_congr e1 e2 e3 e4))

theorem body1_first (h1 : isFirst1 i) (h2 : ¬ k1_cond2 i = 1#1) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗
        (∀ g6 g7, iprop(⌜Left1 c i M1 M2 M3 M4 M5 M6 M7 f1 f2 f3 f4 f5 f7 g6 g7⌝
          ∗ pt c M1 f1 ∗ pt c M2 f2 ∗ pt c M3 f3 ∗ pt c M4 f4 ∗ pt c M5 f5 ∗ pt c M6 g6 ∗ pt c M7 g7) -∗ Q ⟨⟩))
      ⊢ wp frame (wpE (defs₀ (F := F)) 𝒱₀ c none) E (cc1__reg_body i M1 w1 M2 w2 M3 w3 M4 w4 M5 w5 M6 w6 M7 w7) Q := by
  iintro ⟨H1, H2, H3, H4, H5, H6, H7, Hk⟩
  sl_exec (disch := first | exact h1 | exact h2)
  sl_step
  ispecialize Hk $$ %_ %_
  iapply Hk
  isplitr
  swap
  · isplitl [H1]; · iexact H1
    isplitl [H2]; · iexact H2
    isplitl [H3]; · iexact H3
    isplitl [H4]; · iexact H4
    isplitl [H5]; · iexact H5
    isplitl [H6]; · iexact H6
    iexact H7
  ipureintro
  have e1 := View.readAt_full M1.view f1 (off := ![0, 0]) inb_S640x324_S640x324_0_0
  have e2 := View.readAt_full M2.view f2 (off := ![0, 0]) inb_S640x324_S640x324_0_0
  have e3 := View.readAt_full M3.view f3 (off := ![0, 0]) inb_S640x81_S640x81_0_0
  have e4 := View.readAt_full M4.view f4 (off := ![0, 0]) inb_S1x128_S1x128_0_0
  refine ⟨fun h => absurd h h2, ?_⟩
  rw [sNext, sBase, if_pos h1]
  exact (read_word _ _ _ _).trans (congrArg (k1_pay1 _) (pay3_congr e1 e2 e3 e4))

theorem body1_last (h1 : ¬ isFirst1 i) (h2 : k1_cond2 i = 1#1) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗
        (∀ g6 g7, iprop(⌜Left1 c i M1 M2 M3 M4 M5 M6 M7 f1 f2 f3 f4 f5 f7 g6 g7⌝
          ∗ pt c M1 f1 ∗ pt c M2 f2 ∗ pt c M3 f3 ∗ pt c M4 f4 ∗ pt c M5 f5 ∗ pt c M6 g6 ∗ pt c M7 g7) -∗ Q ⟨⟩))
      ⊢ wp frame (wpE (defs₀ (F := F)) 𝒱₀ c none) E (cc1__reg_body i M1 w1 M2 w2 M3 w3 M4 w4 M5 w5 M6 w6 M7 w7) Q := by
  iintro ⟨H1, H2, H3, H4, H5, H6, H7, Hk⟩
  sl_exec (disch := first | exact h1 | exact h2)
  sl_step
  ispecialize Hk $$ %_ %_
  iapply Hk
  isplitr
  swap
  · isplitl [H1]; · iexact H1
    isplitl [H2]; · iexact H2
    isplitl [H3]; · iexact H3
    isplitl [H4]; · iexact H4
    isplitl [H5]; · iexact H5
    isplitl [H6]; · iexact H6
    iexact H7
  ipureintro
  have e1 := View.readAt_full M1.view f1 (off := ![0, 0]) inb_S640x324_S640x324_0_0
  have e2 := View.readAt_full M2.view f2 (off := ![0, 0]) inb_S640x324_S640x324_0_0
  have e3 := View.readAt_full M3.view f3 (off := ![0, 0]) inb_S640x81_S640x81_0_0
  have e4 := View.readAt_full M4.view f4 (off := ![0, 0]) inb_S1x128_S1x128_0_0
  refine ⟨fun _ => ?_, ?_⟩
  · rw [sNext, sBase, if_neg h1]
    exact (read_word _ _ _ _).trans (congrArg (k1_pay2 · _) (congrArg₂ k1_pay1 (congrArg (M7.view.read (Elt F) f7) (z11_eq _)) (pay3_congr e1 e2 e3 e4)))
  · rw [sNext, sBase, if_neg h1]
    exact (read_word _ _ _ _).trans (congrArg₂ k1_pay1 (congrArg (M7.view.read (Elt F) f7) (z11_eq _)) (pay3_congr e1 e2 e3 e4))

/-- The body at any point. -/
theorem body1 (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗
        (∀ g6 g7, iprop(⌜Left1 c i M1 M2 M3 M4 M5 M6 M7 f1 f2 f3 f4 f5 f7 g6 g7⌝
          ∗ pt c M1 f1 ∗ pt c M2 f2 ∗ pt c M3 f3 ∗ pt c M4 f4 ∗ pt c M5 f5 ∗ pt c M6 g6 ∗ pt c M7 g7) -∗ Q ⟨⟩))
      ⊢ wp frame (wpE (defs₀ (F := F)) 𝒱₀ c none) E (cc1__reg_body i M1 w1 M2 w2 M3 w3 M4 w4 M5 w5 M6 w6 M7 w7) Q := by
  by_cases h1 : isFirst1 i
  · have h2 : ¬ k1_cond2 i = 1#1 := by rw [isLast1_iff, (isFirst1_iff i).1 h1]; decide
    exact body1_first c i M1 w1 M2 w2 M3 w3 M4 w4 M5 w5 M6 w6 M7 w7 f1 f2 f3 f4 f5 f6 f7 h1 h2 E Q
  · by_cases h2 : k1_cond2 i = 1#1
    · exact body1_last c i M1 w1 M2 w2 M3 w3 M4 w4 M5 w5 M6 w6 M7 w7 f1 f2 f3 f4 f5 f6 f7 h1 h2 E Q
    · exact body1_mid c i M1 w1 M2 w2 M3 w3 M4 w4 M5 w5 M6 w6 M7 w7 f1 f2 f3 f4 f5 f6 f7 h1 h2 E Q

end Body1

end Cert.Proof.Run

end
-- ==== Proof.Run.RegSeg.lean ====
/-
  The second TensorCore call: its result in closed form, its proof data and its region.
-/
module

public import proofs.«01_k».proof.Proof.Run.Reg
public import Idealize.ShloMosaic.Lib.Pipeline.FrameBody

@[expose] public section

noncomputable section

namespace Cert.Proof.Run

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [Named F]

local notation "𝕄" => MT nD τ sig (HIx 1) (Elt F) ℕ UU ℕ

/-! ### The result in closed form -/

section Values1

variable (od td : S16000x324.Idx → F .f32) (ts : S16000x81.Idx → F .f32) (w2 : S1x128.Idx → F .f32)

/-- The running sum before point `t`. -/
def sumF : (t : ℕ) → t ≤ 25 → F .f32
  | 0, _ => FloatOps.ofBits FTy.f32 0#32
  | t + 1, h => k1_pay1 (sumF t (by omega)) (k1_pay3 (rows324 od t (by omega)) (rows324 td t (by omega)) (rows81 ts t (by omega)) w2)

def sumEnd : F .f32 := sumF od td ts w2 25 le_rfl

theorem rows324_congr {α : Type} (x : S16000x324.Idx → α) (a b : ℕ) (ha : a < 25) (hb : b < 25) (h : a = b) : rows324 x a ha = rows324 x b hb := by subst h; rfl
theorem sumF_congr (a b : ℕ) (ha : a ≤ 25) (hb : b ≤ 25) (h : a = b) : sumF od td ts w2 a ha = sumF od td ts w2 b hb := by subst h; rfl

theorem sNext_step (i : grid1.Coords) (hi : (i 0).val < 25) (a : F .f32) (hA : (i 0).val = 0 ∨ a = sumF od td ts w2 (i 0).val (by omega)) :
    sNext i (rows324 od (i 0).val hi) (rows324 td (i 0).val hi) (rows81 ts (i 0).val hi) w2 a = sumF od td ts w2 ((i 0).val + 1) hi := by
  have hb : sBase i a = sumF od td ts w2 (i 0).val (by omega) := by
    unfold sBase
    split
    next h =>
      have h0 := (isFirst1_iff i).1 h
      have : ∀ (n : ℕ) (hn : n ≤ 25), n = 0 → (FloatOps.ofBits FTy.f32 0#32 : F .f32) = sumF od td ts w2 n hn := by intro n hn h; subst h; rfl
      exact this _ _ h0
    next h => exact hA.resolve_left fun h0 => h ((isFirst1_iff i).2 h0)
  unfold sNext
  rw [hb]; rfl

end Values1

section Data1

variable (y0 y1 : (c : Dev nD) → S16000x324.Idx → F .f32) (x0 : (c : Dev nD) → S16000x81.Idx → F .f32) (v2 : (c : Dev nD) → S1x128.Idx → F .f32)
    (av : (c : Dev nD) → S1x16.Idx → F .f32) (o5 : (c : Dev nD) → S1x1.Idx → F .f32)

/-- The running sum before point `n`, and the scoped buffers this call does not touch. -/
def Φ1 (c : Dev nD) (n : ℕ) (hn : n ≤ 25) : sProp 𝕄 :=
  iprop((∃ f : Bf (F := F) c (Memref.whole cc1_scratch0), ⌜n = 0 ∨ (Memref.whole cc1_scratch0).view.read (Elt F) f z11 = sumF (y0 c) (y1 c) (x0 c) (v2 c) n hn⌝ ∗ pt c (Memref.whole cc1_scratch0) f)
    ∗ (∃ f, ((c : Thread nD τ).loc cc0_stg0_0) ↦{fullShare} f) ∗ (∃ f, ((c : Thread nD τ).loc cc0_stg0_1) ↦{fullShare} f)
    ∗ (∃ f, ((c : Thread nD τ).loc cc0_stg1_0) ↦{fullShare} f) ∗ (∃ f, ((c : Thread nD τ).loc cc0_stg1_1) ↦{fullShare} f)
    ∗ (∃ f, ((c : Thread nD τ).loc cc0_stg2_0) ↦{fullShare} f) ∗ (∃ f, ((c : Thread nD τ).loc cc0_stg3_0) ↦{fullShare} f)
    ∗ (∃ f, ((c : Thread nD τ).loc cc0_stg4_0) ↦{fullShare} f) ∗ (∃ f, ((c : Thread nD τ).loc cc0_stg5_0) ↦{fullShare} f)
    ∗ (∃ f, ((c : Thread nD τ).loc cc0_stg6_0) ↦{fullShare} f) ∗ (∃ f, ((c : Thread nD τ).loc cc0_stg7_0) ↦{fullShare} f)
    ∗ (∃ f, ((c : Thread nD τ).loc cc0_scratch0) ↦{fullShare} f))

/-- The word the call leaves. -/
abbrev regOut (c : Dev nD) : F .f32 := outOf (sumEnd (y0 c) (y1 c) (x0 c) (v2 c)) (av c)

def rdat1 (c : Dev nD) : RDat τ (Elt F) (HIx 1) ℕ UU ℕ cfg1 c where
  A w := match w with
    | ⟨0, _⟩ => y0 c | ⟨1, _⟩ => y1 c | ⟨2, _⟩ => x0 c | ⟨3, _⟩ => v2 c | ⟨4, _⟩ => av c | ⟨5, _⟩ => o5 c
  after w t Y X := match w with
    | ⟨0, _⟩ => True
    | ⟨1, _⟩ => True
    | ⟨2, _⟩ => True
    | ⟨3, _⟩ => X = Y
    | ⟨4, _⟩ => X = Y
    | ⟨5, _⟩ => t.val = 24 → X z11 = regOut y0 y1 x0 v2 av c
  Φ t := Φ1 y0 y1 x0 v2 c t.val (Nat.le_of_lt_succ t.isLt)
  q _ := fullShare
  owed _ := (K (F := F)).Otc c 0
  recorded _ := recTc (F := F) c

theorem index1_0 : ∀ t : Fin grid1.N, win1_0.index t 0 = t.val ∧ win1_0.index t 1 = 0 := by decide +kernel
theorem index1_1 : ∀ t : Fin grid1.N, win1_1.index t 0 = t.val ∧ win1_1.index t 1 = 0 := by decide +kernel
theorem index1_2 : ∀ t : Fin grid1.N, win1_2.index t 0 = t.val ∧ win1_2.index t 1 = 0 := by decide +kernel
theorem index1_3 : ∀ t : Fin grid1.N, win1_3.index t 0 = 0 ∧ win1_3.index t 1 = 0 := by decide +kernel
theorem index1_4 : ∀ t : Fin grid1.N, win1_4.index t 0 = 0 ∧ win1_4.index t 1 = 0 := by decide +kernel

theorem fetched1_0 (c : Dev nD) (t : Fin cfg1.N) (d) : (rdat1 y0 y1 x0 v2 av o5 c).fetched 0 t d = rows324 (y0 c) t.val (lt25' t) := by
  funext j
  have hm : (cfg1.win 0).moved (cfg1.grid.coords t) j = true :=
    ((cfg1.win 0).moved_iff _ j).mpr fun a => (j a).isLt
  unfold RDat.fetched Pipeline.Window.fill
  rw [dif_pos hm]
  unfold RDat.blockOf
  refine (View.read_apply _ _).trans ((cast_eq _ _).trans (congrArg (y0 c) (funext fun a => Fin.ext ?_)))
  refine (Pipeline.Window.rect_emb_val (cfg1.win 0) t _ a).trans ?_
  fin_cases a
  · show win1_0.index t 0 * 640 + (j 0).val = 640 * t.val + (j 0).val
    rw [(index1_0 t).1]; omega
  · show win1_0.index t 1 * 324 + (j 1).val = (j 1).val
    rw [(index1_0 t).2]; omega

theorem fetched1_1 (c : Dev nD) (t : Fin cfg1.N) (d) : (rdat1 y0 y1 x0 v2 av o5 c).fetched 1 t d = rows324 (y1 c) t.val (lt25' t) := by
  funext j
  have hm : (cfg1.win 1).moved (cfg1.grid.coords t) j = true :=
    ((cfg1.win 1).moved_iff _ j).mpr fun a => (j a).isLt
  unfold RDat.fetched Pipeline.Window.fill
  rw [dif_pos hm]
  unfold RDat.blockOf
  refine (View.read_apply _ _).trans ((cast_eq _ _).trans (congrArg (y1 c) (funext fun a => Fin.ext ?_)))
  refine (Pipeline.Window.rect_emb_val (cfg1.win 1) t _ a).trans ?_
  fin_cases a
  · show win1_1.index t 0 * 640 + (j 0).val = 640 * t.val + (j 0).val
    rw [(index1_1 t).1]; omega
  · show win1_1.index t 1 * 324 + (j 1).val = (j 1).val
    rw [(index1_1 t).2]; omega

theorem fetched1_2 (c : Dev nD) (t : Fin cfg1.N) (d) : (rdat1 y0 y1 x0 v2 av o5 c).fetched 2 t d = rows81 (x0 c) t.val (lt25' t) := by
  funext j
  have hm : (cfg1.win 2).moved (cfg1.grid.coords t) j = true :=
    ((cfg1.win 2).moved_iff _ j).mpr fun a => (j a).isLt
  unfold RDat.fetched Pipeline.Window.fill
  rw [dif_pos hm]
  unfold RDat.blockOf
  refine (View.read_apply _ _).trans ((cast_eq _ _).trans (congrArg (x0 c) (funext fun a => Fin.ext ?_)))
  refine (Pipeline.Window.rect_emb_val (cfg1.win 2) t _ a).trans ?_
  fin_cases a
  · show win1_2.index t 0 * 640 + (j 0).val = 640 * t.val + (j 0).val
    rw [(index1_2 t).1]; omega
  · show win1_2.index t 1 * 81 + (j 1).val = (j 1).val
    rw [(index1_2 t).2]; omega

theorem fetched1_3 (c : Dev nD) (t : Fin cfg1.N) (d) : (rdat1 y0 y1 x0 v2 av o5 c).fetched 3 t d = v2 c := by
  funext j
  have hm : (cfg1.win 3).moved (cfg1.grid.coords t) j = true :=
    ((cfg1.win 3).moved_iff _ j).mpr fun a => (j a).isLt
  unfold RDat.fetched Pipeline.Window.fill
  rw [dif_pos hm]
  unfold RDat.blockOf
  refine (View.read_apply _ _).trans ((cast_eq _ _).trans (congrArg (v2 c) (funext fun a => Fin.ext ?_)))
  refine (Pipeline.Window.rect_emb_val (cfg1.win 3) t _ a).trans ?_
  fin_cases a
  · show win1_3.index t 0 * 1 + (j 0).val = (j 0).val
    rw [(index1_3 t).1]; omega
  · show win1_3.index t 1 * 128 + (j 1).val = (j 1).val
    rw [(index1_3 t).2]; omega

theorem fetched1_4 (c : Dev nD) (t : Fin cfg1.N) (d) : (rdat1 y0 y1 x0 v2 av o5 c).fetched 4 t d = av c := by
  funext j
  have hm : (cfg1.win 4).moved (cfg1.grid.coords t) j = true :=
    ((cfg1.win 4).moved_iff _ j).mpr fun a => (j a).isLt
  unfold RDat.fetched Pipeline.Window.fill
  rw [dif_pos hm]
  unfold RDat.blockOf
  refine (View.read_apply _ _).trans ((cast_eq _ _).trans (congrArg (av c) (funext fun a => Fin.ext ?_)))
  refine (Pipeline.Window.rect_emb_val (cfg1.win 4) t _ a).trans ?_
  fin_cases a
  · show win1_4.index t 0 * 1 + (j 0).val = (j 0).val
    rw [(index1_4 t).1]; omega
  · show win1_4.index t 1 * 16 + (j 1).val = (j 1).val
    rw [(index1_4 t).2]; omega

set_option maxHeartbeats 1000000 in
theorem obl1 (c : Dev nD) : (rdat1 y0 y1 x0 v2 av o5 c).BodyObligation (defs₀ (F := F)) 𝒱₀ none Set.univ := fun t Y hY => by
  have u0 : Y 0 = rows324 (y0 c) t.val (lt25' t) := by
    obtain ⟨d, h⟩ := ((rdat1 y0 y1 x0 v2 av o5 c).finds_of_fetch (fetch1_0 t) _).1 (hY 0)
    exact h.trans (fetched1_0 y0 y1 x0 v2 av o5 c t d)
  have u1 : Y 1 = rows324 (y1 c) t.val (lt25' t) := by
    obtain ⟨d, h⟩ := ((rdat1 y0 y1 x0 v2 av o5 c).finds_of_fetch (fetch1_1 t) _).1 (hY 1)
    exact h.trans (fetched1_1 y0 y1 x0 v2 av o5 c t d)
  have u2 : Y 2 = rows81 (x0 c) t.val (lt25' t) := by
    obtain ⟨d, h⟩ := ((rdat1 y0 y1 x0 v2 av o5 c).finds_of_fetch (fetch1_2 t) _).1 (hY 2)
    exact h.trans (fetched1_2 y0 y1 x0 v2 av o5 c t d)
  have u3 : Y 3 = v2 c := by
    obtain ⟨d, h⟩ := (rdat1 y0 y1 x0 v2 av o5 c).finds_in_eq_fetched 3 rfl (fun _ _ _ => rfl) (fun _ _ _ h => h) t _ (hY 3)
    exact h.trans (fetched1_3 y0 y1 x0 v2 av o5 c t d)
  have u4 : Y 4 = av c := by
    obtain ⟨d, h⟩ := (rdat1 y0 y1 x0 v2 av o5 c).finds_in_eq_fetched 4 rfl (fun _ _ _ => rfl) (fun _ _ _ h => h) t _ (hY 4)
    exact h.trans (fetched1_4 y0 y1 x0 v2 av o5 c t d)
  have hc := coords1 t
  rw [bigSep_W1, bigSep_W1]
  rw [show (rdat1 y0 y1 x0 v2 av o5 c).Φ t.castSucc = Φ1 y0 y1 x0 v2 c t.val (Nat.le_of_lt (lt25' t)) from rfl, show (rdat1 y0 y1 x0 v2 av o5 c).Φ t.succ = Φ1 y0 y1 x0 v2 c (t.val + 1) (lt25' t) from rfl,
    show (rdat1 y0 y1 x0 v2 av o5 c).owesAt none t.succ = (rdat1 y0 y1 x0 v2 av o5 c).owesAt none t.castSucc from rfl]
  rw [owns_pt c _ (stage_whole1 0 _) (Y 0), owns_pt c _ (stage_whole1 1 _) (Y 1), owns_pt c _ (stage_whole1 2 _) (Y 2), owns_pt c _ (stage_whole1 3 _) (Y 3),
    owns_pt c _ (stage_whole1 4 _) (Y 4), owns_pt c _ (stage_whole1 5 _) (Y 5)]
  show _ ⊢ wp frame (wpE (defs₀ (F := F)) 𝒱₀ c none) Set.univ (bodyAt1 t) _
  unfold Φ1
  iintro ⟨⟨⟨%f7, %e7, H7⟩, Hr⟩, Ho, ⟨%f1, %e1, H1⟩, ⟨%f2, %e2, H2⟩, ⟨%f3, %e3, H3⟩, ⟨%f4, %e4, H4⟩, ⟨%f5, %e5, H5⟩, ⟨%f6, %e6, H6⟩⟩
  iapply (body1 (F := F) c (grid1.coords t) _ _ _ _ _ _ _ _ _ _ _ _ _ _ f1 f2 f3 f4 f5 f6 f7 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  iintro %g6 %g7 ⟨%hL, H1, H2, H3, H4, H5, H6, H7⟩
  obtain ⟨l6, l7⟩ := hL
  have hi : ((grid1.coords t) 0).val < 25 := by rw [hc]; exact lt25' t
  have r1 := e1.trans (u0.trans (rows324_congr (y0 c) _ _ (lt25' t) hi hc.symm))
  have r2 := e2.trans (u1.trans (rows324_congr (y1 c) _ _ (lt25' t) hi hc.symm))
  have r3 := e3.trans (u2.trans (rows81_congr (x0 c) _ _ (lt25' t) hi hc.symm))
  have r4 := e4.trans u3
  have r5 := e5.trans u4
  rw [r1, r2, r3, r4] at l6 l7
  rw [r5] at l6
  have hA := sNext_step (y0 c) (y1 c) (x0 c) (v2 c) (grid1.coords t) hi ((Memref.whole cc1_scratch0).view.read (Elt F) f7 z11)
    (e7.imp (hc.trans ·) fun h => h.trans (sumF_congr _ _ _ _ _ _ _ _ hc.symm))
  rw [hA] at l6 l7
  have hlast : t.val = 24 → sumF (y0 c) (y1 c) (x0 c) (v2 c) (((grid1.coords t) 0).val + 1) hi = sumEnd (y0 c) (y1 c) (x0 c) (v2 c) := fun h =>
    sumF_congr _ _ _ _ _ _ _ _ (by rw [hc, h])
  have hcond : t.val = 24 → k1_cond2 (grid1.coords t) = 1#1 := fun h => (isLast1_iff _).2 (hc.trans h)
  isplitl [H7 Hr]
  · isplitl [H7]
    · iexists g7
      isplitr; · ipureintro; exact .inr (l7.trans (sumF_congr _ _ _ _ _ _ _ _ (by rw [hc])))
      iexact H7
    iexact Hr
  isplitl [Ho]; · iexact Ho
  isplitl [H1]
  · iexists _; isplitr; swap; · iapply (pt_owns c _ (stage_whole1 0 _) f1) $$ H1
    ipureintro; trivial
  isplitl [H2]
  · iexists _; isplitr; swap; · iapply (pt_owns c _ (stage_whole1 1 _) f2) $$ H2
    ipureintro; trivial
  isplitl [H3]
  · iexists _; isplitr; swap; · iapply (pt_owns c _ (stage_whole1 2 _) f3) $$ H3
    ipureintro; trivial
  isplitl [H4]
  · iexists _; isplitr; swap; · iapply (pt_owns c _ (stage_whole1 3 _) f4) $$ H4
    ipureintro; exact e4
  isplitl [H5]
  · iexists _; isplitr; swap; · iapply (pt_owns c _ (stage_whole1 4 _) f5) $$ H5
    ipureintro; exact e5
  · iexists _; isplitr; swap; · iapply (pt_owns c _ (stage_whole1 5 _) g6) $$ H6
    ipureintro; intro h; exact (l6 (hcond h)).trans (congrArg (outOf · (av c)) (hlast h))

/-! ### The region -/

theorem wholeAt1 : (cfg1.win 5).WholeAt (⟨24, by decide⟩ : Fin grid1.N) := by decide +kernel

theorem end1_5 (c : Dev nD) (G : S1x1.Idx → F .f32) (hG : (rdat1 y0 y1 x0 v2 av o5 c).ArrAt 5 cfg1.N G) : G = fun _ => regOut y0 y1 x0 v2 av c := by
  obtain ⟨X, ⟨Y, -, hX⟩, h⟩ := RDat.ArrAt.emb_eq_of_wholeAt hG wholeAt1
  funext j
  obtain rfl := z11_eq j
  exact (h z11).trans ((congrArg X (z11_eq _)).trans (hX rfl))

/-- The proof data by pipeline. -/
def fam1 : (p : Fin 2) → (c : Dev nD) → RDat τ (Elt F) (HIx 1) ℕ UU ℕ (Pipeline.pin (pcfgs (F := F)) adm p) c
  | ⟨0, _⟩ => fun c => junkDat c
  | ⟨1, _⟩ => fun c => rdat1 y0 y1 x0 v2 av o5 c

theorem arrays1 (c : Dev nD) : (fam1 y0 y1 x0 v2 av o5 1 c).arrays (fam1 y0 y1 x0 v2 av o5 1 c).A
    = iprop(at' c main_v3 (y0 c) ∗ at' c main_v4 (y1 c) ∗ at' c main_v0 (x0 c) ∗ at' c main_v2_3 (v2 c) ∗ at' c main_v2_4 (av c) ∗ at' c main_v5 (o5 c)) :=
  (RDat.arrays_eq (p := 1) (pcfgs (F := F)) adm (fam1 y0 y1 x0 v2 av o5) c launch1.arr_whole
      ((fam1 y0 y1 x0 v2 av o5 1 c).share_full fun _ => rfl) ((fam1 y0 y1 x0 v2 av o5 1 c).A)).trans (bigSep_W1 _)

theorem arraysAt1 (c : Dev nD) : (fam1 y0 y1 x0 v2 av o5 1 c).arraysAt (Pipeline.pin (pcfgs (F := F)) adm 1).N
    = iprop((∃ G, ⌜(rdat1 y0 y1 x0 v2 av o5 c).ArrAt 0 cfg1.N G⌝ ∗ at' c main_v3 G) ∗ (∃ G, ⌜(rdat1 y0 y1 x0 v2 av o5 c).ArrAt 1 cfg1.N G⌝ ∗ at' c main_v4 G) ∗ (∃ G, ⌜(rdat1 y0 y1 x0 v2 av o5 c).ArrAt 2 cfg1.N G⌝ ∗ at' c main_v0 G)
      ∗ (∃ G, ⌜(rdat1 y0 y1 x0 v2 av o5 c).ArrAt 3 cfg1.N G⌝ ∗ at' c main_v2_3 G) ∗ (∃ G, ⌜(rdat1 y0 y1 x0 v2 av o5 c).ArrAt 4 cfg1.N G⌝ ∗ at' c main_v2_4 G) ∗ (∃ G, ⌜(rdat1 y0 y1 x0 v2 av o5 c).ArrAt 5 cfg1.N G⌝ ∗ at' c main_v5 G)) :=
  (RDat.arraysAt_eq (p := 1) (pcfgs (F := F)) adm (fam1 y0 y1 x0 v2 av o5) c launch1.arr_whole
      ((fam1 y0 y1 x0 v2 av o5 1 c).share_full fun _ => rfl) _).trans (bigSep_W1 _)

set_option backward.isDefEq.respectTransparency.types false in
/-- The second call's region: from its six arrays, to its result in closed form. -/
def reg1 : RDat.RegionSeg (pcfgs (F := F)) adm (fam1 y0 y1 x0 v2 av o5) none defs₀ 𝒱₀ (K (F := F)).L (K (F := F)).lev 1 where
  win := launch1.win.to₀
  block_pos := launch1.block_pos
  stage_whole := launch1.stage_whole
  K := PEmpty
  osem k := k.elim
  ho := Pipeline.OwnSemFacts.none _
  hbody c := obl1 y0 y1 x0 v2 av o5 c
  hwaits c := RDat.cellsWaits_intro (Pipeline.pin pcfgs adm) (fam1 y0 y1 x0 v2 av o5) none 1 c fun w s t => (K (F := F)).mayWait_none _ (Otc_none c)
  pre c := iprop(at' c main_v3 (y0 c) ∗ at' c main_v4 (y1 c) ∗ at' c main_v0 (x0 c) ∗ at' c main_v2_3 (v2 c) ∗ at' c main_v2_4 (av c) ∗ at' c main_v5 (o5 c) ∗ tcOwes c)
  post c := iprop(at' c main_v3 (y0 c) ∗ at' c main_v4 (y1 c) ∗ at' c main_v0 (x0 c) ∗ at' c main_v2_3 (v2 c) ∗ at' c main_v2_4 (av c)
    ∗ at' c main_v5 (fun _ => regOut y0 y1 x0 v2 av c : S1x1.Idx → F .f32) ∗ tcOwes c)
  X _ := BI.emp
  Y _ := BI.emp
  Z _ := BI.emp
  hentry c := by
    rw [Pipeline.ownSems0_none, arrays1 y0 y1 x0 v2 av o5 c]
    iintro ⟨⟨H0, H1, H2, H3, H4, H5, HO⟩, -, -⟩
    imodintro
    isplitl [H0 H1 H2 H3 H4 H5]
    · isplitl [H0]; · iexact H0
      isplitl [H1]; · iexact H1
      isplitl [H2]; · iexact H2
      isplitl [H3]; · iexact H3
      isplitl [H4]; · iexact H4
      iexact H5
    isplitr; · unfold Pipeline.prefHeld; rw [show (Finset.univ : Finset (Fin 0)) = ∅ from rfl, BI.bigSep_empty]; iempintro
    isplitl [HO]
    · iapply (owesIn c _) $$ HO
    isplitr
    · iempintro
    iempintro
  hin c := by
    rw [show (fam1 y0 y1 x0 v2 av o5 1 c).Φ 0 = Φ1 y0 y1 x0 v2 c 0 (Nat.zero_le _) from rfl]
    rw [show Pipeline.scopedRest (Pipeline.pin (pcfgs (F := F)) adm 1).spec c = (Pipeline.scopedRest (Ix := HIx 1) (Name := ℕ) (U := UU) (Lvl := ℕ) (Val := Elt F) spec1 c : sProp 𝕄) from rfl, scopedRest1_eq]
    unfold Φ1
    iintro ⟨-, -, K0, K1, K2, K3, K4, K5, K6, K7, K8, K9, K10, ⟨%f, H⟩⟩
    isplitl [H]
    · iexists f
      isplitr; · ipureintro; exact .inl rfl
      iexact H
    isplitl [K0]; · iexact K0
    isplitl [K1]; · iexact K1
    isplitl [K2]; · iexact K2
    isplitl [K3]; · iexact K3
    isplitl [K4]; · iexact K4
    isplitl [K5]; · iexact K5
    isplitl [K6]; · iexact K6
    isplitl [K7]; · iexact K7
    isplitl [K8]; · iexact K8
    isplitl [K9]; · iexact K9
    iexact K10
  hout c := by
    rw [Pipeline.ownSems0_none, show (fam1 y0 y1 x0 v2 av o5 1 c).Φ (Fin.last _) = Φ1 y0 y1 x0 v2 c 25 le_rfl from rfl]
    rw [show Pipeline.scopedRest (Pipeline.pin (pcfgs (F := F)) adm 1).spec c = (Pipeline.scopedRest (Ix := HIx 1) (Name := ℕ) (U := UU) (Lvl := ℕ) (Val := Elt F) spec1 c : sProp 𝕄) from rfl, scopedRest1_eq]
    unfold Φ1
    iintro ⟨⟨%f, -, H⟩, K0, K1, K2, K3, K4, K5, K6, K7, K8, K9, K10⟩
    isplitr; · iempintro
    isplitr; · iempintro
    isplitl [K0]; · iexact K0
    isplitl [K1]; · iexact K1
    isplitl [K2]; · iexact K2
    isplitl [K3]; · iexact K3
    isplitl [K4]; · iexact K4
    isplitl [K5]; · iexact K5
    isplitl [K6]; · iexact K6
    isplitl [K7]; · iexact K7
    isplitl [K8]; · iexact K8
    isplitl [K9]; · iexact K9
    isplitl [K10]; · iexact K10
    iexists f; iexact H
  hexit c := by
    rw [arraysAt1 y0 y1 x0 v2 av o5 c]
    rw [show (fam1 y0 y1 x0 v2 av o5 1 c).owesAt none (Fin.last (Pipeline.pin (pcfgs (F := F)) adm 1).N)
      = (Pipeline.owesWithin c ((K (F := F)).Otc c 0) (recTc (F := F) c ∪ cfg1.waitPairs none) : sProp 𝕄) from rfl]
    unfold Pipeline.owesWithin
    iintro ⟨⟨⟨%G0, %h0, H0⟩, ⟨%G1, %h1, H1⟩, ⟨%G2, %h2, H2⟩, ⟨%G3, %h3, H3⟩, ⟨%G4, %h4, H4⟩, ⟨%G5, %h5, H5⟩⟩, HO, -, -⟩
    obtain rfl : G0 = y0 c := (congrFun ((rdat1 y0 y1 x0 v2 av o5 c).ArrAt_in 0 rfl _) G0).mp h0
    obtain rfl : G1 = y1 c := (congrFun ((rdat1 y0 y1 x0 v2 av o5 c).ArrAt_in 1 rfl _) G1).mp h1
    obtain rfl : G2 = x0 c := (congrFun ((rdat1 y0 y1 x0 v2 av o5 c).ArrAt_in 2 rfl _) G2).mp h2
    obtain rfl : G3 = v2 c := (congrFun ((rdat1 y0 y1 x0 v2 av o5 c).ArrAt_in 3 rfl _) G3).mp h3
    obtain rfl : G4 = av c := (congrFun ((rdat1 y0 y1 x0 v2 av o5 c).ArrAt_in 4 rfl _) G4).mp h4
    obtain rfl := end1_5 y0 y1 x0 v2 av o5 c G5 h5
    imodintro
    isplitl [H0]; · iexact H0
    isplitl [H1]; · iexact H1
    isplitl [H2]; · iexact H2
    isplitl [H3]; · iexact H3
    isplitl [H4]; · iexact H4
    isplitl [H5]; · iexact H5
    icases HO with ⟨%W, %hW, HO⟩
    iexists W
    isplitr; · ipureintro; exact wbelow_of c cfg1 W hW
    iexact HO

end Data1

end Cert.Proof.Run

end
-- ==== Proof.Run.Main.lean ====
/-
  The run of the whole program, over any float values: the TensorCore's `@main` (two reshapes, the statistics call, two
  reshapes, the regression call, the SparseCore call, the closing sum), the launch, and what every run leaves. The
  contents of the TensorCore's arrays are followed as one valuation, from the launch contents `V0` to `VE`.
-/
module

public import proofs.«01_k».proof.Proof.Run.Tile
public import proofs.«01_k».proof.Proof.Run.RegSeg

@[expose] public section

noncomputable section

namespace Cert.Proof.Run

open Cert.KernelIdeal Cert.KernelIdeal.Gen

open Idealize.ShloMosaic
open Idealize.ShloMosaic.TcCoe
open Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [Named F]

local notation "𝕄" => MT nD τ sig (HIx 1) (Elt F) ℕ UU ℕ

/-! ## The arrays of `@main` and its host operations -/

abbrev dv (b : Ref sig .tc) : DevRef τ sig := Proc.devRef .tc b

abbrev opTs : HloOp τ sig (Elt F) := StableHlo.reshape main_arg1 main_v0 (rfl : (.f32 : EltTy) = .f32) shapeCasts_S1x16000x81_S16000x81
abbrev opOs : HloOp τ sig (Elt F) := StableHlo.reshape main_arg3 main_v1 (rfl : (.f32 : EltTy) = .f32) shapeCasts_S1x16000x81_S16000x81
abbrev opOd : HloOp τ sig (Elt F) := StableHlo.reshape main_arg2 main_v3 (rfl : (.f32 : EltTy) = .f32) shapeCasts_S1x16000x324_S16000x324
abbrev opTd : HloOp τ sig (Elt F) := StableHlo.reshape main_arg0 main_v4 (rfl : (.f32 : EltTy) = .f32) shapeCasts_S1x16000x324_S16000x324
abbrev opZ : HloOp τ sig (Elt F) := StableHlo.nullary main_cst (constant S_ .f32 0x00000000#32)
abbrev opSum : HloOp τ sig (Elt F) := StableHlo.binary main_v6 main_cst main_v7
  ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))
abbrev opReg : HloOp τ sig (Elt F) := StableHlo.reshape main_v5 main_v8 (rfl : (.f32 : EltTy) = .f32) shapeCasts_S1x1_S_
abbrev opAdd : HloOp τ sig (Elt F) := StableHlo.binary main_v7 main_v8 main_v9
  (addf : (⟨S_, .f32⟩ : BufTy).Contents (Elt F) → (⟨S_, .f32⟩ : BufTy).Contents (Elt F) → (⟨S_, .f32⟩ : BufTy).Contents (Elt F))

/-- The arrays of `@main`. -/
abbrev SA : Finset (DevRef τ sig) := {dv main_arg0, dv main_arg1, dv main_arg2, dv main_arg3, dv main_v0, dv main_v1, dv main_v2_0, dv main_v2_1, dv main_v2_2,
  dv main_v2_3, dv main_v2_4, dv main_v2_5, dv main_v3, dv main_v4, dv main_v5, dv main_v6, dv main_cst, dv main_v7, dv main_v8, dv main_v9}
/-- Those of the statistics call, of the regression call, of the SparseCore call, and those a claim reads. -/
abbrev SR0 : Finset (DevRef τ sig) := {dv main_v0, dv main_v1, dv main_v2_0, dv main_v2_1, dv main_v2_2, dv main_v2_3, dv main_v2_4, dv main_v2_5}
abbrev SR1 : Finset (DevRef τ sig) := {dv main_v3, dv main_v4, dv main_v0, dv main_v2_3, dv main_v2_4, dv main_v5}
abbrev SS : Finset (DevRef τ sig) := {dv main_v2_1, dv main_v2_0, dv main_v2_5, dv main_v6}
abbrev SF : Finset (DevRef τ sig) := {dv main_arg0, dv main_arg1, dv main_arg2, dv main_arg3, dv main_v9}

theorem SR0_sub : SR0 ⊆ SA := by decide
theorem SR1_sub : SR1 ⊆ SA := by decide
theorem SS_sub : SS ⊆ SA := by decide
theorem SF_sub : SF ⊆ SA := by decide
theorem opTs_bufs : (opTs (F := F)).bufs ⊆ SA := show ({dv main_arg1, dv main_v0} : Finset (DevRef τ sig)) ⊆ SA by decide
theorem opOs_bufs : (opOs (F := F)).bufs ⊆ SA := show ({dv main_arg3, dv main_v1} : Finset (DevRef τ sig)) ⊆ SA by decide
theorem opOd_bufs : (opOd (F := F)).bufs ⊆ SA := show ({dv main_arg2, dv main_v3} : Finset (DevRef τ sig)) ⊆ SA by decide
theorem opTd_bufs : (opTd (F := F)).bufs ⊆ SA := show ({dv main_arg0, dv main_v4} : Finset (DevRef τ sig)) ⊆ SA by decide
theorem opZ_bufs : (opZ (F := F)).bufs ⊆ SA := show ({dv main_cst} : Finset (DevRef τ sig)) ⊆ SA by decide
theorem opSum_bufs : (opSum (F := F)).bufs ⊆ SA := show ({dv main_v6, dv main_cst, dv main_v7} : Finset (DevRef τ sig)) ⊆ SA by decide
theorem opReg_bufs : (opReg (F := F)).bufs ⊆ SA := show ({dv main_v5, dv main_v8} : Finset (DevRef τ sig)) ⊆ SA by decide
theorem opAdd_bufs : (opAdd (F := F)).bufs ⊆ SA := show ({dv main_v7, dv main_v8, dv main_v9} : Finset (DevRef τ sig)) ⊆ SA by decide

theorem held_SR0 (d : Dev nD) (W : Valuation τ sig (Elt F)) :
    (held (T d) SR0 W : sProp 𝕄)
      = iprop(at' d main_v0 (W (dv main_v0)) ∗ at' d main_v1 (W (dv main_v1)) ∗ at' d main_v2_0 (W (dv main_v2_0)) ∗ at' d main_v2_1 (W (dv main_v2_1))
          ∗ at' d main_v2_2 (W (dv main_v2_2)) ∗ at' d main_v2_3 (W (dv main_v2_3)) ∗ at' d main_v2_4 (W (dv main_v2_4)) ∗ at' d main_v2_5 (W (dv main_v2_5))) := by
  unfold held SR0
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
theorem held_SR1 (d : Dev nD) (W : Valuation τ sig (Elt F)) :
    (held (T d) SR1 W : sProp 𝕄)
      = iprop(at' d main_v3 (W (dv main_v3)) ∗ at' d main_v4 (W (dv main_v4)) ∗ at' d main_v0 (W (dv main_v0)) ∗ at' d main_v2_3 (W (dv main_v2_3))
          ∗ at' d main_v2_4 (W (dv main_v2_4)) ∗ at' d main_v5 (W (dv main_v5))) := by
  unfold held SR1
  rw [SparseCore.bigSep_insert' (by decide), SparseCore.bigSep_insert' (by decide), SparseCore.bigSep_insert' (by decide), SparseCore.bigSep_insert' (by decide),
    SparseCore.bigSep_insert' (by decide), bigSep_singleton]
theorem held_SS (d : Dev nD) (W : Valuation τ sig (Elt F)) :
    (held (T d) SS W : sProp 𝕄)
      = iprop(at' d main_v2_1 (W (dv main_v2_1)) ∗ at' d main_v2_0 (W (dv main_v2_0)) ∗ at' d main_v2_5 (W (dv main_v2_5)) ∗ at' d main_v6 (W (dv main_v6))) := by
  unfold held SS
  rw [SparseCore.bigSep_insert' (by decide), SparseCore.bigSep_insert' (by decide), SparseCore.bigSep_insert' (by decide), bigSep_singleton]
theorem held_SF (d : Dev nD) (W : Valuation τ sig (Elt F)) :
    (held (T d) SF W : sProp 𝕄)
      = iprop(at' d main_arg0 (W (dv main_arg0)) ∗ at' d main_arg1 (W (dv main_arg1)) ∗ at' d main_arg2 (W (dv main_arg2)) ∗ at' d main_arg3 (W (dv main_arg3))
          ∗ at' d main_v9 (W (dv main_v9))) := by
  unfold held SF
  rw [SparseCore.bigSep_insert' (by decide), SparseCore.bigSep_insert' (by decide), SparseCore.bigSep_insert' (by decide), SparseCore.bigSep_insert' (by decide),
    bigSep_singleton]

theorem dv_inj {a b : Ref sig .tc} (h : dv a = dv b) : a = b := by
  revert a b; decide +kernel

theorem unscoped_held (d : Dev nD) (W : Valuation τ sig (Elt F)) :
    (unscopedBufs d (fun b => W (dv b)) : sProp 𝕄) = held (T d) SA W := by
  unfold unscopedBufs held
  rw [show SA = (Finset.univ.filter fun b : Ref sig .tc => ¬ b.isScoped).image dv by decide +kernel,
    SparseCore.bigSep_image_of_injOn (fun a _ b _ e => dv_inj e)]

/-! ## The contents of the arrays along `@main` -/

section Contents
variable (m : (ℓ : Loc nD τ sig) → Buf (Elt F) ℓ)

def V0 (d : Dev nD) : Valuation τ sig (Elt F) := fun b => m (d, b)
/-- Before the statistics call. -/
def VA (d : Dev nD) : Valuation τ sig (Elt F) := (opOs (F := F)).result ((opTs (F := F)).result (V0 m d))
abbrev x0 (d : Dev nD) : S16000x81.Idx → F .f32 := VA m d (dv main_v0)
abbrev x1 (d : Dev nD) : S16000x81.Idx → F .f32 := VA m d (dv main_v1)
/-- After it. -/
def VB (d : Dev nD) : Valuation τ sig (Elt F) :=
  Function.update (Function.update (Function.update (Function.update (Function.update (Function.update (VA m d)
    (dv main_v2_0) (nlV (x0 m d) (x1 m d) : S16384.Idx → F .f32)) (dv main_v2_1) (labV (x0 m d) : S16384.Idx → BitVec 32))
    (dv main_v2_2) (wOf (accEnd (x0 m d)) : S1x128.Idx → F .f32)) (dv main_v2_3) (w2Of (accEnd (x0 m d)) : S1x128.Idx → F .f32))
    (dv main_v2_4) (auxOf (accEnd (x0 m d)) : S1x16.Idx → F .f32)) (dv main_v2_5) (wflatOf (accEnd (x0 m d)) : S128.Idx → F .f32)
/-- Before the regression call. -/
def VC (d : Dev nD) : Valuation τ sig (Elt F) := (opTd (F := F)).result ((opOd (F := F)).result (VB m d))
abbrev y0 (d : Dev nD) : S16000x324.Idx → F .f32 := VC m d (dv main_v3)
abbrev y1 (d : Dev nD) : S16000x324.Idx → F .f32 := VC m d (dv main_v4)
abbrev z0 (d : Dev nD) : S16000x81.Idx → F .f32 := VC m d (dv main_v0)
abbrev z2 (d : Dev nD) : S1x128.Idx → F .f32 := VC m d (dv main_v2_3)
abbrev z3 (d : Dev nD) : S1x16.Idx → F .f32 := VC m d (dv main_v2_4)
/-- After it. -/
def VD (d : Dev nD) : Valuation τ sig (Elt F) :=
  Function.update (VC m d) (dv main_v5) ((fun _ => regOut (y0 m) (y1 m) (z0 m) (z2 m) (z3 m) d) : S1x1.Idx → F .f32)
abbrev lab (d : Dev nD) : S16384.Idx → BitVec 32 := VD m d (dv main_v2_1)
abbrev nl (d : Dev nD) : S16384.Idx → F .f32 := VD m d (dv main_v2_0)
abbrev wv (d : Dev nD) : S128.Idx → F .f32 := VD m d (dv main_v2_5)
abbrev o6 (d : Dev nD) : S32x16.Idx → F .f32 := VD m d (dv main_v6)
/-- After the SparseCore call. -/
def VS (d : Dev nD) : Valuation τ sig (Elt F) := Function.update (VD m d) (dv main_v6) (outV (lab m d) (nl m d) (wv m d) : S32x16.Idx → F .f32)
def V9a (d : Dev nD) : Valuation τ sig (Elt F) := (opReg (F := F)).result ((opSum (F := F)).result ((opZ (F := F)).result (VS m d)))
/-- At the end. -/
def VE (d : Dev nD) : Valuation τ sig (Elt F) := (opAdd (F := F)).result (V9a m d)

abbrev PP := P (F := F) (fun d => lab m d) (fun d => nl m d) (fun d => wv m d) (fun d => o6 m d)

theorem VB_rest (d : Dev nD) (b : DevRef τ sig) (hb : b ∉ ({dv main_v2_0, dv main_v2_1, dv main_v2_2, dv main_v2_3, dv main_v2_4, dv main_v2_5} : Finset (DevRef τ sig))) :
    VB m d b = VA m d b := by
  simp only [Finset.mem_insert, Finset.mem_singleton, not_or] at hb
  unfold VB
  rw [Function.update_of_ne hb.2.2.2.2.2, Function.update_of_ne hb.2.2.2.2.1, Function.update_of_ne hb.2.2.2.1, Function.update_of_ne hb.2.2.1,
    Function.update_of_ne hb.2.1, Function.update_of_ne hb.1]
theorem VB_v2_5 (d : Dev nD) : VB m d (dv main_v2_5) = (wflatOf (accEnd (x0 m d)) : S128.Idx → F .f32) := Function.update_self _ _ _
theorem VB_v2_4 (d : Dev nD) : VB m d (dv main_v2_4) = (auxOf (accEnd (x0 m d)) : S1x16.Idx → F .f32) := by
  unfold VB; rw [Function.update_of_ne (by decide)]; exact Function.update_self _ _ _
theorem VB_v2_3 (d : Dev nD) : VB m d (dv main_v2_3) = (w2Of (accEnd (x0 m d)) : S1x128.Idx → F .f32) := by
  unfold VB; rw [Function.update_of_ne (by decide), Function.update_of_ne (by decide)]; exact Function.update_self _ _ _
theorem VB_v2_2 (d : Dev nD) : VB m d (dv main_v2_2) = (wOf (accEnd (x0 m d)) : S1x128.Idx → F .f32) := by
  unfold VB; rw [Function.update_of_ne (by decide), Function.update_of_ne (by decide), Function.update_of_ne (by decide)]; exact Function.update_self _ _ _
theorem VB_v2_1 (d : Dev nD) : VB m d (dv main_v2_1) = (labV (x0 m d) : S16384.Idx → BitVec 32) := by
  unfold VB; rw [Function.update_of_ne (by decide), Function.update_of_ne (by decide), Function.update_of_ne (by decide), Function.update_of_ne (by decide)]
  exact Function.update_self _ _ _
theorem VB_v2_0 (d : Dev nD) : VB m d (dv main_v2_0) = (nlV (x0 m d) (x1 m d) : S16384.Idx → F .f32) := by
  unfold VB; rw [Function.update_of_ne (by decide), Function.update_of_ne (by decide), Function.update_of_ne (by decide), Function.update_of_ne (by decide),
    Function.update_of_ne (by decide)]
  exact Function.update_self _ _ _

/-! ## The two TensorCore calls under `@main` -/

theorem cells_inj : Function.Injective (Pipeline.cellOf (nD := nD) (τ := τ) (Pipeline.pin (pcfgs (F := F)) adm)) := cellOf_inj

/-- What the launch hands pipeline `p` of core `d`. -/
abbrev pipeG (p : Fin 2) (d : Dev nD) : sProp 𝕄 :=
  iprop(Pipeline.cellsGhost (Pipeline.pin (pcfgs (F := F)) adm) EP p d ∗ Pipeline.toksInit (Pipeline.pin (pcfgs (F := F)) adm) EP p d)

theorem lift_eq (p : Fin 2) : (SparseCore.liftProg (nD := nD) (τ := τ) (sig := sig) (Val := Elt F) (Λ := ΛP (F := F)) (Q := 1) (pr := .tc) (.op (.customCall (Pipeline.entry p) ()) fun _ => .ret PUnit.unit))
   = Prog.lift (.customCall (SparseCore.inner (Pipeline.entry p)) ()) := rfl

theorem lift_any (d : Dev nD) (Φ : PUnit → sProp 𝕄) (q : Prog (TpuEff nD τ sig (Elt F) (ΛP (F := F)) .tc) PUnit) :
    wp frame (wpE (D (F := F)) 𝒱 (T d) none) Set.univ q Φ
      ⊢ wp frame (wpE ((K (F := F)).defs (D (F := F))) 𝒱 (T d) none) Set.univ (SparseCore.liftProg q) Φ :=
  (K (F := F)).wp_liftProg (D (F := F)) 𝒱 (T d) Set.univ none q Φ

theorem lift_call (p : Fin 2) (d : Dev nD) (Φ : PUnit → sProp 𝕄) :
    wp frame (wpE (D (F := F)) 𝒱 (T d) none) Set.univ (.op (.customCall (Pipeline.entry p) ()) fun _ => .ret ⟨⟩) Φ
      ⊢ wp frame (wpE ((K (F := F)).defs (D (F := F))) 𝒱 (T d) none) Set.univ (Prog.lift (.customCall (SparseCore.inner (Pipeline.entry p)) ())) Φ := by
  rw [← lift_eq]
  exact lift_any d Φ _

section Ends
variable (x0 x1 : (c : Dev nD) → S16000x81.Idx → F .f32) (o2 : (c : Dev nD) → Buf (Elt F) ((c : Thread nD τ).loc main_v2_0)) (o3 : (c : Dev nD) → Buf (Elt F) ((c : Thread nD τ).loc main_v2_1))
  (o4 : (c : Dev nD) → Buf (Elt F) ((c : Thread nD τ).loc main_v2_2)) (o5 : (c : Dev nD) → Buf (Elt F) ((c : Thread nD τ).loc main_v2_3))
  (o6 : (c : Dev nD) → Buf (Elt F) ((c : Thread nD τ).loc main_v2_4)) (o7 : (c : Dev nD) → Buf (Elt F) ((c : Thread nD τ).loc main_v2_5))
  (y0 y1 : (c : Dev nD) → S16000x324.Idx → F .f32) (v2 : (c : Dev nD) → S1x128.Idx → F .f32) (av : (c : Dev nD) → S1x16.Idx → F .f32)
  (p5 : (c : Dev nD) → Buf (Elt F) ((c : Thread nD τ).loc main_v5))

theorem reg0_pre (c : Dev nD) : (reg0 x0 x1 o2 o3 o4 o5 o6 o7).pre c
    = iprop(at' c main_v0 (x0 c) ∗ at' c main_v1 (x1 c) ∗ at' c main_v2_0 (o2 c) ∗ at' c main_v2_1 (o3 c) ∗ at' c main_v2_2 (o4 c)
    ∗ at' c main_v2_3 (o5 c) ∗ at' c main_v2_4 (o6 c) ∗ at' c main_v2_5 (o7 c) ∗ tcOwes c) := rfl
theorem reg0_post (c : Dev nD) : (reg0 x0 x1 o2 o3 o4 o5 o6 o7).post c
    = iprop(at' c main_v0 (x0 c) ∗ at' c main_v1 (x1 c) ∗ at' c main_v2_0 (nlV (x0 c) (x1 c)) ∗ at' c main_v2_1 (labV (x0 c)) ∗ at' c main_v2_2 (wOf (accEnd (x0 c)))
    ∗ at' c main_v2_3 (w2Of (accEnd (x0 c))) ∗ at' c main_v2_4 (auxOf (accEnd (x0 c))) ∗ at' c main_v2_5 (wflatOf (accEnd (x0 c))) ∗ tcOwes c) := rfl
theorem reg1_pre (c : Dev nD) : (reg1 y0 y1 x0 v2 av p5).pre c
    = iprop(at' c main_v3 (y0 c) ∗ at' c main_v4 (y1 c) ∗ at' c main_v0 (x0 c) ∗ at' c main_v2_3 (v2 c) ∗ at' c main_v2_4 (av c) ∗ at' c main_v5 (p5 c) ∗ tcOwes c) := rfl
theorem reg1_post (c : Dev nD) : (reg1 y0 y1 x0 v2 av p5).post c
    = iprop(at' c main_v3 (y0 c) ∗ at' c main_v4 (y1 c) ∗ at' c main_v0 (x0 c) ∗ at' c main_v2_3 (v2 c) ∗ at' c main_v2_4 (av c)
    ∗ at' c main_v5 (fun _ => regOut y0 y1 x0 v2 av c : S1x1.Idx → F .f32) ∗ tcOwes c) := rfl
end Ends

/-- The statistics call takes the arrays from `VA` to `VB`. -/
theorem call0 (d : Dev nD) (Φ : PUnit → sProp 𝕄) :
    iprop((iprop(boundary (T d) ∗ held (T d) SA (VB m d) ∗ tcOwes d) -∗ Φ ⟨⟩) ∗ boundary (T d) ∗ held (T d) SA (VA m d) ∗ tcOwes d ∗ levAts (K (F := F)).L (K (F := F)).lev ∗ pipeG (F := F) 0 d)
      ⊢ wp frame (wpE ((K (F := F)).defs (D (F := F))) 𝒱 (T d) none) Set.univ (Prog.lift (.customCall (SparseCore.inner (Pipeline.entry 0)) ())) Φ := by
  rw [held_sub_split (T d) SR0_sub (VB m d), held_sub_split (T d) SR0_sub (VA m d), held_SR0, held_SR0, VB_v2_0, VB_v2_1, VB_v2_2, VB_v2_3, VB_v2_4, VB_v2_5,
    VB_rest m d (dv main_v0) (by decide), VB_rest m d (dv main_v1) (by decide),
    held_congr (T d) (S := SA \ SR0) (V := VB m d) (V' := VA m d) fun b hb => VB_rest m d b (fun h => (Finset.mem_sdiff.mp hb).2 (by revert h; clear hb; revert b; decide))]
  have R := RDat.RegionSeg.wp (pcfgs (F := F)) adm (fam0 (x0 m) (x1 m) _ _ _ _ _ _) none cells_inj EP defs₀ 𝒱₀ (K (F := F)).L (K (F := F)).lev
    (reg0 (x0 m) (x1 m) (fun c => VA m c (dv main_v2_0)) (fun c => VA m c (dv main_v2_1)) (fun c => VA m c (dv main_v2_2)) (fun c => VA m c (dv main_v2_3))
      (fun c => VA m c (dv main_v2_4)) (fun c => VA m c (dv main_v2_5))) d none (fun _ h => nomatch h) (fun _ => .ret ⟨⟩) Φ
  rw [reg0_pre, reg0_post] at R
  refine .trans ?_ (lift_call 0 d Φ)
  iintro ⟨Hk, Hb, ⟨⟨H0, H1, H2, H3, H4, H5, H6, H7⟩, Hr⟩, HO, #Hl, Hg, Ht⟩
  iapply R
  isplitl [Hk Hr]
  · iintro ⟨Hb, H0, H1, H2, H3, H4, H5, H6, H7, HO⟩
    rw [wp_ret]; imodintro
    iapply Hk
    isplitl [Hb]; · iexact Hb
    isplitr [HO]
    · isplitr [Hr]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      iexact Hr
    iexact HO
  isplitl [Hb]; · iexact Hb
  isplitl [H0 H1 H2 H3 H4 H5 H6 H7 HO]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HO
  isplitr; · iexact Hl
  isplitl [Hg]; · iexact Hg
  iexact Ht

/-- The regression call takes the arrays from `VC` to `VD`. -/
theorem call1 (d : Dev nD) (Φ : PUnit → sProp 𝕄) :
    iprop((iprop(boundary (T d) ∗ held (T d) SA (VD m d) ∗ tcOwes d) -∗ Φ ⟨⟩) ∗ boundary (T d) ∗ held (T d) SA (VC m d) ∗ tcOwes d ∗ levAts (K (F := F)).L (K (F := F)).lev ∗ pipeG (F := F) 1 d)
      ⊢ wp frame (wpE ((K (F := F)).defs (D (F := F))) 𝒱 (T d) none) Set.univ (Prog.lift (.customCall (SparseCore.inner (Pipeline.entry 1)) ())) Φ := by
  have e : ∀ b : DevRef τ sig, b ≠ dv main_v5 → VD m d b = VC m d b := fun b h => Function.update_of_ne h _ _
  have e5 : VD m d (dv main_v5) = ((fun _ => regOut (y0 m) (y1 m) (z0 m) (z2 m) (z3 m) d) : S1x1.Idx → F .f32) := Function.update_self _ _ _
  rw [held_sub_split (T d) SR1_sub (VD m d), held_sub_split (T d) SR1_sub (VC m d), held_SR1, held_SR1, e5, e (dv main_v3) (by decide), e (dv main_v4) (by decide), e (dv main_v0) (by decide),
    e (dv main_v2_3) (by decide), e (dv main_v2_4) (by decide),
    held_congr (T d) (S := SA \ SR1) (V := VD m d) (V' := VC m d) fun b hb => e b (fun h => (Finset.mem_sdiff.mp hb).2 (by subst h; decide))]
  have R := RDat.RegionSeg.wp (pcfgs (F := F)) adm (fam1 (y0 m) (y1 m) (z0 m) (z2 m) (z3 m) _) none cells_inj EP defs₀ 𝒱₀ (K (F := F)).L (K (F := F)).lev
    (reg1 (y0 m) (y1 m) (z0 m) (z2 m) (z3 m) (fun c => VC m c (dv main_v5))) d none (fun _ h => nomatch h) (fun _ => .ret ⟨⟩) Φ
  rw [reg1_pre, reg1_post] at R
  refine .trans ?_ (lift_call 1 d Φ)
  iintro ⟨Hk, Hb, ⟨⟨H0, H1, H2, H3, H4, H5⟩, Hr⟩, HO, #Hl, Hg, Ht⟩
  iapply R
  isplitl [Hk Hr]
  · iintro ⟨Hb, H0, H1, H2, H3, H4, H5, HO⟩
    rw [wp_ret]; imodintro
    iapply Hk
    isplitl [Hb]; · iexact Hb
    isplitr [HO]
    · isplitr [Hr]
      · isplitl [H0]; · iexact H0
        isplitl [H1]; · iexact H1
        isplitl [H2]; · iexact H2
        isplitl [H3]; · iexact H3
        isplitl [H4]; · iexact H4
        iexact H5
      iexact Hr
    iexact HO
  isplitl [Hb]; · iexact Hb
  isplitl [H0 H1 H2 H3 H4 H5 HO]
  · isplitl [H0]; · iexact H0
    isplitl [H1]; · iexact H1
    isplitl [H2]; · iexact H2
    isplitl [H3]; · iexact H3
    isplitl [H4]; · iexact H4
    isplitl [H5]; · iexact H5
    iexact HO
  isplitr; · iexact Hl
  isplitl [Hg]; · iexact Hg
  iexact Ht

end Contents

end Cert.Proof.Run

end
-- ==== Proof.Run.Launch.lean ====
/-
  The run of the whole program, over any float values: the SparseCore call's arrays cut into the tasks' rows, `@main`,
  the launch, and what every run leaves.
-/
module

public import proofs.«01_k».proof.Proof.Run.Main

@[expose] public section

noncomputable section

namespace Cert.Proof.Run

open Cert.KernelIdeal Cert.KernelIdeal.Gen

open Idealize.ShloMosaic
open Idealize.ShloMosaic.TcCoe
open Idealize.ShloMosaic.StableHlo
open Idealize.ShloMosaic.SparseCore (S V)

local notation "𝕋" => Idealize.ShloMosaic.SparseCore.T
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [Named F]

local notation "𝕄" => MT nD τ sig (HIx 1) (Elt F) ℕ UU ℕ

/-! ## The arrays of the SparseCore call, by rows -/

theorem lRowSet_eq (r : Fin 32) : lRowSet r = (lrow r).set := by
  unfold lRowSet
  rw [View.set_slice]
  exact Finset.map_refl
theorem nRowSet_eq (r : Fin 32) : nRowSet r = (lrow r).set := by
  unfold nRowSet
  rw [View.set_slice]
  exact Finset.map_refl
theorem oRowSet_eq (r : Fin 32) : oRowSet r = (orow r).set := by
  unfold oRowSet
  rw [View.set_slice]
  exact Finset.map_refl

theorem lab_rows (d : Dev nD) (f : Buf (Elt F) (labLoc d)) :
    (labLoc d ↦{fullShare} f : sProp 𝕄) = bigSep Finset.univ fun r : Fin 32 => labLoc d ↦[lRowSet r]{fullShare} f := by
  rw [← pointsTo_biUnion Finset.univ (ℓ := labLoc d) lRowSet (fun i _ j _ h => by rw [lRowSet_eq, lRowSet_eq]; exact Rect.part_disjoint ldiv h),
    show (Finset.univ : Finset (Fin 32)).biUnion lRowSet = Finset.univ from (Finset.biUnion_congr rfl fun i _ => lRowSet_eq i).trans (Rect.biUnion_part ldiv)]
  try rfl
theorem nl_rows (d : Dev nD) (f : Buf (Elt F) (nlLoc d)) :
    (nlLoc d ↦{fullShare} f : sProp 𝕄) = bigSep Finset.univ fun r : Fin 32 => nlLoc d ↦[nRowSet r]{fullShare} f := by
  rw [← pointsTo_biUnion Finset.univ (ℓ := nlLoc d) nRowSet (fun i _ j _ h => by rw [nRowSet_eq, nRowSet_eq]; exact Rect.part_disjoint ldiv h),
    show (Finset.univ : Finset (Fin 32)).biUnion nRowSet = Finset.univ from (Finset.biUnion_congr rfl fun i _ => nRowSet_eq i).trans (Rect.biUnion_part ldiv)]
  try rfl
theorem o_rows (d : Dev nD) (f : Buf (Elt F) (oLoc d)) :
    (oLoc d ↦{fullShare} f : sProp 𝕄) = bigSep Finset.univ fun r : Fin 32 => oLoc d ↦[oRowSet r]{fullShare} f := by
  rw [← pointsTo_biUnion Finset.univ (ℓ := oLoc d) oRowSet (fun i _ j _ h => by rw [oRowSet_eq, oRowSet_eq]; exact Rect.part_disjoint odiv h),
    show (Finset.univ : Finset (Fin 32)).biUnion oRowSet = Finset.univ from (Finset.biUnion_congr rfl fun i _ => oRowSet_eq i).trans (Rect.biUnion_part odiv)]
  try rfl

/-- Core and subcore to row. -/
def taskEquiv : Fin 2 × Fin 16 ≃ Fin 32 := Equiv.ofBijective (fun p => rowOf p.1 p.2) (by decide +kernel)

theorem tasks_eq (Φ : Fin 32 → sProp 𝕄) :
    (bigSep Finset.univ fun c : Fin ((K (F := F)).nCore 0) => bigSep Finset.univ fun i : Fin ((K (F := F)).nSub 0) =>
      Φ (rowOf (Fin.cast nCore_zero c) (Fin.cast nSub_zero i))) = bigSep Finset.univ Φ := by
  rw [bigSep_univ_equiv taskEquiv Φ, bigSep_univ_prod]
  rfl

section Contents
variable (m : (ℓ : Loc nD τ sig) → Buf (Elt F) ℓ)

theorem st0_eq (d : Dev nD) : (bigSep Finset.univ fun c : Fin ((K (F := F)).nCore 0) => (PP m).st 0 d c)
    = iprop(at' d main_v2_1 (lab m d) ∗ at' d main_v2_0 (nl m d) ∗ (bigSep Finset.univ fun r : Fin 32 => wShPts (fun d => wv m d) d r) ∗ at' d main_v6 (o6 m d)) := by
  refine (tasks_eq (fun r => goP (fun d => lab m d) (fun d => nl m d) (fun d => wv m d) (fun d => o6 m d) d r)).trans ?_
  unfold goP
  rw [bigSep_sep', bigSep_sep', bigSep_sep']
  unfold lRowPts nRowPts oRowPts
  rw [← lab_rows, ← nl_rows, ← o_rows]
theorem dn0_eq (d : Dev nD) : (bigSep Finset.univ fun c : Fin ((K (F := F)).nCore 0) => (PP m).dn 0 d c)
    = iprop(at' d main_v2_1 (lab m d) ∗ at' d main_v2_0 (nl m d) ∗ (bigSep Finset.univ fun r : Fin 32 => wShPts (fun d => wv m d) d r)
        ∗ at' d main_v6 (outV (lab m d) (nl m d) (wv m d) : S32x16.Idx → F .f32)) := by
  refine (tasks_eq (fun r => tdP (fun d => lab m d) (fun d => nl m d) (fun d => wv m d) d r)).trans ?_
  unfold tdP
  rw [bigSep_sep', bigSep_sep', bigSep_sep']
  unfold lRowPts nRowPts oRowPts
  rw [← lab_rows, ← nl_rows, ← o_rows]

/-- What the TensorCore holds of the handshakes before a call is what it owes and the rest. -/
theorem tcSt_split (d : Dev nD) : ∃ R : sProp 𝕄, (K (F := F)).tcSt EH d 0 = iprop(tcOwes d ∗ R) := ⟨_, rfl⟩

/-- The SparseCore call takes the arrays from `VD` to `VS`. -/
theorem call2 [∀ e, Nonempty (Elt F e)] (κ : GSem nD τ sig → ℕ) (d : Dev nD) (Φ : PUnit → sProp 𝕄) :
    iprop((iprop((K (F := F)).tcSt EH d 1 ∗ held (𝕋 d) SA (VS m d)) -∗ Φ ⟨⟩) ∗ (K (F := F)).ctx EH (PP m) κ ∗ (K (F := F)).tcSt EH d 0 ∗ held (𝕋 d) SA (VD m d))
      ⊢ wp frame (wpE ((K (F := F)).defs (D (F := F))) 𝒱 (𝕋 d) none) Set.univ ((K (F := F)).run d 0) Φ := by
  have e : ∀ b : DevRef τ sig, b ≠ dv main_v6 → VS m d b = VD m d b := fun b h => Function.update_of_ne h _ _
  have e6 : VS m d (dv main_v6) = (outV (lab m d) (nl m d) (wv m d) : S32x16.Idx → F .f32) := Function.update_self _ _ _
  rw [held_sub_split (𝕋 d) SS_sub (VS m d), held_sub_split (𝕋 d) SS_sub (VD m d), held_SS, held_SS, e6, e (dv main_v2_1) (by decide), e (dv main_v2_0) (by decide),
    e (dv main_v2_5) (by decide), held_congr (𝕋 d) (S := SA \ SS) (V := VS m d) (V' := VD m d) fun b hb => e b (fun h => (Finset.mem_sdiff.mp hb).2 (by subst h; decide))]
  have R := (K (F := F)).wp_run (D (F := F)) 𝒱 (EH := EH) (P := PP m) κ d 0 (Φ := Φ)
  rw [st0_eq, dn0_eq] at R
  iintro ⟨Hk, #Hctx, Hst, ⟨H1, H0, H5, H6⟩, Hr⟩
  ihave H := (Transfers.pointsTo_toks_split (ℓ := wLoc d) (S := Finset.univ) (f := wv m d) fullShare 32) $$ H5
  icases H with ⟨H5d, H5⟩
  iapply R
  isplitr; · iexact Hctx
  isplitl [Hst]; · iexact Hst
  isplitl [H1 H0 H5 H6]
  · isplitl [H1]; · iexact H1
    isplitl [H0]; · iexact H0
    isplitl [H5]; · iexact H5
    iexact H6
  iintro ⟨Hst, H1, H0, H5, H6⟩
  iapply Hk
  isplitl [Hst]; · iexact Hst
  isplitr [Hr]
  · isplitl [H1]; · iexact H1
    isplitl [H0]; · iexact H0
    isplitl [H5 H5d]
    · iapply (Transfers.pointsTo_toks_join (ℓ := wLoc d) (S := Finset.univ) (f := wv m d) fullShare 32)
      isplitl [H5d]; · iexact H5d
      iexact H5
    iexact H6
  iexact Hr

/-! ## `@main` -/

/-- What `@main` leaves that a claim reads. -/
def FIN (d : Dev nD) : sProp 𝕄 :=
  iprop(at' d main_arg0 (VE m d (dv main_arg0)) ∗ at' d main_arg1 (VE m d (dv main_arg1)) ∗ at' d main_arg2 (VE m d (dv main_arg2)) ∗ at' d main_arg3 (VE m d (dv main_arg3))
    ∗ at' d main_v9 (VE m d (dv main_v9)))

/-- What the launch hands a core for its two pipelines. -/
def GG (d : Dev nD) : sProp 𝕄 := iprop(pipeG (F := F) 0 d ∗ pipeG (F := F) 1 d)

variable (ρ : Dev nD → PrngReg)

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ GG (F := F) d)
      ⊢ wp frame (wpE ((K (F := F)).defs (D (F := F))) 𝒱 (𝕋 d) none) Set.univ (main d)
          fun _ => iprop((K (F := F)).tcSt EH d 1 ∗ FIN m d ∗ (K (F := F)).tcEnd d) := by
  unfold SparseCore.Cfg.tcRes SparseCore.Cfg.tcEnd GG FIN
  rw [show (unscopedBufs d (fun b => m ((𝕋 d).loc b)) : sProp 𝕄) = held (𝕋 d) SA (V0 m d) from unscoped_held d (V0 m d)]
  rw [← held_SF]
  obtain ⟨R, hR⟩ := tcSt_split (F := F) d
  rw [hR]
  have eE := Entails.of_eq (held_sub_split (nD := nD) (Ix := HIx 1) (Name := ℕ) (U := UU) (Lvl := ℕ) (𝕋 d) SF_sub (VE m d))
  rw [show VE m d = (opAdd (F := F)).result ((opReg (F := F)).result ((opSum (F := F)).result ((opZ (F := F)).result (VS m d)))) from rfl] at eE ⊢
  have C2 := fun Φ => call2 m κ d Φ
  rw [hR] at C2
  simp only [main, wp_bind, wp_pure]
  iintro ⟨#Hctx, ⟨Ho, HR⟩, ⟨Hb, Hheld, Hts, -⟩, HG0, HG1⟩
  iapply (wp_hlo_within 𝒱 (𝕋 d) none Set.univ (op := opTs) (S := SA) opTs_bufs (V := V0 m d)) $$ [Hb Hheld]
  · isplitl [Hb] <;> iassumption
  iintro ⟨Hb, Hheld⟩
  rw [wp_ret]; imodintro
  iapply (wp_hlo_within 𝒱 (𝕋 d) none Set.univ (op := opOs) (S := SA) opOs_bufs (V := (opTs (F := F)).result (V0 m d))) $$ [Hb Hheld]
  · isplitl [Hb] <;> iassumption
  iintro ⟨Hb, Hheld⟩
  rw [wp_ret]; imodintro
  iapply (call0 m d _)
  isplitr [Hb Hheld Ho HG0]
  rotate_left
  · isplitl [Hb]; · iexact Hb
    isplitl [Hheld]; · iexact Hheld
    isplitl [Ho]; · iexact Ho
    isplitr; · iapply (SparseCore.Cfg.ctx_levAts κ); iexact Hctx
    iexact HG0
  iintro ⟨Hb, Hheld, Ho⟩
  iapply (wp_hlo_within 𝒱 (𝕋 d) none Set.univ (op := opOd) (S := SA) opOd_bufs (V := VB m d)) $$ [Hb Hheld]
  · isplitl [Hb] <;> iassumption
  iintro ⟨Hb, Hheld⟩
  rw [wp_ret]; imodintro
  iapply (wp_hlo_within 𝒱 (𝕋 d) none Set.univ (op := opTd) (S := SA) opTd_bufs (V := (opOd (F := F)).result (VB m d))) $$ [Hb Hheld]
  · isplitl [Hb] <;> iassumption
  iintro ⟨Hb, Hheld⟩
  rw [wp_ret]; imodintro
  iapply (call1 m d _)
  isplitr [Hb Hheld Ho HG1]
  rotate_left
  · isplitl [Hb]; · iexact Hb
    isplitl [Hheld]; · iexact Hheld
    isplitl [Ho]; · iexact Ho
    isplitr; · iapply (SparseCore.Cfg.ctx_levAts κ); iexact Hctx
    iexact HG1
  iintro ⟨Hb, Hheld, Ho⟩
  iapply (C2 _)
  isplitr [Hheld Ho HR]
  rotate_left
  · isplitr; · iexact Hctx
    isplitl [Ho HR]
    · isplitl [Ho]; · iexact Ho
      iexact HR
    iexact Hheld
  iintro ⟨Hst, Hheld⟩
  iapply (wp_hlo_within 𝒱 (𝕋 d) none Set.univ (op := opZ) (S := SA) opZ_bufs (V := VS m d)) $$ [Hb Hheld]
  · isplitl [Hb] <;> iassumption
  iintro ⟨Hb, Hheld⟩
  rw [wp_ret]; imodintro
  iapply (wp_hlo_within 𝒱 (𝕋 d) none Set.univ (op := opSum) (S := SA) opSum_bufs (V := (opZ (F := F)).result (VS m d))) $$ [Hb Hheld]
  · isplitl [Hb] <;> iassumption
  iintro ⟨Hb, Hheld⟩
  rw [wp_ret]; imodintro
  iapply (wp_hlo_within 𝒱 (𝕋 d) none Set.univ (op := opReg) (S := SA) opReg_bufs (V := (opSum (F := F)).result ((opZ (F := F)).result (VS m d)))) $$ [Hb Hheld]
  · isplitl [Hb] <;> iassumption
  iintro ⟨Hb, Hheld⟩
  rw [wp_ret]; imodintro
  iapply (wp_hlo_within 𝒱 (𝕋 d) none Set.univ (op := opAdd) (S := SA) opAdd_bufs (V := (opReg (F := F)).result ((opSum (F := F)).result ((opZ (F := F)).result (VS m d))))) $$ [Hb Hheld]
  · isplitl [Hb] <;> iassumption
  iintro ⟨Hb, Hheld⟩
  rw [wp_ret]; imodintro; imodintro
  ihave Hh := eE $$ Hheld
  icases Hh with ⟨Hf, -⟩
  isplitl [Hst]; · iexact Hst
  isplitl [Hf]; · iexact Hf
  isplitl [Hb]; · iexact Hb
  iexact Hts

/-! ## The launch -/

/-- The launch's ghost state: the handshakes' cells and the pipelines'. -/
def u₀ : UU := (initOf (K (F := F)).hsCells (K (F := F)).hsToks,
  (initOf (Pipeline.cells (Pipeline.pin (pcfgs (F := F)) adm) cells_inj) (Pipeline.launchToks (Pipeline.pin (pcfgs (F := F)) adm) cells_inj), 1))

theorem own_UPC (a : UP) (b : Counters) : (BI.own ((embR : Emb (UP × Counters) 𝕄) (a, b)) : sProp 𝕄) ⊢ BI.own ((EP (F := F)) a) := by
  have h := BI.own_op_elim ((embR : Emb (UP × Counters) 𝕄).op_of_mem (Prod.mk_mem_op (URA.mem_op_one a) (URA.mem_one_op b)))
  have e : iprop(BI.own ((embR : Emb (UP × Counters) 𝕄) (a, 1)) ∗ BI.own ((embR : Emb (UP × Counters) 𝕄) (1, b))) ⊢ (BI.own ((embR : Emb (UP × Counters) 𝕄) (a, 1)) : sProp 𝕄) := by
    iintro ⟨H, -⟩
    iexact H
  exact h.trans e

theorem Px_emp : (bigSep Finset.univ fun thr : Thread nD τ => bigSep Finset.univ fun q : Fin 1 => (PP m).x q thr) = (iprop(emp) : sProp 𝕄) := by
  refine Eq.trans (bigSep_congr fun thr _ => (bigSep_univ_of_subsingleton (0 : Fin 1) : _ = (iprop(emp) : sProp 𝕄))) (bigSep_emp_const _)

theorem two_pipes (d : Dev nD) (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 1 => (PP m).x q thr) := by
  have G : iprop((bigSep Finset.univ fun c : Dev nD => bigSep Finset.univ fun p => Pipeline.cellsGhost (Pipeline.pin (pcfgs (F := F)) adm) EP p c)
      ∗ (bigSep Finset.univ fun c : Dev nD => bigSep Finset.univ fun p => Pipeline.toksInit (Pipeline.pin (pcfgs (F := F)) adm) EP p c))
      ⊢ (bigSep Finset.univ fun d : Dev nD => GG (F := F) d : sProp 𝕄) := by
    rw [← bigSep_sep']
    refine Entails.of_eq (bigSep_congr fun d _ => ?_)
    rw [← bigSep_sep', two_pipes d]
    rfl
  rw [Px_emp]
  unfold u₀
  iintro Hu
  ihave H := (ownU_pair _ _) $$ Hu
  icases H with ⟨HH, HK⟩
  ihave HP := (own_UPC _ _) $$ HK
  imod (Pipeline.fund_ghost (Pipeline.pin (pcfgs (F := F)) adm) EP cells_inj) $$ HP with HP
  imodintro
  isplitl [HH]; · iexact HH
  isplitl [HP]; · iapply G; iexact HP
  iempintro

/-- What a claim reads of device `d`'s final state. -/
def fq (d : Dev nD) (s' : Phys nD τ sig (Elt F)) : Prop :=
  s'.mem.mem ((𝕋 d).loc main_arg0) = VE m d (dv main_arg0) ∧ s'.mem.mem ((𝕋 d).loc main_arg1) = VE m d (dv main_arg1) ∧ s'.mem.mem ((𝕋 d).loc main_arg2) = VE m d (dv main_arg2)
    ∧ s'.mem.mem ((𝕋 d).loc main_arg3) = VE m d (dv main_arg3) ∧ s'.mem.mem ((𝕋 d).loc main_v9) = VE m d (dv main_v9)

theorem SI_at (d : Dev nD) (s' : Phys nD τ sig (Elt F)) (b : Ref sig .tc) (f : Buf (Elt F) ((𝕋 d).loc b)) :
    iprop(at' d b f ∗ SI s') ⊢ iprop(⌜s'.mem.mem ((𝕋 d).loc b) = f⌝ ∗ (SI s' : sProp 𝕄)) := by
  iintro ⟨H, HSI⟩
  ihave H := (persistent_entails_right (SI_pointsTo_agree (st := s') (ℓ := (𝕋 d).loc b) (I := Finset.univ) (q := fullShare) (f := f))) $$ [HSI H]
  · isplitl [HSI] <;> iassumption
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  unfold FIN
  iintro ⟨⟨H0, H1, H2, H3, H9⟩, HSI⟩
  ihave H := (SI_at d s' main_arg0 _) $$ [H0 HSI]
  · isplitl [H0] <;> iassumption
  icases H with ⟨%h0, HSI⟩
  ihave H := (SI_at d s' main_arg1 _) $$ [H1 HSI]
  · isplitl [H1] <;> iassumption
  icases H with ⟨%h1, HSI⟩
  ihave H := (SI_at d s' main_arg2 _) $$ [H2 HSI]
  · isplitl [H2] <;> iassumption
  icases H with ⟨%h2, HSI⟩
  ihave H := (SI_at d s' main_arg3 _) $$ [H3 HSI]
  · isplitl [H3] <;> iassumption
  icases H with ⟨%h3, HSI⟩
  ihave H := (SI_at d s' main_v9 _) $$ [H9 HSI]
  · isplitl [H9] <;> iassumption
  icases H with ⟨%h9, -⟩
  ipureintro; exact ⟨h0, h1, h2, h3, h9⟩

def QC : PUnit × MemSt nD τ sig (Elt F) → Prop := fun r => (∀ d : Dev nD,
  r.2.mem ((𝕋 d).loc main_arg0) = VE m d (dv main_arg0) ∧ r.2.mem ((𝕋 d).loc main_arg1) = VE m d (dv main_arg1) ∧ r.2.mem ((𝕋 d).loc main_arg2) = VE m d (dv main_arg2)
    ∧ r.2.mem ((𝕋 d).loc main_arg3) = VE m d (dv main_arg3) ∧ r.2.mem ((𝕋 d).loc main_v9) = VE m d (dv main_v9)) ∧ r.2.sem = fun _ => 0

/-- Every run whose labels are class indices ends with its arguments and its result at `VE`, every semaphore zero. -/
theorem run_main [∀ e, Nonempty (Elt F e)] (hpre : LabOK (F := F) (fun d => lab m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _ _ facts hpre)
    (fun q _ => match q with | 0 => SparseCore.Cfg.VecSplit.of_plain (vecSplit _ _ _ _))
    m ρ main (GG (F := F)) (FIN m) (u₀ (F := F)) (sep_elim_left.trans (hu₀ m)) (hmain m ρ) (fq m) (hfin m) (QC m) (fun _ h hz => ⟨h, hz⟩)

end Contents

end Cert.Proof.Run

end
-- ==== Proof.Run.Ends.lean ====
/-
  The contents of the arrays along `@main`, read off: the arguments are never written, and what each call and the
  host operations leave in the arrays the claims speak of.
-/
module

public import proofs.«01_k».proof.Proof.Run.Launch

@[expose] public section

noncomputable section

namespace Cert.Proof.Run

open Cert.KernelIdeal Cert.KernelIdeal.Gen
open Idealize.ShloMosaic
open Idealize.ShloMosaic.StableHlo

variable {F : FTy → Type} [FloatOps F] [Named F]
variable (m : (ℓ : Loc nD τ sig) → Buf (Elt F) ℓ)

/-- The arrays the host operations before the statistics call, between the calls and after them do not write. -/
theorem VA_of (d : Dev nD) (b : DevRef τ sig) (h : b ∉ ({dv main_v0, dv main_v1} : Finset (DevRef τ sig))) : VA m d b = m (d, b) := by
  simp only [Finset.mem_insert, Finset.mem_singleton, not_or] at h
  unfold VA
  rw [(opOs (F := F)).result_of_not_mem _ (show b ∉ ({dv main_v1} : Finset (DevRef τ sig)) by simpa using h.2),
    (opTs (F := F)).result_of_not_mem _ (show b ∉ ({dv main_v0} : Finset (DevRef τ sig)) by simpa using h.1)]
  rfl
theorem VC_of (d : Dev nD) (b : DevRef τ sig) (h : b ∉ ({dv main_v3, dv main_v4} : Finset (DevRef τ sig))) : VC m d b = VB m d b := by
  simp only [Finset.mem_insert, Finset.mem_singleton, not_or] at h
  unfold VC
  rw [(opTd (F := F)).result_of_not_mem _ (show b ∉ ({dv main_v4} : Finset (DevRef τ sig)) by simpa using h.2),
    (opOd (F := F)).result_of_not_mem _ (show b ∉ ({dv main_v3} : Finset (DevRef τ sig)) by simpa using h.1)]
theorem VE_of (d : Dev nD) (b : DevRef τ sig)
    (h : b ∉ ({dv main_cst, dv main_v7, dv main_v8, dv main_v9} : Finset (DevRef τ sig))) : VE m d b = VS m d b := by
  simp only [Finset.mem_insert, Finset.mem_singleton, not_or] at h
  unfold VE V9a
  rw [(opAdd (F := F)).result_of_not_mem _ (show b ∉ ({dv main_v9} : Finset (DevRef τ sig)) by simpa using h.2.2.2),
    (opReg (F := F)).result_of_not_mem _ (show b ∉ ({dv main_v8} : Finset (DevRef τ sig)) by simpa using h.2.2.1),
    (opSum (F := F)).result_of_not_mem _ (show b ∉ ({dv main_v7} : Finset (DevRef τ sig)) by simpa using h.2.1),
    (opZ (F := F)).result_of_not_mem _ (show b ∉ ({dv main_cst} : Finset (DevRef τ sig)) by simpa using h.1)]
theorem VS_of (d : Dev nD) (b : DevRef τ sig) (h : b ≠ dv main_v6) : VS m d b = VD m d b := Function.update_of_ne h _ _
theorem VD_of (d : Dev nD) (b : DevRef τ sig) (h : b ≠ dv main_v5) : VD m d b = VC m d b := Function.update_of_ne h _ _

/-- An array nothing writes ends as it began. -/
theorem VE_arg (d : Dev nD) (b : DevRef τ sig) (h : b ∈ ({dv main_arg0, dv main_arg1, dv main_arg2, dv main_arg3} : Finset (DevRef τ sig))) : VE m d b = m (d, b) := by
  simp only [Finset.mem_insert, Finset.mem_singleton] at h
  rcases h with rfl | rfl | rfl | rfl <;>
  rw [VE_of _ _ _ (by decide), VS_of _ _ _ (by decide), VD_of _ _ _ (by decide), VC_of _ _ _ (by decide), VB_rest _ _ _ (by decide), VA_of _ _ _ (by decide)]

/-- The labels the SparseCore call reads, the negated logs and the class weights. -/
theorem lab_eq (d : Dev nD) : lab m d = labV (x0 m d) := by
  show VD m d (dv main_v2_1) = _
  rw [VD_of _ _ _ (by decide), VC_of _ _ _ (by decide), VB_v2_1]
theorem nl_eq (d : Dev nD) : nl m d = nlV (x0 m d) (x1 m d) := by
  show VD m d (dv main_v2_0) = _
  rw [VD_of _ _ _ (by decide), VC_of _ _ _ (by decide), VB_v2_0]
theorem wv_eq (d : Dev nD) : wv m d = wflatOf (accEnd (x0 m d)) := by
  show VD m d (dv main_v2_5) = _
  rw [VD_of _ _ _ (by decide), VC_of _ _ _ (by decide), VB_v2_5]
theorem z0_eq (d : Dev nD) : z0 m d = x0 m d := by
  show VC m d (dv main_v0) = VA m d (dv main_v0)
  rw [VC_of _ _ _ (by decide), VB_rest _ _ _ (by decide)]
theorem z2_eq (d : Dev nD) : z2 m d = w2Of (accEnd (x0 m d)) := by
  show VC m d (dv main_v2_3) = _
  rw [VC_of _ _ _ (by decide), VB_v2_3]
theorem z3_eq (d : Dev nD) : z3 m d = auxOf (accEnd (x0 m d)) := by
  show VC m d (dv main_v2_4) = _
  rw [VC_of _ _ _ (by decide), VB_v2_4]
/-- The four arguments as the calls take them. -/
theorem x0_eq (d : Dev nD) : x0 m d = shapeCast S16000x81 (m (d, dv main_arg1) : S1x16000x81.Idx → F .f32) shapeCasts_S1x16000x81_S16000x81 := by
  show VA m d (dv main_v0) = _
  unfold VA
  rw [(opOs (F := F)).result_of_not_mem _ (show dv main_v0 ∉ ({dv main_v1} : Finset (DevRef τ sig)) by decide)]
  exact StableHlo.reshape_result _ _ _ _ _ _ _
theorem x1_eq (d : Dev nD) : x1 m d = shapeCast S16000x81 (m (d, dv main_arg3) : S1x16000x81.Idx → F .f32) shapeCasts_S1x16000x81_S16000x81 := by
  show VA m d (dv main_v1) = _
  unfold VA
  refine (StableHlo.reshape_result _ _ _ _ _ _ _).trans ?_
  rw [(opTs (F := F)).result_of_not_mem _ (show dv main_arg3 ∉ ({dv main_v0} : Finset (DevRef τ sig)) by decide)]
  rfl
theorem y0_eq (d : Dev nD) : y0 m d = shapeCast S16000x324 (m (d, dv main_arg2) : S1x16000x324.Idx → F .f32) shapeCasts_S1x16000x324_S16000x324 := by
  show VC m d (dv main_v3) = _
  unfold VC
  rw [(opTd (F := F)).result_of_not_mem _ (show dv main_v3 ∉ ({dv main_v4} : Finset (DevRef τ sig)) by decide)]
  refine (StableHlo.reshape_result _ _ _ _ _ _ _).trans ?_
  rw [VB_rest _ _ _ (by decide), VA_of _ _ _ (by decide)]
  rfl
theorem y1_eq (d : Dev nD) : y1 m d = shapeCast S16000x324 (m (d, dv main_arg0) : S1x16000x324.Idx → F .f32) shapeCasts_S1x16000x324_S16000x324 := by
  show VC m d (dv main_v4) = _
  unfold VC
  refine (StableHlo.reshape_result _ _ _ _ _ _ _).trans ?_
  rw [(opOd (F := F)).result_of_not_mem _ (show dv main_arg0 ∉ ({dv main_v3} : Finset (DevRef τ sig)) by decide),
    VB_rest _ _ _ (by decide), VA_of _ _ _ (by decide)]
  rfl
/-- The program's result. -/
theorem VE_v9 (d : Dev nD) : VE m d (dv main_v9)
    = (addf (Host.reduceAdd (outV (lab m d) (nl m d) (wv m d) : FVec F S32x16 .f32) (constant S_ .f32 0x00000000#32) reducesTo_S32x16_S_d0_1 h_S_)
        (shapeCast S_ ((fun _ => regOut (y0 m) (y1 m) (z0 m) (z2 m) (z3 m) d) : FVec F S1x1 .f32) shapeCasts_S1x1_S_) : FVec F S_ .f32) := by
  unfold VE
  refine (StableHlo.binary_result _ _ _ _ _ _ _ _).trans ?_
  refine congrArg₂ addf ?_ ?_
  · unfold V9a
    rw [(opReg (F := F)).result_of_not_mem _ (show dv main_v7 ∉ ({dv main_v8} : Finset (DevRef τ sig)) by decide)]
    refine (StableHlo.binary_result _ _ _ _ _ _ _ _).trans ?_
    refine congrArg₂ (fun x v => Host.reduceAdd x v reducesTo_S32x16_S_d0_1 h_S_) ?_ ?_
    · rw [(opZ (F := F)).result_of_not_mem _ (show dv main_v6 ∉ ({dv main_cst} : Finset (DevRef τ sig)) by decide)]
      exact Function.update_self _ _ _
    · exact StableHlo.nullary_result _ _ _ _
  · unfold V9a
    refine (StableHlo.reshape_result _ _ _ _ _ _ _).trans ?_
    refine congrArg (fun x => shapeCast S_ x shapeCasts_S1x1_S_) ?_
    rw [(opSum (F := F)).result_of_not_mem _ (show dv main_v5 ∉ ({dv main_v7} : Finset (DevRef τ sig)) by decide),
      (opZ (F := F)).result_of_not_mem _ (show dv main_v5 ∉ ({dv main_cst} : Finset (DevRef τ sig)) by decide), VS_of _ _ _ (by decide)]
    exact Function.update_self _ _ _

end Cert.Proof.Run

end
-- ==== Proof.Math.Pre.lean ====
/-
  What the precondition says.  Its result is all ones exactly when every class target is one or zero in the total
  order of the values (neither above nor below the constant), and every row holds exactly one one.  The order is read
  off a top-1 of two stacked elements: the first of the two is taken exactly when the second is not above it.
-/
module

public import proofs.«01_k».proof.Defs
public import Idealize.ShloMosaic.Lib.SortFacts
public import Idealize.ShloMosaic.Lib.SortKey
public import Idealize.ShloMosaic.Lib.Pipeline.Value
public import Idealize.ShloMosaic.Lib.Pointwise.Reshape
public import Idealize.ShloMosaic.Lib.StableHlo.Predicate
public import Idealize.ShloMosaic.PureOps.Ideal.Laws

@[expose] public section

noncomputable section

namespace Cert.Proof.Pre

open Cert.Pre_one_hot_targets
open Idealize.ShloMosaic

/-- The relations of shapes the precondition's operations take. -/
theorem facts : Facts where
  bcast_S_S1x16000x81 := by decide
  bcast_S1x16000x81_S1x16000x81x1_0_1_2 := by decide
  concatenates_S1x16000x81x1_S1x16000x81x1_S1x16000x81x2_d3 := by decide
  sliceFits_S1x16000x81x2_S1x16000x81x1 := by decide
  shapeCasts_S1x16000x81x1_S1x16000x81 := by decide
  natLt_1_32 := by decide
  reducesTo_S1x16000x81_S1x16000_d2 := by decide
  h_S_ := by decide
  bcast_S1x16000_S1x16000x1_0_1 := by decide
  bcast_S_S1x16000x1 := by decide
  bcast_S1x16000x1_S1x16000x81_0_1_2 := by decide

/-- Where a stable sort of two positions leaves the first in place, the second does not sort strictly before it. -/
theorem first_of_two (R : Fin 2 → Fin 2 → Bool) (h : sortedFrom R 0 = 0) : R 1 0 = false := by
  cases hR : R 1 0 with
  | false => rfl
  | true =>
    exfalso
    have hl : sortPositions 2 R = [1, 0] := by
      simp [sortPositions, List.finRange_succ, stableSort, insertBefore, hR]
    have : sortedFrom R 0 = 1 := by
      unfold sortedFrom
      simp [hl]
    rw [this] at h
    exact absurd h (by decide)

variable [Facts] {F : FTy → Type} [FloatOps F]
open Facts

/-- Element `(0, r, c)` of the targets. -/
abbrev at3 (r : Fin 16000) (c : Fin 81) : S1x16000x81.Idx := fun | ⟨0, _⟩ => (0 : Fin 1) | ⟨1, _⟩ => r | ⟨2, _⟩ => c
/-- Element `(0, r, c, 0)` of the targets with a last axis of one. -/
abbrev at4 (r : Fin 16000) (c : Fin 81) : S1x16000x81x1.Idx :=
  fun | ⟨0, _⟩ => (0 : Fin 1) | ⟨1, _⟩ => r | ⟨2, _⟩ => c | ⟨3, _⟩ => (0 : Fin 1)
theorem eq_at3 (i : S1x16000x81.Idx) : i = at3 (i 1) (i 2) := by
  funext b
  match b with
  | ⟨0, _⟩ => exact Fin.ext (by have := (i 0).isLt; simp at this; show (i 0).val = 0; omega)
  | ⟨1, _⟩ => rfl
  | ⟨2, _⟩ => rfl

/-- The two arrays stacked along a new last axis. -/
def stack (x y : FVec F S1x16000x81 .f32) : FVec F S1x16000x81x2 .f32 :=
  concatenate S1x16000x81x2 3
    [⟨S1x16000x81x1, broadcastInDim S1x16000x81x1 ![0, 1, 2] bcast_S1x16000x81_S1x16000x81x1_0_1_2 x⟩,
     ⟨S1x16000x81x1, broadcastInDim S1x16000x81x1 ![0, 1, 2] bcast_S1x16000x81_S1x16000x81x1_0_1_2 y⟩]
    concatenates_S1x16000x81x1_S1x16000x81x1_S1x16000x81x2_d3

/-- Where the top-1 of the two stacked elements is the first. -/
def nb (x y : FVec F S1x16000x81 .f32) : IVec S1x16000x81 1 :=
  cmpi .eq
    (shapeCast S1x16000x81
      (Host.topK S1x16000x81x1 3 (FloatOps.cmpfTotal .gt) (stack x y) sliceFits_S1x16000x81x2_S1x16000x81x1).2
      shapeCasts_S1x16000x81x1_S1x16000x81)
    (broadcastInDim S1x16000x81 ![] bcast_S_S1x16000x81 (constantI S_ 32 0#32))

/-- Where neither of the two is above the other. -/
def same (x y : FVec F S1x16000x81 .f32) : IVec S1x16000x81 1 := andi (nb x y) (nb y x)

/-- The constant array of one word. -/
def splat (b : BitVec 32) : FVec F S1x16000x81 .f32 := broadcastInDim S1x16000x81 ![] bcast_S_S1x16000x81 (constant S_ .f32 b)

/-- The precondition in these words. -/
theorem fn_eq (a0 : FVec F S1x16000x324 .f32) (a1 : FVec F S1x16000x81 .f32) (a2 : FVec F S1x16000x324 .f32) (a3 : FVec F S1x16000x81 .f32) :
    fn (F := F) a0 a1 a2 a3
      = andi (ori (same a1 (splat 0x3F800000#32)) (same a1 (splat 0x00000000#32)))
          (broadcastInDim S1x16000x81 ![0, 1, 2] bcast_S1x16000x1_S1x16000x81_0_1_2
            (cmpi .eq
              (broadcastInDim S1x16000x1 ![0, 1] bcast_S1x16000_S1x16000x1_0_1
                (Host.reduce IntOp.addi (extui 32 (same a1 (splat (F := F) 0x3F800000#32)) natLt_1_32) (constantI S_ 32 0#32)
                  reducesTo_S1x16000x81_S1x16000_d2 h_S_))
              (broadcastInDim S1x16000x1 ![] bcast_S_S1x16000x1 (constantI S_ 32 1#32)))) := rfl

theorem stack_zero (x y : FVec F S1x16000x81 .f32) (r : Fin 16000) (c : Fin 81) (k : S1x16000x81x2.Idx)
    (h1 : (k 1).val = r.val) (h2 : (k 2).val = c.val) (h3 : (k 3).val = 0) : stack x y k = x (at3 r c) := by
  unfold stack
  rw [concatenate_pair_apply_left (s₁ := S1x16000x81x1) (s₂ := S1x16000x81x1) 3 _ _ _ k rfl (at4 r c)
    (by
      intro b
      match b with
      | ⟨0, _⟩ => have := (k 0).isLt; simp at this; show 0 = (k 0).val; omega
      | ⟨1, _⟩ => exact h1.symm
      | ⟨2, _⟩ => exact h2.symm
      | ⟨3, _⟩ => exact h3.symm)]
  refine congrArg x (funext fun b => ?_)
  match b with
  | ⟨0, _⟩ => rfl
  | ⟨1, _⟩ => rfl
  | ⟨2, _⟩ => rfl

theorem stack_one (x y : FVec F S1x16000x81 .f32) (r : Fin 16000) (c : Fin 81) (k : S1x16000x81x2.Idx)
    (h1 : (k 1).val = r.val) (h2 : (k 2).val = c.val) (h3 : (k 3).val = 1) : stack x y k = y (at3 r c) := by
  unfold stack
  rw [concatenate_pair_apply_right (s₁ := S1x16000x81x1) (s₂ := S1x16000x81x1) 3 _ _ _ k rfl rfl (at4 r c)
    (by
      intro b hb
      match b with
      | ⟨0, _⟩ => have := (k 0).isLt; simp at this; show 0 = (k 0).val; omega
      | ⟨1, _⟩ => exact h1.symm
      | ⟨2, _⟩ => exact h2.symm
      | ⟨3, _⟩ => exact absurd rfl hb)
    (by show 0 + 1 = (k 3).val; omega)]
  refine congrArg y (funext fun b => ?_)
  match b with
  | ⟨0, _⟩ => rfl
  | ⟨1, _⟩ => rfl
  | ⟨2, _⟩ => rfl

/-- Where the first is taken, the second is not above it. -/
theorem nb_one (x y : FVec F S1x16000x81 .f32) (r : Fin 16000) (c : Fin 81) (h : nb x y (at3 r c) = 1#1) :
    FloatOps.cmpfTotal .gt (y (at3 r c)) (x (at3 r c)) ≠ 1#1 := by
  have h0 : shapeCast S1x16000x81
      (Host.topK S1x16000x81x1 3 (FloatOps.cmpfTotal .gt) (stack x y) sliceFits_S1x16000x81x2_S1x16000x81x1).2
      shapeCasts_S1x16000x81x1_S1x16000x81 (at3 r c) = 0#32 := by
    have := (StableHlo.Predicate.ofBool_eq_one_iff _).1 h
    exact beq_iff_eq.1 this
  rw [shapeCast_apply _ _ _ (at4 r c)
    (by
      rw [rowMajor_val4 _ (16000 * (81 * 1)) (81 * 1) 1 rfl rfl rfl, rowMajor_val3 _ (16000 * 81) 81 rfl rfl]
      show 0 * (16000 * (81 * 1)) + r.val * (81 * 1) + c.val * 1 + 0 = 0 * (16000 * 81) + r.val * 81 + c.val
      omega)] at h0
  unfold Host.topK Host.sort2 at h0
  simp only [extractStridedSlice] at h0
  rw [dif_pos (show 3 < S1x16000x81x2.rank by decide)] at h0
  set J : S1x16000x81x2.Idx := fun a => ⟨0 + (at4 r c (Fin.cast rfl a)).val, by
    have := (at4 r c (Fin.cast rfl a)).isLt
    match a with
    | ⟨0, _⟩ => exact (by simpa using this)
    | ⟨1, _⟩ => exact (by simpa using this)
    | ⟨2, _⟩ => exact (by simpa using this)
    | ⟨3, _⟩ => exact (show 0 + 0 < 2 by decide)⟩ with hJ
  have h1 : BitVec.ofNat 32 (sortedFrom (n := 2) (fun k k' =>
      FloatOps.cmpfTotal .gt (stack x y (J.along 3 k)) (stack x y (J.along 3 k')) == 1#1) 0).val = 0#32 := by
    refine Eq.trans ?_ h0
    show _ = BitVec.ofNat 32 (Function.update J 3 _ 3).val
    rw [Function.update_self]
    rfl
  have h2 : sortedFrom (n := 2) (fun k k' =>
      FloatOps.cmpfTotal .gt (stack x y (J.along 3 k)) (stack x y (J.along 3 k')) == 1#1) 0 = 0 := by
    have := congrArg BitVec.toNat h1
    rw [BitVec.toNat_ofNat] at this
    refine Fin.ext ?_
    have hl := (sortedFrom (n := 2) (fun k k' =>
      FloatOps.cmpfTotal .gt (stack x y (J.along 3 k)) (stack x y (J.along 3 k')) == 1#1) 0).isLt
    rw [Nat.mod_eq_of_lt (by omega)] at this
    exact this
  have h3 := first_of_two _ h2
  rw [stack_one x y r c _ (by show 0 + r.val = _; omega) (by show 0 + c.val = _; omega) (by rfl),
    stack_zero x y r c _ (by show 0 + r.val = _; omega) (by show 0 + c.val = _; omega) (by rfl)] at h3
  intro h4
  rw [h4] at h3
  exact absurd h3 (by decide)

/-- Where two arrays are the same, neither is above the other. -/
theorem same_one (x y : FVec F S1x16000x81 .f32) (r : Fin 16000) (c : Fin 81) (h : same x y (at3 r c) = 1#1) :
    FloatOps.cmpfTotal .gt (y (at3 r c)) (x (at3 r c)) ≠ 1#1 ∧ FloatOps.cmpfTotal .gt (x (at3 r c)) (y (at3 r c)) ≠ 1#1 := by
  have hh := (show ∀ a b : BitVec 1, IntOp.andi a b = 1#1 → a = 1#1 ∧ b = 1#1 by decide) _ _ h
  exact ⟨nb_one x y r c hh.1, nb_one y x r c hh.2⟩

/-- The row sum of a widened mask is the number of its set bits. -/
theorem count_row (msk : IVec S1x16000x81 1) (hw : 1 < 32) (h' : S1x16000x81.ReducesTo [2] S1x16000) (hu : 0 < S_.numel)
    (j : S1x16000.Idx) :
    (Host.reduce IntOp.addi (extui 32 msk hw) (constantI S_ 32 0#32) h' hu j).toNat
      = (Finset.univ.filter (fun c : Fin 81 => msk (at3 (j 1) c) = 1#1)).card := by
  have h : S1x16000x81.Reduces [2] S1x16000 := by decide
  have hl : ∀ c : Fin 81, h.lift j c = at3 (j 1) c := fun c => by
    funext b
    match b with
    | ⟨0, _⟩ => exact Fin.ext (by have := (h.lift j c (0 : Fin 3)).isLt; simp at this; show (h.lift j c (0 : Fin 3)).val = 0; omega)
    | ⟨1, _⟩ => rfl
    | ⟨2, _⟩ => rfl
  have hs : ∀ c : Fin 81, (extui 32 msk hw (h.lift j c)).toNat = if msk (at3 (j 1) c) = 1#1 then 1 else 0 := fun c => by
    rw [hl]; exact StableHlo.Predicate.toNat_setWidth_bit _
  rw [Host.reduce_eq_fold_single _ _ _ h' h]
  have hsum : ∑ c : Fin 81, (extui 32 msk hw (h.lift j c)).toNat
      = (Finset.univ.filter (fun c : Fin 81 => msk (at3 (j 1) c) = 1#1)).card := by
    rw [Finset.card_filter]; exact Finset.sum_congr rfl fun c _ => hs c
  refine (StableHlo.Predicate.toNat_fold_addi (ι := Fin 81) _ (extui 32 msk hw ∘ h.lift j) ?_).trans hsum
  have h81 : 81 < 2 ^ 32 := by norm_num
  refine lt_of_eq_of_lt hsum ?_
  exact lt_of_le_of_lt ((Finset.card_le_univ _).trans_eq (Fintype.card_fin 81)) h81

/-- Under the precondition each target is the same as one or the same as zero, and one target of each row is the same
    as one, no other. -/
theorem of_fn (a0 : FVec F S1x16000x324 .f32) (a1 : FVec F S1x16000x81 .f32) (a2 : FVec F S1x16000x324 .f32) (a3 : FVec F S1x16000x81 .f32)
    (h : fn (F := F) a0 a1 a2 a3 = fun _ => 1#1) (r : Fin 16000) :
    (∀ c : Fin 81, same a1 (splat 0x3F800000#32) (at3 r c) = 1#1 ∨ same a1 (splat 0x00000000#32) (at3 r c) = 1#1) ∧
    (Finset.univ.filter (fun c : Fin 81 => same a1 (splat 0x3F800000#32) (at3 r c) = 1#1)).card = 1 := by
  rw [fn_eq] at h
  have key : ∀ a b : BitVec 1, IntOp.andi a b = 1#1 → a = 1#1 ∧ b = 1#1 := by decide
  have hc := fun c : Fin 81 => key _ _ (congrFun h (at3 r c))
  have keyo : ∀ a b : BitVec 1, IntOp.ori a b = 1#1 → a = 1#1 ∨ b = 1#1 := by decide
  constructor
  · intro c
    exact keyo _ _ (hc c).1
  · have h2 := (hc 0).2
    have e : ∀ a b : BitVec 32, IntOp.cmpi .eq a b = 1#1 → a = b := fun a b hab =>
      beq_iff_eq.1 ((StableHlo.Predicate.ofBool_eq_one_iff _).1 hab)
    simp only [broadcastInDim, cmpi] at h2
    have h4 := congrArg BitVec.toNat (e _ _ h2)
    rw [count_row] at h4
    exact h4

/-- So where neither-above means equal, one target of each row is the constant one and all others are the constant zero. -/
theorem oneHot (hF : ∀ x y : F .f32, FloatOps.cmpfTotal .gt x y ≠ 1#1 → FloatOps.cmpfTotal .gt y x ≠ 1#1 → x = y)
    (a0 : FVec F S1x16000x324 .f32) (a1 : FVec F S1x16000x81 .f32) (a2 : FVec F S1x16000x324 .f32) (a3 : FVec F S1x16000x81 .f32)
    (h : fn (F := F) a0 a1 a2 a3 = fun _ => 1#1) (r : Fin 16000) :
    ∃ c₀ : Fin 81, a1 (at3 r c₀) = FloatOps.ofBits .f32 0x3F800000#32 ∧
      ∀ c : Fin 81, c ≠ c₀ → a1 (at3 r c) = FloatOps.ofBits .f32 0x00000000#32 := by
  obtain ⟨h1, h2⟩ := of_fn a0 a1 a2 a3 h r
  obtain ⟨c₀, hc⟩ := Finset.card_eq_one.1 h2
  have hm : ∀ c : Fin 81, same a1 (splat 0x3F800000#32) (at3 r c) = 1#1 ↔ c = c₀ := fun c => by
    have := Finset.ext_iff.1 hc c
    simpa using this
  refine ⟨c₀, ?_, fun c hne => ?_⟩
  · have := same_one a1 _ r c₀ ((hm c₀).2 rfl)
    exact hF _ _ this.2 this.1
  · have := same_one a1 _ r c ((h1 c).resolve_left fun e => hne ((hm c).1 e))
    exact hF _ _ this.2 this.1

/-- On words: neither above the other in the total order is the same word. -/
theorem eq_bits (x y : Bits .f32) (h : FloatOps.cmpfTotal .gt x y ≠ 1#1) (h' : FloatOps.cmpfTotal .gt y x ≠ 1#1) : x = y := by
  rw [cmpfTotal_f32_eq_cmpi_sortableKey] at h h'
  have e : ∀ a b : BitVec 32, IntOp.cmpi CmpDirection.gt.signed a b ≠ 1#1 → a.toInt ≤ b.toInt := fun a b hab => by
    by_contra hlt
    refine hab ((StableHlo.Predicate.ofBool_eq_one_iff _).2 ?_)
    exact decide_eq_true (by omega)
  exact sortableKey_injective (BitVec.eq_of_toInt_eq (le_antisymm (e _ _ h) (e _ _ h')))

/-- On extended reals: neither above the other is equal. -/
theorem eq_ideal (x y : Ideal .f32) (h : FloatOps.cmpfTotal .gt x y ≠ 1#1) (h' : FloatOps.cmpfTotal .gt y x ≠ 1#1) : x = y := by
  have e : ∀ a b : EReal, Ideal.cmp CmpDirection.gt.ordered a b ≠ 1#1 → a ≤ b := fun a b hab => by
    by_contra hlt
    refine hab ((StableHlo.Predicate.ofBool_eq_one_iff _).2 ?_)
    exact decide_eq_true (lt_of_not_ge hlt)
  exact le_antisymm (e _ _ h) (e _ _ h')

end Cert.Proof.Pre
-- ==== Proof.Math.Label.lean ====
/-
  The labels of the idealized kernel: where the targets are one-hot rows, a label is the class of its row's one target,
  the labels past the last row are zero, so each names a place of the 128 class weights.
-/
module

public import proofs.«01_k».proof.Proof.Math.Pre
public import proofs.«01_k».proof.Proof.Run.Ends
public import Idealize.ShloMosaic.Lib.ValueIdx

@[expose] public section

noncomputable section

namespace Cert.Proof.Run

open Cert.KernelIdeal Cert.KernelIdeal.Gen
open Idealize.ShloMosaic hiding ix1 ix2 eq_ix1 eq_ix2
open Idealize.ShloMosaic.ValueIdx (ix1 ix2 eq_ix1 eq_ix2)

/-- One-hot rows: row `r` is one at its class and zero elsewhere. -/
def OneHot (ts : S16000x81.Idx → EReal) (cls : Fin 16000 → Fin 81) : Prop :=
  ∀ (r : Fin 16000) (c : Fin 81), ts (ix2 r c) = if c = cls r then 1 else 0

/-- Element (r, c) of the targets as the statistics call takes them. -/
theorem x0_at {F : FTy → Type} [FloatOps F] [Named F] (m : (ℓ : Loc nD τ sig) → Buf (Elt F) ℓ) (d : Dev nD) (r : Fin 16000) (c : Fin 81) :
    x0 m d (ix2 r c) = (m (d, dv main_arg1) : S1x16000x81.Idx → F .f32) (Pre.at3 r c) := by
  rw [x0_eq]
  refine (shapeCast_dropUnit_apply ![16000, 81] _ _ (ix2 r c)).trans (congrArg _ (funext fun b => ?_))
  match b with
  | ⟨0, _⟩ => rfl
  | ⟨1, _⟩ => rfl
  | ⟨2, _⟩ => rfl

theorem rows81_at {α : Type} (x : S16000x81.Idx → α) (t : ℕ) (ht : t < 25) (r : Fin 640) (c : Fin 81) :
    rows81 x t ht (ix2 r c) = x (ix2 (rowIx t ht r) c) := congrArg x (eq_ix2 _)

theorem one_f32 : Ideal.ofBits .f32 0x3F800000#32 = 1 := by
  simp [Ideal.ofBits, Ideal.ieee]
  rw [← EReal.coe_mul]
  norm_num

/-- The precondition: the targets are one-hot rows. -/
theorem oneHot (hP : Cert.Pre_one_hot_targets.Facts) (m : (ℓ : Loc nD τ sig) → Buf (Elt Ideal) ℓ) (h : Cert.Pre_KernelIdeal m) (d : Dev nD) :
    ∃ cls : Fin 16000 → Fin 81, OneHot (x0 m d) cls := by
  choose cls h1 h0 using fun r => Pre.oneHot Pre.eq_ideal _ _ _ _ (h d) r
  refine ⟨cls, fun r c => (x0_at m d r c).trans ?_⟩
  by_cases hc : c = cls r
  · rw [if_pos hc, hc]; exact (h1 r).trans one_f32
  · rw [if_neg hc]; exact (h0 r c hc).trans Ideal.ofBits_zero_f32

/-- The row sum of a 640 × 81 block, by its columns. -/
theorem lift_row (r : Fin 640) (c : Fin 81) : (reduces_S640x81_S640 : S640x81.Reduces [1] S640).lift (ix1 r) c = ix2 r c := by
  funext b
  match b with
  | ⟨0, _⟩ => rfl
  | ⟨1, _⟩ => rfl
theorem sum_row (v : FVec Ideal S640x81 .f32) (r : Fin 640) :
    multiReduction (F := Ideal) .add [1] S640 v 0x00000000#32 reduces_S640x81_S640 (.inl rfl) rfl (ix1 r) = ∑ c : Fin 81, (v (ix2 r c) : EReal) := by
  refine (Ideal.multiReduction_add_single v _ _ _ _ (ix1 r)).trans ?_
  exact Finset.sum_congr rfl fun c _ => congrArg v (lift_row r c)

theorem fptosi_nat (n : ℕ) (h : n < 81) : Ideal.fptosi 32 ((n : ℝ) : EReal) = BitVec.ofNat 32 n := by
  show BitVec.ofInt 32 (max _ (min _ (if (0 : ℝ) ≤ (n : ℝ) then ⌊(n : ℝ)⌋ else _))) = _
  rw [if_pos (Nat.cast_nonneg n), Int.floor_natCast, min_eq_right (by norm_num; omega), max_eq_right (by norm_num), BitVec.ofInt_natCast]

/-- A row whose one target is at class `c₀` has label `c₀`. -/
theorem pay10_eq (v : Vec Ideal S640x81 .f32) (r : Fin 640) (c₀ : Fin 81) (h : ∀ c : Fin 81, v (ix2 r c) = (if c = c₀ then 1 else 0 : EReal)) :
    k0_pay10 (F := Ideal) v (ix1 r) = BitVec.ofNat 32 c₀.val := by
  show Ideal.fptosi 32 (multiReduction (F := Ideal) .add [1] S640 _ 0x00000000#32 reduces_S640x81_S640 (.inl rfl) rfl (ix1 r)) = _
  rw [sum_row]
  rw [show (∑ c : Fin 81, (mulf (F := Ideal) (k0_pay9 v) (sitofp .f32 (iota .tc S640x81 32 [1] iota_S640x81_d1_w32)) (ix2 r c) : EReal))
      = ((c₀.val : ℝ) : EReal) from ?_]
  · exact fptosi_nat _ c₀.isLt
  refine (Finset.sum_congr rfl fun c _ => show _ = (if c = c₀ then ((c.val : ℝ) : EReal) else 0) from ?_).trans ?_
  · have hc := c.isLt
    show (k0_pay9 v (ix2 r c) : EReal) * (((iota .tc S640x81 32 [1] iota_S640x81_d1_w32 (ix2 r c)).toInt : ℝ) : EReal) = _
    rw [show k0_pay9 v = v from shapeCast_self v _, h c, iota_single_apply]
    show _ * (((BitVec.ofNat 32 c.val).toInt : ℝ) : EReal) = _
    rw [StableHlo.Predicate.toInt_ofNat_small _ (by omega)]
    split
    · rw [one_mul]; rfl
    · rw [zero_mul]
  · rw [Finset.sum_ite_eq' Finset.univ c₀ (fun c : Fin 81 => ((c.val : ℝ) : EReal)), if_pos (Finset.mem_univ _)]

/-- A value of the vector of 16384 at a row is the value of the row in its block. -/
theorem chunkF_row {α : Type} (P : (t : ℕ) → t < 25 → S640.Idx → α) (pad : S384.Idx → α) (j : S16384.Idx) (hj : (j 0).val < 16000) :
    chunkF P pad j = P ((j 0).val / 640) (by omega) (ix1 ⟨(j 0).val % 640, Nat.mod_lt _ (by decide)⟩) := by
  unfold chunkF
  rw [dif_pos hj]
  exact congrArg (P _ _) (eq_ix1 _)
theorem rowIx_divmod (j : ℕ) (hj : j < 16000) : rowIx (j / 640) (by omega) ⟨j % 640, Nat.mod_lt _ (by decide)⟩ = ⟨j, hj⟩ := Fin.ext (by
  show 640 * (j / 640) + j % 640 = j; omega)

theorem labV_row (ts : S16000x81.Idx → EReal) (cls : Fin 16000 → Fin 81) (h : OneHot ts cls) (j : S16384.Idx) (hj : (j 0).val < 16000) :
    labV (F := Ideal) ts j = BitVec.ofNat 32 (cls ⟨(j 0).val, hj⟩).val := by
  refine (chunkF_row _ _ j hj).trans ((pay10_eq _ _ (cls ⟨(j 0).val, hj⟩) fun c => ?_))
  rw [rows81_at, rowIx_divmod _ hj]
  exact h _ c
theorem labV_pad (ts : S16000x81.Idx → EReal) (j : S16384.Idx) (hj : ¬ (j 0).val < 16000) : labV (F := Ideal) ts j = 0#32 := by
  unfold labV chunkF
  rw [dif_neg hj]
  rfl

/-- Under the precondition every label names a class weight. -/
theorem labOK (hP : Cert.Pre_one_hot_targets.Facts) (m : (ℓ : Loc nD τ sig) → Buf (Elt Ideal) ℓ) (h : Cert.Pre_KernelIdeal m) :
    LabOK (F := Ideal) (fun d => lab m d) := by
  intro d j
  obtain ⟨cls, hc⟩ := oneHot hP m h d
  show (lab m d j : BitVec 32).toNat < 128
  rw [lab_eq]
  by_cases hj : (j 0).val < 16000
  · rw [labV_row _ cls hc j hj]
    have := (cls ⟨(j 0).val, hj⟩).isLt
    rw [BitVec.toNat_ofNat, Nat.mod_eq_of_lt (by omega)]
    omega
  · rw [labV_pad _ j hj]
    decide

end Cert.Proof.Run
-- ==== Proof.Math.LabelK.lean ====
/-
  The labels of the translated kernel, on words: under the precondition every label is the class of the row's one
  target, so it names a place of the 128 class weights. A row's sum of target times class number is a sum of small
  naturals, one of them not zero.
-/
module

public import proofs.«01_k».proof.Proof.Math.Pre
public import proofs.«01_k».proof.Proof.RunK.Ends
public import Idealize.ShloMosaic.Lib.NatWords
public import Idealize.ShloMosaic.Lib.ValueIdxCore

@[expose] public section

noncomputable section

namespace Cert.Proof.RunK

open Cert.Kernel Cert.Kernel.Gen
open Idealize.ShloMosaic hiding ix1 ix2 eq_ix1 eq_ix2
open Idealize.ShloMosaic.ValueIdx (ix1 ix2 eq_ix1 eq_ix2)

/-- Element (r, c) of the targets as the statistics call takes them. -/
theorem x0_at {F : FTy → Type} [FloatOps F] (m : (ℓ : Loc nD τ sig) → Buf (Elt F) ℓ) (d : Dev nD) (r : Fin 16000) (c : Fin 81) :
    x0 m d (ix2 r c) = (m (d, dv main_arg1) : S1x16000x81.Idx → F .f32) (Pre.at3 r c) := by
  rw [x0_eq]
  refine (shapeCast_dropUnit_apply ![16000, 81] _ _ (ix2 r c)).trans (congrArg _ (funext fun b => ?_))
  match b with
  | ⟨0, _⟩ => rfl
  | ⟨1, _⟩ => rfl
  | ⟨2, _⟩ => rfl

theorem rows81_at {α : Type} (x : S16000x81.Idx → α) (t : ℕ) (ht : t < 25) (r : Fin 640) (c : Fin 81) :
    rows81 x t ht (ix2 r c) = x (ix2 (rowIx t ht r) c) := congrArg x (eq_ix2 _)

/-- A row whose one target is at class `c₀` has label `c₀`. -/
theorem pay10_eq (v : Vec Bits S640x81 .f32) (r : Fin 640) (c₀ : Fin 81) (h1 : v (ix2 r c₀) = (FloatOps.ofBits .f32 0x3F800000#32 : Bits .f32))
    (h0 : ∀ c : Fin 81, c ≠ c₀ → v (ix2 r c) = (FloatOps.ofBits .f32 0x00000000#32 : Bits .f32)) :
    k0_pay10 (F := Bits) v (ix1 r) = BitVec.ofNat 32 c₀.val := by
  have hone : (FloatOps.ofBits .f32 0x3F800000#32 : Bits .f32) = Bits.f32OfNat 1 := by
    rw [Bits.f32OfNat_eq 1 (by decide)]; decide
  have hv : ∀ c : Fin 81, v (ix2 r c) = Bits.f32OfNat (if c = c₀ then 1 else 0) := fun c => by
    by_cases hc : c = c₀
    · rw [if_pos hc, hc, h1, hone]
    · rw [if_neg hc, h0 c hc]; exact Bits.f32OfNat_zero.symm
  have hR : ∀ (c : Fin 81), (reduces_S640x81_S640 : S640x81.Reduces [1] S640).lift (ix1 r) c = ix2 r c := fun c => by
    funext b
    match b with
    | ⟨0, _⟩ => rfl
    | ⟨1, _⟩ => rfl
  have hterm : ∀ c : Fin 81, mulf (F := Bits) (k0_pay9 v) (sitofp .f32 (iota .tc S640x81 32 [1] iota_S640x81_d1_w32)) (ix2 r c)
      = Bits.f32OfNat (if c = c₀ then c.val else 0) := fun c => by
    show Bits.mulf32 (k0_pay9 v (ix2 r c)) (Bits.sitofp32 (iota .tc S640x81 32 [1] iota_S640x81_d1_w32 (ix2 r c))) = _
    have hc := c.isLt
    rw [show k0_pay9 v = v from shapeCast_self v _, hv c, iota_single_apply,
      Bits.sitofp32_eq_f32OfNat _ le_rfl (by
        show 2 * (BitVec.ofNat 32 c.val).toNat < 2 ^ 32
        rw [BitVec.toNat_ofNat, Nat.mod_eq_of_lt (by omega)]; omega)]
    show Bits.mulf32 _ (Bits.f32OfNat (BitVec.ofNat 32 c.val).toNat) = _
    rw [BitVec.toNat_ofNat, Nat.mod_eq_of_lt (by omega)]
    split
    · rw [Bits.mulf32_nat 1 c.val (by decide) (by omega) (by omega), Nat.one_mul]
    · rw [Bits.mulf32_nat 0 c.val (by decide) (by omega) (by omega), Nat.zero_mul]
  have hsum : (Bits.reduceFiber reduces_S640x81_S640 (ix1 r)).sum (fun i : S640x81.Idx => if (i 1).val = c₀.val then (i 1).val else 0) = c₀.val := by
    refine ((reduces_S640x81_S640 : S640x81.Reduces [1] S640).sum_filter_drop_single _ (ix1 r)).trans ?_
    refine (Finset.sum_congr rfl fun (c : Fin 81) _ => show _ = (if c = c₀ then c.val else 0) by rw [hR]; simp only [Fin.ext_iff]).trans ?_
    show (∑ c : Fin 81, if c = c₀ then c.val else 0) = _
    rw [Finset.sum_ite_eq' Finset.univ c₀ (fun c : Fin 81 => c.val), if_pos (Finset.mem_univ _)]
  have hc0 := c₀.isLt
  show Bits.fptosi32 32 (multiReduction (F := Bits) .add [1] S640 _ 0x00000000#32 reduces_S640x81_S640 (.inl rfl) rfl (ix1 r)) = _
  rw [Bits.multiReduction_add_nat [1] reduces_S640x81_S640 _ (ix1 r) (fun i => if (i 1).val = c₀.val then (i 1).val else 0)
    (fun i hi => by
      obtain ⟨c, rfl⟩ : ∃ c : Fin 81, i = ix2 r c := ⟨i 1, by
        rw [← (reduces_S640x81_S640 : S640x81.Reduces [1] S640).lift_drop i, hi]
        exact hR _⟩
      have hc := c.isLt
      have e : (if c = c₀ then c.val else 0) = if ((ix2 r c : S640x81.Idx) 1).val = c₀.val then ((ix2 r c : S640x81.Idx) 1).val else 0 :=
        if_congr Fin.ext_iff rfl rfl
      rw [hterm, ← e]
      refine Bits.natOfF32?_f32OfNat _ ?_
      split <;> omega) (by rw [hsum]; omega), hsum]
  exact Bits.fptosi32_nat _ (by omega)

/-- Under the precondition every label names a class weight. -/
theorem labOK (hP : Cert.Pre_one_hot_targets.Facts) (m : (ℓ : Loc nD τ sig) → Buf (Elt Bits) ℓ) (h : Cert.Pre_Kernel m) :
    LabOK (F := Bits) (fun d => lab m d) := by
  intro d j
  show (lab m d j : BitVec 32).toNat < 128
  rw [lab_eq]
  unfold labV chunkF
  split
  · rename_i hj
    obtain ⟨c₀, h1, h0⟩ := Pre.oneHot Pre.eq_bits _ _ _ _ (h d) (rowIx ((j 0).val / 640) (by omega) ⟨(j 0).val % 640, Nat.mod_lt _ (by decide)⟩)
    refine lt_of_eq_of_lt (congrArg (fun i => (k0_pay10 (rows81 (x0 m d) _ _) i : BitVec 32).toNat) (eq_ix1 _)) ?_
    have e := pay10_eq (rows81 (x0 m d) ((j 0).val / 640) (by omega)) ⟨(j 0).val % 640, Nat.mod_lt _ (by decide)⟩ c₀
      ((rows81_at _ _ _ _ _).trans ((x0_at m d _ c₀).trans h1)) fun c hc => (rows81_at _ _ _ _ _).trans ((x0_at m d _ c).trans (h0 c hc))
    refine lt_of_eq_of_lt (congrArg BitVec.toNat e) ?_
    have := c₀.isLt
    rw [BitVec.toNat_ofNat, Nat.mod_eq_of_lt (by omega)]
    omega
  · show (0#32 : BitVec 32).toNat < 128
    decide

end Cert.Proof.RunK
-- ==== Proof.Claims.Frames.lean ====
/-
  The frame claims: the kernel as printed, its idealization and the reference terminate without a fault, with their
  arguments unchanged and every semaphore back at zero; and the one site where the idealization names a constant.
-/
module

public import proofs.«01_k».proof.Defs
public import proofs.«01_k».proof.Proof.Run.Main
public import proofs.«01_k».proof.Proof.Run.Ends
public import proofs.«01_k».proof.Proof.RunK.Main
public import proofs.«01_k».proof.Proof.RunK.Ends
public import proofs.«01_k».proof.Proof.Math.Label
public import proofs.«01_k».proof.Proof.Math.LabelK
public import proofs.«01_k».proof.Proof.Gen.ReferenceIdeal.Run
public import Idealize.ShloMosaic.Lib.Quiescent

@[expose] public section

noncomputable section

namespace Cert.Proof

open Idealize.ShloMosaic Idealize.SL.Sem

/-- Every float and integer element type has a value, at either reading of the floats. -/
instance nonemptyBits (e : EltTy) : Nonempty (Elt Bits e) := by
  cases e <;> exact ⟨(0 : BitVec _)⟩
instance nonemptyIdeal (e : EltTy) : Nonempty (Elt Ideal e) := by
  cases e <;> first | exact ⟨(0 : BitVec _)⟩ | exact ⟨(0 : EReal)⟩

/-- The kernel as printed, on one-hot targets. -/
theorem frame_kernel : Cert.quiescent_Kernel (hKernel := Cert.Kernel.Gen.facts) (hPre_one_hot_targets := Pre.facts) :=
  fun m g hp => (θ_run _ _ _).mono
    (fun _ h => ⟨fun c => ⟨(h.1 c).1.trans (RunK.VE_arg m c _ (by decide)), (h.1 c).2.1.trans (RunK.VE_arg m c _ (by decide)),
      (h.1 c).2.2.1.trans (RunK.VE_arg m c _ (by decide)), (h.1 c).2.2.2.1.trans (RunK.VE_arg m c _ (by decide))⟩, h.2⟩)
    (RunK.run_main (F := Bits) m g (RunK.labOK Pre.facts m hp))

/-- The idealized kernel, on one-hot targets. -/
theorem frame_kernelIdeal : Cert.quiescent_KernelIdeal (hKernelIdeal := Cert.KernelIdeal.Gen.facts) (hPre_one_hot_targets := Pre.facts) :=
  fun m g hp => (θ_run _ _ _).mono
    (fun _ h => ⟨fun c => ⟨(h.1 c).1.trans (Run.VE_arg m c _ (by decide)), (h.1 c).2.1.trans (Run.VE_arg m c _ (by decide)),
      (h.1 c).2.2.1.trans (Run.VE_arg m c _ (by decide)), (h.1 c).2.2.2.1.trans (Run.VE_arg m c _ (by decide))⟩, h.2⟩)
    (Run.run_main (F := Ideal) m g (Run.labOK Pre.facts m hp))

/-- The reference, on any arguments. -/
theorem frame_reference : Cert.quiescent_ReferenceIdeal (hReferenceIdeal := Cert.ReferenceIdeal.Gen.facts) :=
  fun m g _ => (θ_run _ _ _).mono
    (fun _ h => ⟨fun c => (h c).2, sem_eq_zero_of_no_sems (by decide) _⟩)
    (Cert.ReferenceIdeal.Value.run (F := Ideal) m g)

/-- The reference on one-hot targets. -/
theorem frame_reference_pre :
    Cert.quiescent_ReferenceIdeal_pre_one_hot_targets (hReferenceIdeal := Cert.ReferenceIdeal.Gen.facts) (hPre_one_hot_targets := Pre.facts) :=
  fun m g _ => frame_reference m g trivial

/-- The named constant is one over the number of anchors. -/
theorem preserves : Cert.preserves_Kernel_KernelIdeal :=
  IdealRules.named_const.statement Cert.KernelIdeal.κ "inv_n" .f32 0x3883126F#32 ((1 / 16000 : ℝ) : EReal) rfl

end Cert.Proof

end
-- ==== Proof.Math.Spec.lean ====
/-
  The loss as plain sums over anchors and classes, in the extended reals, and the small facts about sums, the sigmoid
  and the smooth distance that both programs' values are read with.
-/
module

public import Idealize.ShloMosaic.PureOps.Ideal
public import Idealize.ShloMosaic.PureOps.Ideal.Laws
public import Idealize.ShloMosaic.Lib.ValueIdx

@[expose] public section

noncomputable section

namespace Cert.Proof.Math

open Idealize.ShloMosaic

/-! ## Sums -/

/-- A sum over `a` blocks of `b`, block by block, is the sum over all. -/
theorem sum_blocks (h : ℕ → EReal) (b a : ℕ) :
    (∑ r ∈ Finset.range a, ∑ j ∈ Finset.range b, h (b * r + j)) = ∑ i ∈ Finset.range (b * a), h i := by
  induction a with
  | zero => simp
  | succ a ih => rw [Finset.sum_range_succ, ih, Nat.mul_succ, Finset.sum_range_add]

/-- A function of the anchors, zero past the last. -/
def past (f : Fin 16000 → EReal) (n : ℕ) : EReal := if h : n < 16000 then f ⟨n, h⟩ else 0

theorem sum_ext (f : Fin 16000 → EReal) : (∑ n ∈ Finset.range 16000, past f n) = ∑ r, f r := by
  rw [Finset.sum_range]
  exact Finset.sum_congr rfl fun r _ => dif_pos r.isLt

/-- A real factor that is not negative goes through a sum. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert i s hi ih =>
    rw [Finset.sum_insert hi, Finset.sum_insert hi, ← ih]
    exact EReal.right_distrib_of_nonneg_of_ne_top (by exact_mod_cast hc) (EReal.coe_ne_top c) _ _

/-! ## The loss -/

def eps : EReal := Ideal.ofBits .f32 0x33D6BF95#32
def top1 : EReal := Ideal.ofBits .f32 0x3F7FFFFE#32
def half : EReal := Ideal.ofBits .f32 0x3F000000#32

theorem eps_pos : 0 < eps := by
  unfold eps
  simp [Ideal.ofBits, Ideal.ieee]
  rw [← EReal.coe_mul]
  exact_mod_cast (by norm_num)

/-- The sigmoid, as both programs write it. -/
def sg (x : EReal) : EReal := Ideal.div 1 (1 + Ideal.exp (-x))

theorem exp_nonneg (x : EReal) : 0 ≤ Ideal.exp x := by
  induction x with
  | bot => exact le_rfl
  | top => exact le_top
  | coe r => exact EReal.coe_nonneg.2 (Real.exp_pos r).le

/-- A sigmoid is between zero and one. -/
theorem sg_bound (x : EReal) : 0 ≤ sg x ∧ sg x ≠ ⊤ := by
  have h1 : (1 : EReal) ≤ 1 + Ideal.exp (-x) := le_add_of_nonneg_right (exp_nonneg _)
  have h0 : 0 < 1 + Ideal.exp (-x) := lt_of_lt_of_le zero_lt_one h1
  unfold sg Ideal.div
  rw [if_neg h0.ne', one_mul]
  refine ⟨EReal.inv_nonneg_of_nonneg h0.le, ?_⟩
  generalize 1 + Ideal.exp (-x) = y at h0 h1
  induction y with
  | bot => simp at h0
  | top => simp
  | coe r => rw [← EReal.coe_inv]; exact EReal.coe_ne_top _

/-- The distance of two values. -/
def ab (x : EReal) : EReal := max x (-x)
/-- The smooth distance. -/
def sl (d : EReal) : EReal := if d < 1 then half * (d * d) else d - half

theorem sl_zero : sl 0 = 0 := by
  unfold sl
  rw [if_pos zero_lt_one, mul_zero, mul_zero]

/-- A factor that is not negative goes through the distance. -/
theorem ab_mul (x y l : EReal) (h0 : 0 ≤ l) (h1 : l ≠ ⊤) : ab (x * l - y * l) = ab (x - y) * l := by
  have e : x * l - y * l = (x - y) * l := by
    rw [sub_eq_add_neg, sub_eq_add_neg, EReal.right_distrib_of_nonneg_of_ne_top h0 h1, EReal.neg_mul]
  rw [e]
  unfold ab
  rw [← EReal.neg_mul]
  exact ((monotone_mul_right_of_nonneg h0).map_max (a := x - y) (b := -(x - y))).symm

variable (cls : Fin 16000 → Fin 81)

/-- The target score of anchor `r` for class `c`. -/
def hot (r : Fin 16000) (c : Fin 81) : EReal := if c = cls r then 1 else 0
/-- The anchors of class `c`, all anchors, those of a class other than the background. -/
def cnt (c : Fin 81) : EReal := ∑ r : Fin 16000, hot cls r c
def tot : EReal := ∑ c : Fin 81, cnt cls c
def pos : EReal := ∑ c : Fin 80, cnt cls c.succ
/-- The class weights of the two losses. -/
def wt (c : Fin 81) : EReal := sg (Ideal.div (tot cls) (max (cnt cls c) eps))
def wp (c : Fin 80) : EReal := sg (Ideal.div (pos cls) (max (cnt cls c.succ) eps))

/-- Anchor `r`'s negated log of its clipped, normalised score at its class; the classification loss. -/
def lg (os : Fin 16000 → Fin 81 → EReal) (r : Fin 16000) : EReal :=
  -(Ideal.log (min top1 (max eps (Ideal.div (os r (cls r)) (∑ c : Fin 81, os r c)))))
def clsLoss (os : Fin 16000 → Fin 81 → EReal) : EReal :=
  (∑ r : Fin 16000, lg cls os r * wt cls (cls r)) * ((1 / 16000 : ℝ) : EReal)

/-- The class of a delta past the background's, the delta among all 324. -/
def kc (k : Fin 320) : Fin 80 := ⟨k.val / 4, by have := k.isLt; omega⟩
def k4 (k : Fin 320) : Fin 324 := ⟨4 + k.val, by have := k.isLt; omega⟩
/-- The weight of anchor `r`'s delta `k`: its class's where `k` belongs to that class. -/
def lb (r : Fin 16000) (k : Fin 320) : EReal := if (kc k).succ = cls r then wp cls (kc k) else 0
def regLoss (od td : Fin 16000 → Fin 324 → EReal) : EReal :=
  Ideal.div (∑ r : Fin 16000, ∑ k : Fin 320, sl (ab (od r (k4 k) - td r (k4 k)) * lb cls r k)) (max eps (pos cls))

/-- The anchors of a class are finitely many. -/
theorem cnt_real (c : Fin 81) : ∃ x : ℝ, cnt cls c = (x : EReal) := by
  unfold cnt
  refine Finset.sum_induction _ (fun y : EReal => ∃ x : ℝ, y = (x : EReal)) ?_ ⟨0, rfl⟩ fun r _ => ?_
  · rintro _ _ ⟨x, rfl⟩ ⟨y, rfl⟩
    exact ⟨x + y, (EReal.coe_add x y).symm⟩
  · unfold hot
    split
    · exact ⟨1, rfl⟩
    · exact ⟨0, rfl⟩

/-- All anchors but those of the background. -/
theorem tot_sub : tot cls - cnt cls 0 = pos cls := by
  unfold tot pos
  rw [Fin.sum_univ_succ]
  obtain ⟨x, hx⟩ := cnt_real cls 0
  rw [hx, add_comm]
  exact EReal.add_sub_cancel_right

theorem lb_bound (r : Fin 16000) (k : Fin 320) : 0 ≤ lb cls r k ∧ lb cls r k ≠ ⊤ := by
  unfold lb
  split
  · exact sg_bound _
  · exact ⟨le_rfl, EReal.zero_ne_top⟩

/-- A sum of an anchor's scores weighed by its targets is its class's. -/
theorem sum_hot (f : Fin 81 → EReal) (r : Fin 16000) : (∑ c : Fin 81, hot cls r c * f c) = f (cls r) := by
  unfold hot
  simp

theorem max_eps_ne (x : EReal) : max eps x ≠ 0 := (lt_of_lt_of_le eps_pos (le_max_left _ _)).ne'

/-- Division by a value is multiplication by its reciprocal. -/
theorem mul_div_one (x y : EReal) (h : y ≠ 0) : x * Ideal.div 1 y = Ideal.div x y := by
  unfold Ideal.div
  rw [if_neg h, if_neg h, one_mul]

end Cert.Proof.Math

end
-- ==== Proof.Math.Counts.lean ====
/-
  What the first TensorCore call of the idealized kernel leaves: the anchors of each class, the class weights of the two
  losses, the reciprocal of the second loss's divisor and the negated logs.
-/
module

public import proofs.«01_k».proof.Proof.Math.Label
public import proofs.«01_k».proof.Proof.Math.Spec

@[expose] public section

noncomputable section

namespace Cert.Proof.Run

open Cert.KernelIdeal Cert.KernelIdeal.Gen Cert.Proof.Math
open Idealize.ShloMosaic hiding ix1 ix2 eq_ix1 eq_ix2
open Idealize.ShloMosaic.ValueIdx (ix0 ix1 ix2 eq_ix1 eq_ix2)

/-! ## Sums over blocks of anchors -/

/-- The anchors of block `t`, numbered through. -/
theorem sum_chunk (f : Fin 16000 → EReal) (t : ℕ) (ht : t < 25) :
    (∑ r : Fin 640, f (rowIx t ht r)) = ∑ j ∈ Finset.range 640, past f (640 * t + j) := by
  rw [Finset.sum_range]
  refine Finset.sum_congr rfl fun r _ => ?_
  unfold past
  rw [dif_pos (show 640 * t + r.val < 16000 by have := r.isLt; omega)]
  rfl

/-! ## The counts -/

/-- The column sum of a 640 × 81 block, by its rows. -/
theorem lift_col (c : Fin 81) (r : Fin 640) : (reduces_S640x81_S81 : S640x81.Reduces [0] S81).lift (ix1 c) r = ix2 r c := by
  funext b
  match b with
  | ⟨0, _⟩ => rfl
  | ⟨1, _⟩ => rfl
theorem sum_col (v : FVec Ideal S640x81 .f32) (c : Fin 81) :
    multiReduction (F := Ideal) .add [0] S81 v 0x00000000#32 reduces_S640x81_S81 (.inl rfl) rfl (ix1 c) = ∑ r : Fin 640, (v (ix2 r c) : EReal) := by
  refine (Ideal.multiReduction_add_single v _ _ _ _ (ix1 c)).trans ?_
  exact Finset.sum_congr rfl fun r _ => congrArg v (lift_col c r)

/-- A block's step of the counts: a column's sum is added. -/
theorem pay13_at (v : Vec Ideal S640x81 .f32) (a : Vec Ideal S1x81 .f32) (c : Fin 81) :
    (k0_pay13 (F := Ideal) v a (ix2 0 c) : EReal) = (a (ix2 0 c) : EReal) + ∑ r : Fin 640, (v (ix2 r c) : EReal) := by
  have h1 : k0_pay9 (F := Ideal) v = v := shapeCast_self v _
  unfold k0_pay13
  simp only [h1]
  rw [shapeCast_self]
  refine congrArg ((a (ix2 0 c) : EReal) + ·) ?_
  refine (shapeCast_apply _ _ (ix2 0 c) (ix1 c) ?_).trans (sum_col v c)
  simp [rowMajor_val2, rowMajor_val1]

/-- Lane `k` of 128. -/
theorem emb81 (c : Fin 81) : r81.emb (ix2 0 c) = ix2 0 ⟨c.val, by have := c.isLt; omega⟩ := by
  funext a
  match a with
  | ⟨0, _⟩ => exact Fin.ext (by simp [Rect.emb, Rect.unit])
  | ⟨1, _⟩ => exact Fin.ext (by simp [Rect.emb, Rect.unit])

theorem not_mem81 (k : Fin 128) (h : ¬ k.val < 81) : (ix2 0 k : S1x128.Idx) ∉ r81.set := by
  rw [Rect.mem_set_unit]
  intro hh
  have := (hh 1).2
  exact h (by simpa using this)

theorem accF_at (ts : S16000x81.Idx → EReal) (cls : Fin 16000 → Fin 81) (h : OneHot ts cls) : ∀ (t : ℕ) (ht : t ≤ 25),
    (∀ c : Fin 81, accF (F := Ideal) ts t ht (ix2 0 ⟨c.val, by have := c.isLt; omega⟩) = ∑ n ∈ Finset.range (640 * t), past (fun r => hot cls r c) n)
      ∧ ∀ k : Fin 128, ¬ k.val < 81 → accF (F := Ideal) ts t ht (ix2 0 k) = (0 : EReal)
  | 0, _ => by
    have h0 : accF (F := Ideal) ts 0 (by omega) = fun _ => (0 : EReal) := by
      show shapeCast S1x128 (broadcast S1x128 (FloatOps.ofBits (F := Ideal) FTy.f32 0#32)) shapeCasts_S1x128_S1x128 = _
      rw [shapeCast_self]
      exact funext fun _ => Ideal.ofBits_zero_f32
    rw [h0]
    exact ⟨fun c => by simp, fun k _ => rfl⟩
  | t + 1, ht => by
    obtain ⟨h1, h2⟩ := accF_at ts cls h t (by omega)
    refine ⟨fun c => ?_, fun k hk => ?_⟩
    · rw [← emb81 c]
      show r81.overlay _ _ (r81.emb (ix2 0 c)) = _
      rw [Rect.overlay_emb]
      refine (pay13_at _ _ c).trans ?_
      rw [emb81 c, h1 c, Nat.mul_succ, Finset.sum_range_add, ← sum_chunk _ t (by omega)]
      refine congrArg (_ + ·) (Finset.sum_congr rfl fun r _ => ?_)
      rw [rows81_at]
      exact h _ c
    · show r81.overlay _ _ (ix2 0 k) = _
      rw [Rect.overlay_of_not_mem _ _ _ (not_mem81 k hk)]
      exact h2 k hk

/-- The counts as the call leaves them: by class, zero past the last class. -/
theorem accEnd_class (ts : S16000x81.Idx → EReal) (cls : Fin 16000 → Fin 81) (h : OneHot ts cls) (c : Fin 81) :
    accEnd (F := Ideal) ts (ix2 0 ⟨c.val, by have := c.isLt; omega⟩) = cnt cls c :=
  ((accF_at ts cls h 25 le_rfl).1 c).trans (sum_ext _)
theorem accEnd_past (ts : S16000x81.Idx → EReal) (cls : Fin 16000 → Fin 81) (h : OneHot ts cls) (k : Fin 128) (hk : ¬ k.val < 81) :
    accEnd (F := Ideal) ts (ix2 0 k) = (0 : EReal) := (accF_at ts cls h 25 le_rfl).2 k hk

/-! ## The weights -/

/-- The sum of the lanes. -/
theorem pay5_eq (A : Vec Ideal S1x128 .f32) : (k0_pay5 (F := Ideal) A : EReal) = ∑ k : Fin 128, (A (ix2 0 k) : EReal) := by
  unfold k0_pay5
  refine (shapeCast_apply _ _ _ (ix1 0) (by decide)).trans ?_
  refine (Ideal.multiReduction_add_total _ _ _ (by decide) _ _ _).trans ?_
  rw [sum_idx3]
  simp only [Fin.sum_univ_one, Fin.isValue]
  refine Finset.sum_congr rfl fun k _ => ?_
  refine (shapeCast_addUnit_apply ![1, 128] _ _ _).trans (congrArg A ?_)
  funext a
  match a with
  | ⟨0, _⟩ => rfl
  | ⟨1, _⟩ => rfl

section Weights

variable (A : Vec Ideal S1x128 .f32) (cls : Fin 16000 → Fin 81)
  (h1 : ∀ c : Fin 81, (A (ix2 0 ⟨c.val, by have := c.isLt; omega⟩) : EReal) = cnt cls c) (h2 : ∀ k : Fin 128, ¬ k.val < 81 → (A (ix2 0 k) : EReal) = 0)

include h1 h2

theorem pay5_tot : (k0_pay5 (F := Ideal) A : EReal) = tot cls := by
  rw [pay5_eq]
  refine (Fin.sum_univ_add (a := 81) (b := 47) fun k => (A (ix2 0 k) : EReal)).trans ?_
  have hz : (∑ k : Fin 47, (A (ix2 0 (Fin.natAdd 81 k)) : EReal)) = 0 := Finset.sum_eq_zero fun k _ => h2 _ (by simp)
  rw [hz, add_zero]
  exact Finset.sum_congr rfl fun c _ => h1 c

theorem pay6_pos : (k0_pay6 (F := Ideal) A (fun x => A (r1.emb x)) : EReal) = pos cls := by
  rw [← tot_sub, ← pay5_tot A cls h1 h2, ← h1 0]
  refine congrArg (fun z : EReal => (k0_pay5 (F := Ideal) A : EReal) - z) (congrArg A ?_)
  funext a
  match a with
  | ⟨0, _⟩ => rfl
  | ⟨1, _⟩ => rfl

/-- The first loss's weight of a class. -/
theorem pay7_class (c : Fin 81) : (k0_pay7 (F := Ideal) A (ix2 0 ⟨c.val, by have := c.isLt; omega⟩) : EReal) = wt cls c := by
  show Ideal.div (Ideal.ofBits .f32 0x3F800000#32) (Ideal.ofBits .f32 0x3F800000#32 + Ideal.exp (Ideal.ofBits .f32 0x00000000#32
    - Ideal.div (k0_pay5 (F := Ideal) A) (max (A (ix2 0 ⟨c.val, _⟩)) eps))) = _
  rw [one_f32, Ideal.ofBits_zero_f32, zero_sub, h1 c, pay5_tot A cls h1 h2]
  rfl

omit h1 h2 in
theorem pay8_lane (v : Vec Ideal S1x1 .f32) (k : Fin 128) (hk : ¬ k.val = 0) :
    (k0_pay8 (F := Ideal) A v (ix2 0 k) : EReal) = sg (Ideal.div (k0_pay6 (F := Ideal) A v) (max (A (ix2 0 k)) eps)) := by
  have hb : cmpi .eq (iota .tc S1x128 32 [1] iota_S1x128_d1_w32) (broadcast S1x128 0#32) (ix2 0 k) = 0#1 := by
    show Scalar.cmpi .eq (iota .tc S1x128 32 [1] iota_S1x128_d1_w32 (ix2 0 k)) 0#32 = 0#1
    rw [iota_single_apply]
    have hc := k.isLt
    show BitVec.ofBool (BitVec.ofNat 32 k.val == 0#32) = 0#1
    have : BitVec.ofNat 32 k.val ≠ 0#32 := fun e => by
      have := congrArg BitVec.toNat e
      rw [BitVec.toNat_ofNat, Nat.mod_eq_of_lt (by omega)] at this
      exact hk this
    rw [beq_false_of_ne this]
    rfl
  unfold k0_pay8
  dsimp only
  rw [ValueIdx.select_apply, hb, ValueIdx.select_zero]
  unfold sg
  rw [← one_f32, ← zero_sub (Ideal.div _ _), ← Ideal.ofBits_zero_f32]
  rfl
/-- The second loss's weight of a class; the background has none. -/
theorem pay8_zero : (k0_pay8 (F := Ideal) A (fun x => A (r1.emb x)) (ix2 0 0) : EReal) = 0 := by
  refine Eq.trans ?_ Ideal.ofBits_zero_f32
  unfold k0_pay8
  show Scalar.select (Scalar.cmpi .eq (iota .tc S1x128 32 [1] iota_S1x128_d1_w32 (ix2 0 0)) 0#32) _ _ = _
  rw [iota_single_apply]
  rfl
theorem pay8_class (c : Fin 80) : (k0_pay8 (F := Ideal) A (fun x => A (r1.emb x)) (ix2 0 ⟨c.succ.val, by have := c.isLt; simp; omega⟩) : EReal) = wp cls c := by
  rw [pay8_lane A _ _ (by simp), h1 c.succ, pay6_pos A cls h1 h2]
  rfl

end Weights

section Ends

variable (ts : S16000x81.Idx → EReal) (cls : Fin 16000 → Fin 81) (h : OneHot ts cls)
include h

theorem wflat_class (c : Fin 81) : wflatOf (F := Ideal) (accEnd (F := Ideal) ts) (ix1 ⟨c.val, by have := c.isLt; omega⟩) = wt cls c := by
  show shapeCast S128 (k0_pay7 (F := Ideal) (accEnd (F := Ideal) ts)) shapeCasts_S1x128_S128 (ix1 _) = _
  refine (shapeCast_dropUnit_apply ![128] (k0_pay7 (F := Ideal) (accEnd (F := Ideal) ts)) _ (ix1 _)).trans ?_
  refine (congrArg (k0_pay7 (F := Ideal) _) ?_).trans (pay7_class _ cls (accEnd_class ts cls h) (accEnd_past ts cls h) c)
  funext a
  match a with
  | ⟨0, _⟩ => rfl
  | ⟨1, _⟩ => rfl
theorem w2_zero : w2Of (F := Ideal) (accEnd (F := Ideal) ts) (ix2 0 0) = (0 : EReal) :=
  pay8_zero _ cls (accEnd_class ts cls h) (accEnd_past ts cls h)
theorem w2_class (c : Fin 80) : w2Of (F := Ideal) (accEnd (F := Ideal) ts) (ix2 0 ⟨c.succ.val, by have := c.isLt; simp; omega⟩) = wp cls c :=
  pay8_class _ cls (accEnd_class ts cls h) (accEnd_past ts cls h) c
omit h in
theorem pay2_at (x : EReal) (j : S1x16.Idx) : (k0_pay2 (F := Ideal) x j : EReal) = Ideal.div 1 (max eps x) := by
  rw [← one_f32]
  rfl
theorem aux_eq (j : S1x16.Idx) : auxOf (F := Ideal) (accEnd (F := Ideal) ts) j = Ideal.div 1 (max eps (pos cls)) := by
  unfold auxOf
  rw [pay2_at, pay6_pos _ cls (accEnd_class ts cls h) (accEnd_past ts cls h)]

/-! ## The negated logs -/

omit h in
theorem pay11_at (v o : Vec Ideal S640x81 .f32) (r : Fin 640) :
    (k0_pay11 (F := Ideal) v o (ix1 r) : EReal)
      = -(Ideal.log (min top1 (max eps (Ideal.div (∑ c : Fin 81, (v (ix2 r c) : EReal) * o (ix2 r c)) (∑ c : Fin 81, (o (ix2 r c) : EReal)))))) := by
  have e1 := sum_row (mulf v o) r
  have e2 := sum_row o r
  unfold k0_pay11 k0_pay9
  dsimp only
  rw [shapeCast_self, shapeCast_self]
  refine Eq.trans ?_ (congrArg (fun z : EReal => -(Ideal.log (min top1 (max eps z)))) (congrArg₂ Ideal.div e1 e2))
  refine Eq.trans ?_ (zero_sub _)
  rw [← Ideal.ofBits_zero_f32]
  rfl
theorem nlV_row (os : S16000x81.Idx → EReal) (j : S16384.Idx) (hj : (j 0).val < 16000) :
    nlV (F := Ideal) ts os j = lg cls (fun r c => os (ix2 r c)) ⟨(j 0).val, hj⟩ := by
  refine (chunkF_row _ _ j hj).trans ?_
  refine (pay11_at _ _ _).trans ?_
  unfold lg
  refine congrArg (fun z : EReal => -(Ideal.log (min top1 (max eps z)))) (congrArg₂ Ideal.div ?_ ?_)
  · refine (Finset.sum_congr rfl fun c _ => ?_).trans (sum_hot cls (fun c => os (ix2 ⟨(j 0).val, hj⟩ c)) ⟨(j 0).val, hj⟩)
    rw [rows81_at, rows81_at, rowIx_divmod _ hj, h]
    rfl
  · refine Finset.sum_congr rfl fun c _ => ?_
    rw [rows81_at, rowIx_divmod _ hj]

end Ends

theorem nlV_pad (ts os : S16000x81.Idx → EReal) (j : S16384.Idx) (hj : ¬ (j 0).val < 16000) : nlV (F := Ideal) ts os j = (0 : EReal) := by
  unfold nlV chunkF
  rw [dif_neg hj]
  exact Ideal.ofBits_zero_f32

end Cert.Proof.Run

end
-- ==== Proof.Math.KernelCls.lean ====
/-
  The classification loss of the idealized kernel: the sum of the words the SparseCore's tiles leave is the sum over the
  anchors of the negated log by the class weight, divided by the number of anchors.
-/
module

public import proofs.«01_k».proof.Proof.Math.Counts

@[expose] public section

noncomputable section

namespace Cert.Proof.Run

open Cert.KernelIdeal Cert.KernelIdeal.Gen Cert.Proof.Math
open Idealize.ShloMosaic hiding ix1 ix2 eq_ix1 eq_ix2
open Idealize.ShloMosaic.ValueIdx (ix0 ix1 ix2 eq_ix1 eq_ix2)

/-- The named reciprocal of the number of anchors. -/
theorem inv_n_eq : (Named.named (F := Ideal) κ "inv_n" 0x3883126F#32 : Ideal .f32) = (((1 / 16000 : ℝ) : EReal)) :=
  IdealRules.named_const.ideal_named_scalar κ "inv_n" _ _ rfl

section Tiles

variable (lab : S16384.Idx → BitVec 32) (nl : S16384.Idx → EReal) (w : S128.Idx → EReal)

/-- The term of entry `i` of the padded vectors. -/
def term (i : ℕ) : EReal := nl (i1 i) * w (w1 (lab (i1 i)).toNat)

/-- A tile's running sums add up its lanes' terms. -/
theorem accN_at (r : ℕ) (x : Fin 16) : ∀ n : ℕ,
    (accN (F := Ideal) lab nl w r n (ix1 x) : EReal) = ∑ m ∈ Finset.range n, term lab nl w (512 * r + (16 * m + x.val))
  | 0 => Ideal.ofBits_zero_f32
  | n + 1 => by
    rw [Finset.sum_range_succ, ← accN_at r x n]
    rfl

theorem rowV_at (r : ℕ) (x : Fin 16) :
    (rowV (F := Ideal) lab nl w r (ix1 x) : EReal)
      = ∑ m ∈ Finset.range 32, term lab nl w (512 * r + (16 * m + x.val)) * ((1 / 16000 : ℝ) : EReal) := by
  rw [← sum_mul_real _ _ _ (by norm_num), ← accN_at, ← inv_n_eq]
  rfl

/-- All the tiles' words together. -/
theorem sum_outV : (∑ j : S32x16.Idx, (outV (F := Ideal) lab nl w j : EReal))
    = (∑ i ∈ Finset.range 16384, term lab nl w i) * ((1 / 16000 : ℝ) : EReal) := by
  rw [ValueIdx.sum_idx2]
  have e1 : ∀ r : Fin 32, (∑ x : Fin 16, (outV (F := Ideal) lab nl w (ix2 r x) : EReal))
      = ∑ j ∈ Finset.range 512, term lab nl w (512 * r.val + j) * ((1 / 16000 : ℝ) : EReal) := by
    intro r
    have e2 : ∀ x : Fin 16, (outV (F := Ideal) lab nl w (ix2 r x) : EReal)
        = ∑ m ∈ Finset.range 32, term lab nl w (512 * r.val + (16 * m + x.val)) * ((1 / 16000 : ℝ) : EReal) := by
      intro x
      refine Eq.trans (congrArg (rowV (F := Ideal) lab nl w r.val) (eq_ix1 _)) (rowV_at lab nl w r.val x)
    rw [Finset.sum_congr rfl fun x _ => e2 x, Finset.sum_comm]
    rw [← sum_blocks (fun j => term lab nl w (512 * r.val + j) * ((1 / 16000 : ℝ) : EReal)) 16 32]
    exact Finset.sum_congr rfl fun m _ => (Finset.sum_range fun x => term lab nl w (512 * r.val + (16 * m + x)) * ((1 / 16000 : ℝ) : EReal)).symm
  rw [Finset.sum_congr rfl fun r _ => e1 r, sum_mul_real _ _ _ (by norm_num),
    ← sum_blocks (fun i => term lab nl w i * ((1 / 16000 : ℝ) : EReal)) 512 32]
  exact (Finset.sum_range fun r => ∑ j ∈ Finset.range 512, term lab nl w (512 * r + j) * ((1 / 16000 : ℝ) : EReal)).symm

end Tiles

/-- The term of an anchor, and past the last anchor. -/
theorem term_row (ts os : S16000x81.Idx → EReal) (cls : Fin 16000 → Fin 81) (h : OneHot ts cls) (i : ℕ) (hi : i < 16384) :
    term (labV (F := Ideal) ts) (nlV (F := Ideal) ts os) (wflatOf (F := Ideal) (accEnd (F := Ideal) ts)) i
      = past (fun r => lg cls (fun r c => os (ix2 r c)) r * wt cls (cls r)) i := by
  have hv : (i1 i 0).val = i := Nat.mod_eq_of_lt hi
  unfold term past
  split
  · next hr =>
    have hj : (i1 i 0).val < 16000 := by rw [hv]; exact hr
    have er : (⟨(i1 i 0).val, hj⟩ : Fin 16000) = ⟨i, hr⟩ := Fin.ext hv
    have hc := (cls ⟨i, hr⟩).isLt
    rw [nlV_row ts cls h os (i1 i) hj, labV_row ts cls h (i1 i) hj, er]
    show _ = lg cls (fun r c => os (ix2 r c)) ⟨i, hr⟩ * wt cls (cls ⟨i, hr⟩)
    rw [← wflat_class ts cls h]
    refine congrArg (fun z => _ * wflatOf (F := Ideal) (accEnd (F := Ideal) ts) z) (funext fun a => Fin.ext ?_)
    obtain rfl : a = 0 := Subsingleton.elim _ _
    show (BitVec.ofNat 32 (cls ⟨i, hr⟩).val).toNat % 128 = (cls ⟨i, hr⟩).val
    rw [BitVec.toNat_ofNat]
    omega
  · next hr =>
    rw [nlV_pad ts os (i1 i) (by rw [hv]; exact hr), zero_mul]

/-- The kernel's classification loss. -/
theorem kernel_cls (ts os : S16000x81.Idx → EReal) (cls : Fin 16000 → Fin 81) (h : OneHot ts cls) :
    (∑ j : S32x16.Idx, (outV (F := Ideal) (labV (F := Ideal) ts) (nlV (F := Ideal) ts os) (wflatOf (F := Ideal) (accEnd (F := Ideal) ts)) j : EReal))
      = clsLoss cls fun r c => os (ix2 r c) := by
  rw [sum_outV]
  unfold clsLoss
  refine congrArg (· * ((1 / 16000 : ℝ) : EReal)) ?_
  rw [Finset.sum_congr rfl fun i hi => term_row ts os cls h i (Finset.mem_range.1 hi), ← sum_ext]
  refine (Finset.sum_range_add _ 16000 384).trans ?_
  rw [Finset.sum_eq_zero (s := Finset.range 384) fun i _ => dif_neg (by omega), add_zero]

end Cert.Proof.Run

end
-- ==== Proof.Math.KernelReg.lean ====
/-
  The regression loss of the idealized kernel: the second TensorCore call spreads a class over its four deltas by two
  matrix products, and its running sum is the sum over the anchors and the deltas past the background's four.
-/
module

public import proofs.«01_k».proof.Proof.Math.Counts
public import Idealize.ShloMosaic.Lib.Pointwise.Contract

@[expose] public section

noncomputable section

namespace Cert.Proof.Run

open Cert.KernelIdeal Cert.KernelIdeal.Gen Cert.Proof.Math
open Idealize.ShloMosaic hiding ix1 ix2 eq_ix1 eq_ix2
open Idealize.ShloMosaic.ValueIdx (ix0 ix1 ix2 eq_ix1 eq_ix2)

/-- The class delta `k` of 324 belongs to. -/
def kd (k : Fin 324) : Fin 81 := ⟨k.val / 4, by have := k.isLt; omega⟩

/-- The matrix that spreads a class over its four deltas. -/
def spread : FVec Ideal S81x324 .f32 :=
  sitofp .f32 (extui 32 (cmpi .eq (shrsi (iota .tc S81x324 32 [1] iota_S81x324_d1_w32) (broadcast S81x324 2#32)) (iota .tc S81x324 32 [0] iota_S81x324_d0_w32)) natLt_1_32)

theorem shift_two : ∀ k : Fin 324, IntOp.shrsi .vector (BitVec.ofNat 32 k.val) 2#32 = BitVec.ofNat 32 (kd k).val := by decide +kernel

theorem spread_at (c : Fin 81) (k : Fin 324) : (spread (ix2 c k) : EReal) = if c = kd k then 1 else 0 := by
  show (((((Scalar.cmpi .eq (IntOp.shrsi .vector (iota .tc S81x324 32 [1] iota_S81x324_d1_w32 (ix2 c k)) 2#32)
    (iota .tc S81x324 32 [0] iota_S81x324_d0_w32 (ix2 c k))).setWidth 32 : BitVec 32).toInt : ℤ) : ℝ) : EReal) = _
  rw [iota_single_apply, iota_single_apply]
  show (((((BitVec.ofBool (IntOp.shrsi .vector (BitVec.ofNat 32 k.val) 2#32 == BitVec.ofNat 32 c.val)).setWidth 32 : BitVec 32).toInt : ℤ) : ℝ) : EReal) = _
  rw [shift_two]
  have hc := c.isLt
  have hk := (kd k).isLt
  by_cases h : c = kd k
  · rw [if_pos h, h, beq_self_eq_true]
    show (((1 : ℤ) : ℝ) : EReal) = 1
    simp
  · have : BitVec.ofNat 32 (kd k).val ≠ BitVec.ofNat 32 c.val := fun e => by
      have := congrArg BitVec.toNat e
      rw [BitVec.toNat_ofNat, BitVec.toNat_ofNat, Nat.mod_eq_of_lt (by omega), Nat.mod_eq_of_lt (by omega)] at this
      exact h (Fin.ext this.symm)
    rw [if_neg h, beq_false_of_ne this]
    show (((0 : ℤ) : ℝ) : EReal) = 0
    simp

theorem pick (f : Fin 81 → EReal) (k : Fin 324) : (∑ c : Fin 81, f c * (spread (ix2 c k) : EReal)) = f (kd k) := by
  simp only [spread_at, mul_ite, mul_one, mul_zero]
  rw [Finset.sum_ite_eq' Finset.univ (kd k) f, if_pos (Finset.mem_univ _)]

/-- The two products: a row's target, and the weight, of the delta's class. -/
theorem prod_rows (v : FVec Ideal S640x81 .f32) (r : Fin 640) (k : Fin 324) :
    (matmul (F := Ideal) dot_S640x81_S81x324_S640x324_1_0_0_1_n_n none v spread (constant S640x324 .f32 0x00000000#32) (ix2 r k) : EReal) = v (ix2 r (kd k)) := by
  refine (Ideal.matmul_constant_zero_apply dot_S640x81_S81x324_S640x324_1_0_0_1_n_n none v spread (ix2 r k)).trans ?_
  rw [dot_S640x81_S81x324_S640x324_1_0_0_1_n_n.sum_contr₁ (a := 1) rfl (K := 81) rfl]
  refine Eq.trans (Finset.sum_congr rfl fun c _ => congrArg₂ (fun a b => (v a : EReal) * spread b) ?_ ?_) (pick (fun c => v (ix2 r c)) k)
  · funext a
    match a with
    | ⟨0, _⟩ => rfl
    | ⟨1, _⟩ => rfl
  · funext a
    match a with
    | ⟨0, _⟩ => rfl
    | ⟨1, _⟩ => rfl
theorem prod_weights (v : FVec Ideal S1x81 .f32) (k : Fin 324) :
    (matmul (F := Ideal) dot_S1x81_S81x324_S1x324_1_0_0_1_n_n none v spread (constant S1x324 .f32 0x00000000#32) (ix2 0 k) : EReal) = v (ix2 0 (kd k)) := by
  refine (Ideal.matmul_constant_zero_apply dot_S1x81_S81x324_S1x324_1_0_0_1_n_n none v spread (ix2 0 k)).trans ?_
  rw [dot_S1x81_S81x324_S1x324_1_0_0_1_n_n.sum_contr₁ (a := 1) rfl (K := 81) rfl]
  refine Eq.trans (Finset.sum_congr rfl fun c _ => congrArg₂ (fun a b => (v a : EReal) * spread b) ?_ ?_) (pick (fun c => v (ix2 0 c)) k)
  · funext a
    match a with
    | ⟨0, _⟩ => rfl
    | ⟨1, _⟩ => rfl
  · funext a
    match a with
    | ⟨0, _⟩ => rfl
    | ⟨1, _⟩ => rfl

/-- The kernel's choice between the two branches of the smooth distance. -/
theorem sl_select (d : EReal) :
    Scalar.select (FloatOps.cmpf (F := Ideal) (φ := .f32) .olt d (Ideal.ofBits .f32 0x3F800000#32)) (half * d * d) (d - half) = sl d := by
  rw [one_f32, mul_assoc]
  show Scalar.select (BitVec.ofBool (decide (d < 1))) _ _ = _
  unfold sl
  by_cases h : d < 1
  · rw [if_pos h, decide_eq_true h]; rfl
  · rw [if_neg h, decide_eq_false h]; rfl

/-- A block's contribution. -/
theorem pay3_eq (od td : Vec Ideal S640x324 .f32) (ts : Vec Ideal S640x81 .f32) (w2 : Vec Ideal S1x128 .f32) :
    (k1_pay3 (F := Ideal) od td ts w2 : EReal) = ∑ r : Fin 640, ∑ k : Fin 324,
      sl (ab ((od (ix2 r k) : EReal) - td (ix2 r k)) * ((ts (ix2 r (kd k)) : EReal) * w2 (ix2 0 ⟨(kd k).val, by have := (kd k).isLt; omega⟩))) := by
  unfold k1_pay3
  refine (shapeCast_apply _ _ _ (ix1 0) (by decide)).trans ?_
  refine (Ideal.multiReduction_add_total _ _ _ (by decide) _ _ _).trans ?_
  rw [sum_idx3]
  simp only [Fin.sum_univ_one, Fin.isValue]
  refine Finset.sum_congr rfl fun r _ => Finset.sum_congr rfl fun k _ => ?_
  refine (shapeCast_addUnit_apply ![640, 324] _ _ _).trans ?_
  have ej : ∀ f : S640x324.Idx → EReal, f (fun b => Idealize.ShloMosaic.ix3 (0 : Fin 1) r k b.succ) = f (ix2 r k) := fun f => congrArg f (eq_ix2 _)
  refine (ej _).trans ?_
  rw [shapeCast_self, shapeCast_self, shapeCast_self, shapeCast_self]
  refine Eq.trans ?_ (sl_select _)
  have e1 := prod_rows ts r k
  have e2 := prod_weights (extractStridedSlice S1x81 ![0, 0] w2 slices_S1x128_o0_0_S1x81) k
  have e3 : (extractStridedSlice S1x81 ![0, 0] w2 slices_S1x128_o0_0_S1x81 (ix2 0 (kd k)) : EReal) = w2 (ix2 0 ⟨(kd k).val, by have := (kd k).isLt; omega⟩) := by
    refine congrArg w2 (funext fun a => Fin.ext ?_)
    match a with
    | ⟨0, _⟩ => rfl
    | ⟨1, _⟩ => exact Nat.zero_add _
  rw [← e1, ← e3, ← e2]
  have e4 : ∀ g : S1x324.Idx → EReal, broadcastTo S640x324 g broadcasts_S1x324_S640x324 (ix2 r k) = g (ix2 0 k) := fun g => congrArg g (by
    funext a
    match a with
    | ⟨0, _⟩ => rfl
    | ⟨1, _⟩ => rfl)
  rw [← e4 (matmul (F := Ideal) dot_S1x81_S81x324_S1x324_1_0_0_1_n_n none (extractStridedSlice S1x81 ![0, 0] w2 slices_S1x128_o0_0_S1x81) spread (constant S1x324 .f32 0x00000000#32))]
  rfl

section Ends

variable (ts : S16000x81.Idx → EReal) (cls : Fin 16000 → Fin 81) (h : OneHot ts cls) (od td : S16000x324.Idx → EReal)

/-- An anchor's contribution. -/
def rowTerm (r : Fin 16000) : EReal := ∑ k : Fin 320, sl (ab (od (ix2 r (k4 k)) - td (ix2 r (k4 k))) * lb cls r k)

theorem rows324_at {α : Type} (x : S16000x324.Idx → α) (t : ℕ) (ht : t < 25) (r : Fin 640) (k : Fin 324) :
    rows324 x t ht (ix2 r k) = x (ix2 (rowIx t ht r) k) := congrArg x (eq_ix2 _)

include h

/-- The background's four deltas weigh nothing, every other is weighed as the loss says. -/
theorem row_eq (r : Fin 16000) : (∑ k : Fin 324, sl (ab (od (ix2 r k) - td (ix2 r k))
    * (ts (ix2 r (kd k)) * w2Of (F := Ideal) (accEnd (F := Ideal) ts) (ix2 0 ⟨(kd k).val, by have := (kd k).isLt; omega⟩)))) = rowTerm cls od td r := by
  refine (Fin.sum_univ_add (a := 4) (b := 320) _).trans ?_
  have hz : ∀ k : Fin 4, kd (Fin.castAdd 320 k) = 0 := by decide
  have hs : ∀ k : Fin 320, kd (Fin.natAdd 4 k) = (kc k).succ := fun k => Fin.ext (by show (4 + k.val) / 4 = k.val / 4 + 1; omega)
  rw [Finset.sum_eq_zero fun k _ => ?_, zero_add]
  · refine Finset.sum_congr rfl fun k _ => ?_
    have ew := w2_class ts cls h (kc k)
    have e : ts (ix2 r (kd (Fin.natAdd 4 k))) * w2Of (F := Ideal) (accEnd (F := Ideal) ts) (ix2 0 ⟨(kd (Fin.natAdd 4 k)).val, by have := (kd (Fin.natAdd 4 k)).isLt; omega⟩) = lb cls r k := by
      simp only [hs]
      rw [h, ew]
      unfold lb
      split
      · exact one_mul _
      · exact zero_mul _
    rw [e]
    rfl
  · have e : w2Of (F := Ideal) (accEnd (F := Ideal) ts) (ix2 0 ⟨(kd (Fin.castAdd 320 k)).val, by have := (kd (Fin.castAdd 320 k)).isLt; omega⟩) = (0 : EReal) := by
      simp only [hz]
      exact w2_zero ts cls h
    rw [e, mul_zero, mul_zero, sl_zero]

/-- The running sum: the blocks' contributions so far. -/
theorem sumF_at : ∀ (t : ℕ) (ht : t ≤ 25), (sumF (F := Ideal) od td ts (w2Of (F := Ideal) (accEnd (F := Ideal) ts)) t ht : EReal)
    = ∑ n ∈ Finset.range (640 * t), past (rowTerm cls od td) n
  | 0, _ => by
    show Ideal.ofBits .f32 0#32 = _
    rw [Ideal.ofBits_zero_f32]
    simp
  | t + 1, ht => by
    rw [Nat.mul_succ, Finset.sum_range_add, ← sum_chunk _ t (by omega), ← sumF_at t (by omega)]
    refine congrArg ((sumF (F := Ideal) od td ts (w2Of (F := Ideal) (accEnd (F := Ideal) ts)) t (by omega) : EReal) + ·) ?_
    refine (pay3_eq _ _ _ _).trans (Finset.sum_congr rfl fun r _ => ?_)
    rw [← row_eq ts cls h od td]
    refine Finset.sum_congr rfl fun k _ => ?_
    rw [rows324_at, rows324_at, rows81_at]

/-- The kernel's regression loss. -/
theorem kernel_reg : (outOf (F := Ideal) (sumEnd (F := Ideal) od td ts (w2Of (F := Ideal) (accEnd (F := Ideal) ts))) (auxOf (F := Ideal) (accEnd (F := Ideal) ts)) : EReal)
    = regLoss cls (fun r k => od (ix2 r k)) fun r k => td (ix2 r k) := by
  have e1 : (sumEnd (F := Ideal) od td ts (w2Of (F := Ideal) (accEnd (F := Ideal) ts)) : EReal) = ∑ r : Fin 16000, rowTerm cls od td r :=
    (sumF_at ts cls h od td 25 le_rfl).trans (sum_ext _)
  have e2 : ∀ (s : EReal) (a : Vec Ideal S1x16 .f32), (∀ j, (a j : EReal) = Ideal.div 1 (max eps (pos cls))) →
      (outOf (F := Ideal) s a : EReal) = s * Ideal.div 1 (max eps (pos cls)) := fun s a ha => congrArg (s * ·) (ha _)
  rw [e2 _ _ (aux_eq ts cls h), e1, mul_div_one _ _ (max_eps_ne _)]
  rfl

end Ends

end Cert.Proof.Run

end
-- ==== Proof.Math.RefCls.lean ====
/-
  The classification loss of the reference, operation by operation as it prints, and its value: the plain sum over the
  anchors of `clsLoss`.
-/
module

public import proofs.«01_k».proof.Proof.Gen.ReferenceIdeal
public import proofs.«01_k».proof.Proof.Math.Spec
public import Idealize.ShloMosaic.Lib.Pointwise.Index
public import Idealize.ShloMosaic.Lib.Pipeline.Value

@[expose] public section

noncomputable section

namespace Cert.Proof.Ref

open Cert.ReferenceIdeal Cert.ReferenceIdeal.Gen Cert.Proof.Math
open Idealize.ShloMosaic hiding ix0 ix1 ix2 ix3 ix4 eq_ix1 eq_ix2 eq_ix3 eq_ix4
open Idealize.ShloMosaic.ValueIdx (ix0 ix1 ix2 ix3 ix4 eq_ix1 eq_ix2 eq_ix3 eq_ix4)

/-! ## The host's sums -/

theorem one_word : Ideal.ofBits .f32 0x3F800000#32 = 1 := by
  simp [Ideal.ofBits, Ideal.ieee]
  rw [← EReal.coe_mul]
  norm_num

/-- A sum over all axes. -/
theorem red_total {s : Shape} {axes : List (Fin s.rank)} (h : s.ReducesTo axes S_) (x : FVec Ideal s .f32) (j : S_.Idx) :
    (Host.reduceAdd (F := Ideal) x (constant S_ .f32 0x00000000#32) h h_S_ j : EReal) = ∑ i : s.Idx, (x i : EReal) := by
  refine (Ideal.hostReduceAdd_total h (fun b => b.elim0) x _ j).trans ?_
  refine Eq.trans (congrArg (· + _) (show _ = (0 : EReal) from Ideal.ofBits_zero_f32)) (zero_add _)
/-- A sum over one axis. -/
theorem red_one {s t : Shape} {a : Fin s.rank} (h' : s.ReducesTo [a] t) (h : s.Reduces [a] t) (x : FVec Ideal s .f32) (j : t.Idx) :
    (Host.reduceAdd (F := Ideal) x (constant S_ .f32 0x00000000#32) h' h_S_ j : EReal) = ∑ k : Fin (s.size a), (x (h.lift j k) : EReal) := by
  refine (Ideal.hostReduceAdd_single h' h x _ j).trans ?_
  refine Eq.trans (congrArg (· + _) (show _ = (0 : EReal) from Ideal.ofBits_zero_f32)) (zero_add _)

/-- A word spread over a shape is the word. -/
theorem broadcast_word {t : Shape} (h : Shape.BroadcastsInDim S_ t ![]) (g : S_.Idx → EReal) (i : t.Idx) : broadcastInDim t ![] h g i = g ix0 :=
  congrArg g (ValueIdx.eq_ix0 _)

theorem sum1 {n : ℕ} (f : (⟨1, ![n]⟩ : Shape).Idx → EReal) : (∑ i, f i) = ∑ r : Fin n, f (ix1 r) :=
  Fintype.sum_equiv ⟨fun i : (⟨1, ![n]⟩ : Shape).Idx => (i 0 : Fin n), fun r => ix1 r, fun i => (eq_ix1 i).symm, fun _ => rfl⟩ _ _ fun i => congrArg f (eq_ix1 i)
theorem sum3 {n0 n1 n2 : ℕ} (f : (⟨3, ![n0, n1, n2]⟩ : Shape).Idx → EReal) :
    (∑ i, f i) = ∑ a : Fin n0, ∑ b : Fin n1, ∑ c : Fin n2, f (ix3 a b c) :=
  (sum_idx3 f).trans (Finset.sum_congr rfl fun _ _ => Finset.sum_congr rfl fun _ _ => Finset.sum_congr rfl fun _ _ => congrArg f (eq_ix3 _))

/-! ## The classification loss -/

/-- One over one plus the exponential of the negated ratio: the class weights. -/
def weight81 (A : FVec Ideal S1x16000x81 .f32) : FVec Ideal S1x81 .f32 :=
  Host.divf (broadcastInDim S1x81 ![] bcast_S_S1x81 (constant S_ .f32 0x3F800000#32)) (addf (broadcastInDim S1x81 ![] bcast_S_S1x81 (constant S_ .f32 0x3F800000#32)) (Host.exp (Host.negf (Host.divf (broadcastInDim S1x81 ![] bcast_S_S1x81 (Host.reduceAdd A (constant S_ .f32 0x00000000#32) reducesTo_S1x16000x81_S_d0_1_2 h_S_)) (maximumf (Host.reduceAdd A (constant S_ .f32 0x00000000#32) reducesTo_S1x16000x81_S1x81_d1 h_S_) (broadcastInDim S1x81 ![] bcast_S_S1x81 (constant S_ .f32 0x33D6BF95#32)))))))
/-- The logs of the clipped, normalised scores. -/
def logs (B : FVec Ideal S1x16000x81 .f32) : FVec Ideal S16000x81 .f32 :=
  Host.log (minimumf (broadcastInDim S16000x81 ![] bcast_S_S16000x81 (id (constant S_ .f32 0x3F7FFFFE#32))) (maximumf (broadcastInDim S16000x81 ![] bcast_S_S16000x81 (id (constant S_ .f32 0x33D6BF95#32))) (Host.divf (shapeCast _ B shapeCasts_S1x16000x81_S16000x81) (broadcastInDim S16000x81 ![0, 1] bcast_S16000x1_S16000x81_0_1 (broadcastInDim S16000x1 ![0] bcast_S16000_S16000x1_0 (Host.reduceAdd (shapeCast _ B shapeCasts_S1x16000x81_S16000x81) (constant S_ .f32 0x00000000#32) reducesTo_S16000x81_S16000_d1 h_S_))))))
/-- An anchor's negated log, an anchor's weight. -/
def negLog (A B : FVec Ideal S1x16000x81 .f32) : FVec Ideal S16000 .f32 :=
  Host.negf (Host.reduceAdd (mulf (shapeCast _ A shapeCasts_S1x16000x81_S16000x81) (logs B)) (constant S_ .f32 0x00000000#32) reducesTo_S16000x81_S16000_d1 h_S_)
def anchor81 (A : FVec Ideal S1x16000x81 .f32) : FVec Ideal S16000 .f32 :=
  shapeCast _ (Host.reduceAdd (mulf A (broadcastInDim S1x16000x81 ![0, 1, 2] bcast_S1x1x81_S1x16000x81_0_1_2 (broadcastInDim S1x1x81 ![1, 2] bcast_S1x81_S1x1x81_1_2 (weight81 A)))) (constant S_ .f32 0x00000000#32) reducesTo_S1x16000x81_S1x16000_d2 h_S_) shapeCasts_S1x16000_S16000
def clsPart (A B : FVec Ideal S1x16000x81 .f32) : FVec Ideal S_ .f32 :=
  Host.divf (Host.reduceAdd (mulf (negLog A B) (anchor81 A)) (constant S_ .f32 0x00000000#32) reducesTo_S16000_S_d0 h_S_) (constant S_ .f32 0x467A0000#32)

section

variable (A B : FVec Ideal S1x16000x81 .f32) (cls : Fin 16000 → Fin 81) (hA : ∀ r c, (A (ix3 0 r c) : EReal) = hot cls r c)

theorem reduces_mid : S1x16000x81.Reduces [1] S1x81 := by decide
theorem reduces_last : S1x16000x81.Reduces [2] S1x16000 := by decide
theorem reduces_row : S16000x81.Reduces [1] S16000 := by decide

theorem flat_at (X : FVec Ideal S1x16000x81 .f32) (r : Fin 16000) (c : Fin 81) : shapeCast S16000x81 X shapeCasts_S1x16000x81_S16000x81 (ix2 r c) = X (ix3 0 r c) := by
  refine (shapeCast_dropUnit_apply ![16000, 81] _ _ (ix2 r c)).trans (congrArg X (funext fun b => ?_))
  match b with
  | ⟨0, _⟩ => rfl
  | ⟨1, _⟩ => rfl
  | ⟨2, _⟩ => rfl

theorem rowSum_at (x : FVec Ideal S16000x81 .f32) (r : Fin 16000) :
    (Host.reduceAdd (F := Ideal) x (constant S_ .f32 0x00000000#32) reducesTo_S16000x81_S16000_d1 h_S_ (ix1 r) : EReal) = ∑ c : Fin 81, (x (ix2 r c) : EReal) := by
  refine (red_one _ reduces_row x (ix1 r)).trans (Finset.sum_congr rfl fun c _ => congrArg x (funext fun b => ?_))
  match b with
  | ⟨0, _⟩ => rfl
  | ⟨1, _⟩ => rfl

/-- The logs, lane by lane. -/
theorem logs_lane (X Y : FVec Ideal S16000x81 .f32) (i : S16000x81.Idx) :
    (Host.log (F := Ideal) (minimumf (broadcastInDim S16000x81 ![] bcast_S_S16000x81 (id (constant S_ .f32 0x3F7FFFFE#32))) (maximumf (broadcastInDim S16000x81 ![] bcast_S_S16000x81 (id (constant S_ .f32 0x33D6BF95#32))) (Host.divf X Y))) i : EReal)
      = Ideal.log (min top1 (max eps (Ideal.div (X i) (Y i)))) := rfl

theorem logs_at (r : Fin 16000) (c : Fin 81) :
    (logs B (ix2 r c) : EReal) = Ideal.log (min top1 (max eps (Ideal.div (B (ix3 0 r c)) (∑ c' : Fin 81, (B (ix3 0 r c') : EReal))))) := by
  have e : (∑ c' : Fin 81, (B (ix3 0 r c') : EReal)) = Host.reduceAdd (F := Ideal) (shapeCast S16000x81 B shapeCasts_S1x16000x81_S16000x81) (constant S_ .f32 0x00000000#32) reducesTo_S16000x81_S16000_d1 h_S_ (ix1 r) :=
    ((rowSum_at _ r).trans (Finset.sum_congr rfl fun c' _ => flat_at B r c')).symm
  rw [e, ← flat_at B r c]
  refine (logs_lane _ _ _).trans ?_
  have eb : ∀ g : S16000.Idx → EReal, broadcastInDim S16000x81 ![0, 1] bcast_S16000x1_S16000x81_0_1 (broadcastInDim S16000x1 ![0] bcast_S16000_S16000x1_0 g) (ix2 r c) = g (ix1 r) := fun g => congrArg g (eq_ix1 _)
  rw [eb]

include hA

theorem negLog_at (r : Fin 16000) : (negLog A B (ix1 r) : EReal) = lg cls (fun r c => B (ix3 0 r c)) r := by
  refine (congrArg (fun z : EReal => -z) (rowSum_at _ r)).trans ?_
  unfold lg
  refine congrArg (fun z : EReal => -z) ?_
  refine Eq.trans (Finset.sum_congr rfl fun c _ => ?_) (sum_hot cls (fun c => Ideal.log (min top1 (max eps (Ideal.div (B (ix3 0 r c)) (∑ c' : Fin 81, (B (ix3 0 r c') : EReal)))))) r)
  rw [← hA r c, ← logs_at B r c, ← flat_at A r c]
  rfl

theorem all_sum (j : S_.Idx) : (Host.reduceAdd (F := Ideal) A (constant S_ .f32 0x00000000#32) reducesTo_S1x16000x81_S_d0_1_2 h_S_ j : EReal) = tot cls := by
  rw [red_total, sum3, Fin.sum_univ_one, Finset.sum_comm]
  exact Finset.sum_congr rfl fun c _ => Finset.sum_congr rfl fun r _ => hA r c
theorem class_sum (c : Fin 81) : (Host.reduceAdd (F := Ideal) A (constant S_ .f32 0x00000000#32) reducesTo_S1x16000x81_S1x81_d1 h_S_ (ix2 0 c) : EReal) = cnt cls c := by
  refine (red_one _ reduces_mid A (ix2 0 c)).trans (Finset.sum_congr rfl fun r _ => Eq.trans (congrArg A (funext fun b => ?_)) (hA r c))
  match b with
  | ⟨0, _⟩ => rfl
  | ⟨1, _⟩ => rfl
  | ⟨2, _⟩ => rfl

omit hA in
/-- The class weights, lane by lane. -/
theorem weight81_lane (g : FVec Ideal S_ .f32) (X : FVec Ideal S1x81 .f32) (i : S1x81.Idx) :
    (Host.divf (F := Ideal) (broadcastInDim S1x81 ![] bcast_S_S1x81 (constant S_ .f32 0x3F800000#32)) (addf (broadcastInDim S1x81 ![] bcast_S_S1x81 (constant S_ .f32 0x3F800000#32)) (Host.exp (Host.negf (Host.divf (broadcastInDim S1x81 ![] bcast_S_S1x81 g) (maximumf X (broadcastInDim S1x81 ![] bcast_S_S1x81 (constant S_ .f32 0x33D6BF95#32))))))) i : EReal)
      = Ideal.div (Ideal.ofBits .f32 0x3F800000#32) (Ideal.ofBits .f32 0x3F800000#32 + Ideal.exp (-(Ideal.div (broadcastInDim S1x81 ![] bcast_S_S1x81 g i) (max (X i) eps)))) := rfl

theorem weight81_at (c : Fin 81) : (weight81 A (ix2 0 c) : EReal) = wt cls c := by
  unfold wt sg
  rw [← one_word, ← class_sum A cls hA c, ← all_sum A cls hA ix0]
  refine (weight81_lane _ _ _).trans ?_
  rw [broadcast_word]

theorem anchor81_at (r : Fin 16000) : (anchor81 A (ix1 r) : EReal) = wt cls (cls r) := by
  refine (shapeCast_dropUnit_apply ![16000] _ _ (ix1 r)).trans ?_
  refine (red_one _ reduces_last _ _).trans ?_
  refine Eq.trans (Finset.sum_congr rfl fun c _ => ?_) (sum_hot cls (wt cls) r)
  rw [← hA r c, ← weight81_at A cls hA c]
  refine congrArg₂ (fun x y : EReal => x * y) (congrArg A (funext fun b => ?_)) (congrArg (weight81 A) (funext fun b => ?_))
  · match b with
    | ⟨0, _⟩ => rfl
    | ⟨1, _⟩ => rfl
    | ⟨2, _⟩ => rfl
  · match b with
    | ⟨0, _⟩ => rfl
    | ⟨1, _⟩ => rfl

omit hA in
theorem word_16000 : Ideal.ofBits .f32 0x467A0000#32 = ((16000 : ℝ) : EReal) := by
  simp [Ideal.ofBits, Ideal.ieee]
  rw [← EReal.coe_mul]
  norm_num

/-- The reference's classification loss. -/
theorem clsPart_eq (j : S_.Idx) : (clsPart A B j : EReal) = clsLoss cls fun r c => B (ix3 0 r c) := by
  refine (congrArg₂ Ideal.div (red_total _ _ j) word_16000).trans ?_
  rw [Ideal.div_coe (by norm_num)]
  unfold clsLoss
  refine congrArg (fun z : EReal => z * ((1 / 16000 : ℝ) : EReal)) ?_
  refine (sum1 _).trans (Finset.sum_congr rfl fun r _ => ?_)
  rw [← negLog_at A B cls hA, ← anchor81_at A cls hA]
  rfl

end

end Cert.Proof.Ref

end
-- ==== Proof.Math.RefReg.lean ====
/-
  The regression loss of the reference, operation by operation as it prints, and its value: the sum of `regLoss`.
-/
module

public import proofs.«01_k».proof.Proof.Math.RefCls

@[expose] public section

noncomputable section

namespace Cert.Proof.Ref

open Cert.ReferenceIdeal Cert.ReferenceIdeal.Gen Cert.Proof.Math
open Idealize.ShloMosaic hiding ix0 ix1 ix2 ix3 ix4 eq_ix1 eq_ix2 eq_ix3 eq_ix4
open Idealize.ShloMosaic.ValueIdx (ix0 ix1 ix2 ix3 ix4 eq_ix1 eq_ix2 eq_ix3 eq_ix4)

/-- The targets without the background; the deltas without the background's four. -/
def fore (A : FVec Ideal S1x16000x81 .f32) : FVec Ideal S1x16000x80 .f32 := extractStridedSlice S1x16000x80 ![0, 0, 1] A slices_S1x16000x81_S1x16000x80_0_0_1
def deltas (X : FVec Ideal S1x16000x324 .f32) : FVec Ideal S1x16000x320 .f32 := extractStridedSlice S1x16000x320 ![0, 0, 4] X slices_S1x16000x324_S1x16000x320_0_0_4

/-- The class weights, an anchor's weight, the weight of an anchor's delta, from the targets without the background. -/
def weight80 (T : FVec Ideal S1x16000x80 .f32) : FVec Ideal S1x80 .f32 :=
  Host.divf (broadcastInDim S1x80 ![] bcast_S_S1x80 (constant S_ .f32 0x3F800000#32)) (addf (broadcastInDim S1x80 ![] bcast_S_S1x80 (constant S_ .f32 0x3F800000#32)) (Host.exp (Host.negf (Host.divf (broadcastInDim S1x80 ![] bcast_S_S1x80 (Host.reduceAdd T (constant S_ .f32 0x00000000#32) reducesTo_S1x16000x80_S_d0_1_2 h_S_)) (maximumf (Host.reduceAdd T (constant S_ .f32 0x00000000#32) reducesTo_S1x16000x80_S1x80_d1 h_S_) (broadcastInDim S1x80 ![] bcast_S_S1x80 (constant S_ .f32 0x33D6BF95#32)))))))
def anchor80 (T : FVec Ideal S1x16000x80 .f32) : FVec Ideal S1x16000 .f32 :=
  Host.reduceAdd (mulf T (broadcastInDim S1x16000x80 ![0, 1, 2] bcast_S1x1x80_S1x16000x80_0_1_2 (broadcastInDim S1x1x80 ![1, 2] bcast_S1x80_S1x1x80_1_2 (weight80 T)))) (constant S_ .f32 0x00000000#32) reducesTo_S1x16000x80_S1x16000_d2 h_S_
def marks (T : FVec Ideal S1x16000x80 .f32) : FVec Ideal S1x16000x80 .f32 :=
  uitofp .f32 (cmpf .oeq T (broadcastInDim S1x16000x80 ![] bcast_S_S1x16000x80 (constant S_ .f32 0x3F800000#32)))
def labels (T : FVec Ideal S1x16000x80 .f32) : FVec Ideal S1x16000x320 .f32 :=
  mulf (shapeCast _ (broadcastInDim S1x16000x80x4 ![0, 1, 2] bcast_S1x16000x80_S1x16000x80x4_0_1_2 (marks T)) shapeCasts_S1x16000x80x4_S1x16000x320) (broadcastInDim S1x16000x320 ![0, 1, 2] bcast_S1x16000x1_S1x16000x320_0_1_2 (broadcastInDim S1x16000x1 ![0, 1] bcast_S1x16000_S1x16000x1_0_1 (anchor80 T)))

/-- The weighed distance of the deltas, and its smoothing. -/
def dist (T : FVec Ideal S1x16000x80 .f32) (O D : FVec Ideal S1x16000x320 .f32) : FVec Ideal S1x16000x320 .f32 := Host.absf (subf (mulf O (labels T)) (mulf D (labels T)))
def smooth (d : FVec Ideal S1x16000x320 .f32) : FVec Ideal S1x16000x320 .f32 :=
  select (cmpf .olt d (broadcastInDim S1x16000x320 ![] bcast_S_S1x16000x320 (constant S_ .f32 0x3F800000#32))) (mulf (broadcastInDim S1x16000x320 ![] bcast_S_S1x16000x320 (constant S_ .f32 0x3F000000#32)) (mulf d d)) (subf d (broadcastInDim S1x16000x320 ![] bcast_S_S1x16000x320 (constant S_ .f32 0x3F000000#32)))
def regPart (A : FVec Ideal S1x16000x81 .f32) (O D : FVec Ideal S1x16000x324 .f32) : FVec Ideal S_ .f32 :=
  Host.divf (Host.reduceAdd (smooth (dist (fore A) (deltas O) (deltas D))) (constant S_ .f32 0x00000000#32) reducesTo_S1x16000x320_S_d0_1_2 h_S_) (maximumf (constant S_ .f32 0x33D6BF95#32) (Host.reduceAdd (fore A) (constant S_ .f32 0x00000000#32) reducesTo_S1x16000x80_S_d0_1_2 h_S_))

section

variable (A : FVec Ideal S1x16000x81 .f32) (O D : FVec Ideal S1x16000x324 .f32) (cls : Fin 16000 → Fin 81) (hA : ∀ r c, (A (ix3 0 r c) : EReal) = hot cls r c)

theorem reduces_mid80 : S1x16000x80.Reduces [1] S1x80 := by decide
theorem reduces_last80 : S1x16000x80.Reduces [2] S1x16000 := by decide

theorem deltas_at (X : FVec Ideal S1x16000x324 .f32) (r : Fin 16000) (k : Fin 320) : deltas X (ix3 0 r k) = X (ix3 0 r (k4 k)) := by
  refine congrArg X (funext fun b => Fin.ext ?_)
  match b with
  | ⟨0, _⟩ => rfl
  | ⟨1, _⟩ => exact Nat.zero_add _
  | ⟨2, _⟩ => rfl

theorem smooth_lane (d : FVec Ideal S1x16000x320 .f32) (i : S1x16000x320.Idx) : (smooth d i : EReal)
    = Scalar.select (BitVec.ofBool (decide ((d i : EReal) < Ideal.ofBits .f32 0x3F800000#32))) (half * ((d i : EReal) * d i)) ((d i : EReal) - half) := rfl
theorem smooth_at (d : FVec Ideal S1x16000x320 .f32) (i : S1x16000x320.Idx) : (smooth d i : EReal) = sl (d i) := by
  rw [smooth_lane, one_word]
  unfold sl
  by_cases h : (d i : EReal) < 1
  · rw [if_pos h, decide_eq_true h]; rfl
  · rw [if_neg h, decide_eq_false h]; rfl

/-- The class weights, lane by lane. -/
theorem weight80_lane (g : FVec Ideal S_ .f32) (X : FVec Ideal S1x80 .f32) (i : S1x80.Idx) :
    (Host.divf (F := Ideal) (broadcastInDim S1x80 ![] bcast_S_S1x80 (constant S_ .f32 0x3F800000#32)) (addf (broadcastInDim S1x80 ![] bcast_S_S1x80 (constant S_ .f32 0x3F800000#32)) (Host.exp (Host.negf (Host.divf (broadcastInDim S1x80 ![] bcast_S_S1x80 g) (maximumf X (broadcastInDim S1x80 ![] bcast_S_S1x80 (constant S_ .f32 0x33D6BF95#32))))))) i : EReal)
      = Ideal.div (Ideal.ofBits .f32 0x3F800000#32) (Ideal.ofBits .f32 0x3F800000#32 + Ideal.exp (-(Ideal.div (broadcastInDim S1x80 ![] bcast_S_S1x80 g i) (max (X i) eps)))) := rfl

theorem marks_lane (T : FVec Ideal S1x16000x80 .f32) (i : S1x16000x80.Idx) :
    (marks T i : EReal) = (((BitVec.ofBool (decide ((T i : EReal) = Ideal.ofBits .f32 0x3F800000#32))).toNat : ℝ) : EReal) := rfl

include hA

theorem fore_at (r : Fin 16000) (c : Fin 80) : (fore A (ix3 0 r c) : EReal) = hot cls r c.succ := by
  refine Eq.trans (congrArg A (funext fun b => Fin.ext ?_)) (hA r c.succ)
  match b with
  | ⟨0, _⟩ => rfl
  | ⟨1, _⟩ => exact Nat.zero_add _
  | ⟨2, _⟩ => exact Nat.add_comm _ _

theorem all_sum80 (j : S_.Idx) : (Host.reduceAdd (F := Ideal) (fore A) (constant S_ .f32 0x00000000#32) reducesTo_S1x16000x80_S_d0_1_2 h_S_ j : EReal) = pos cls := by
  rw [red_total, sum3, Fin.sum_univ_one, Finset.sum_comm]
  exact Finset.sum_congr rfl fun c _ => Finset.sum_congr rfl fun r _ => fore_at A cls hA r c
theorem class_sum80 (c : Fin 80) : (Host.reduceAdd (F := Ideal) (fore A) (constant S_ .f32 0x00000000#32) reducesTo_S1x16000x80_S1x80_d1 h_S_ (ix2 0 c) : EReal) = cnt cls c.succ := by
  refine (red_one _ reduces_mid80 (fore A) (ix2 0 c)).trans (Finset.sum_congr rfl fun r _ => Eq.trans (congrArg (fore A) (funext fun b => ?_)) (fore_at A cls hA r c))
  match b with
  | ⟨0, _⟩ => rfl
  | ⟨1, _⟩ => rfl
  | ⟨2, _⟩ => rfl

theorem weight80_at (c : Fin 80) : (weight80 (fore A) (ix2 0 c) : EReal) = wp cls c := by
  unfold wp sg
  rw [← one_word, ← class_sum80 A cls hA c, ← all_sum80 A cls hA ix0]
  refine (weight80_lane _ _ _).trans ?_
  rw [broadcast_word]

/-- An anchor's weight: its class's, and zero for the background's anchors. -/
theorem anchor80_at (r : Fin 16000) : (anchor80 (fore A) (ix2 0 r) : EReal) = ∑ c : Fin 80, hot cls r c.succ * wp cls c := by
  refine (red_one _ reduces_last80 _ _).trans (Finset.sum_congr rfl fun c _ => ?_)
  rw [← fore_at A cls hA r c, ← weight80_at A cls hA c]
  refine congrArg₂ (fun x y : EReal => x * y) (congrArg (fore A) (funext fun b => ?_)) (congrArg (weight80 (fore A)) (funext fun b => ?_))
  · match b with
    | ⟨0, _⟩ => rfl
    | ⟨1, _⟩ => rfl
    | ⟨2, _⟩ => rfl
  · match b with
    | ⟨0, _⟩ => rfl
    | ⟨1, _⟩ => rfl
theorem anchor80_class (r : Fin 16000) (c : Fin 80) (h : c.succ = cls r) : (anchor80 (fore A) (ix2 0 r) : EReal) = wp cls c := by
  rw [anchor80_at A cls hA]
  refine (Finset.sum_eq_single c (fun b _ hb => ?_) fun hc => absurd (Finset.mem_univ c) hc).trans ?_
  · unfold hot
    rw [if_neg fun e => hb (Fin.succ_injective _ (e.trans h.symm)), zero_mul]
  · unfold hot
    rw [if_pos h, one_mul]

theorem marks_at (r : Fin 16000) (c : Fin 80) : (marks (fore A) (ix3 0 r c) : EReal) = hot cls r c.succ := by
  rw [marks_lane, one_word, fore_at A cls hA]
  unfold hot
  split
  · rw [decide_eq_true rfl]
    show (((1 : ℕ) : ℝ) : EReal) = 1
    simp
  · rw [decide_eq_false (by exact zero_ne_one)]
    show (((0 : ℕ) : ℝ) : EReal) = 0
    simp

theorem labels_at (r : Fin 16000) (k : Fin 320) : (labels (fore A) (ix3 0 r k) : EReal) = lb cls r k := by
  have e1 : shapeCast S1x16000x320 (broadcastInDim S1x16000x80x4 ![0, 1, 2] bcast_S1x16000x80_S1x16000x80x4_0_1_2 (marks (fore A))) shapeCasts_S1x16000x80x4_S1x16000x320 (ix3 0 r k)
      = hot cls r (kc k).succ := by
    refine (shapeCast_apply _ _ _ (ix4 0 r (kc k) ⟨k.val % 4, Nat.mod_lt _ (by decide)⟩) ?_).trans (Eq.trans (congrArg (marks (fore A)) (funext fun b => ?_)) (marks_at A cls hA r (kc k)))
    · rw [Shape.rowMajor_val_four, Shape.rowMajor_val_three]
      show ((0 * 16000 + r.val) * 80 + k.val / 4) * 4 + k.val % 4 = (0 * 16000 + r.val) * 320 + k.val
      omega
    · match b with
      | ⟨0, _⟩ => rfl
      | ⟨1, _⟩ => rfl
      | ⟨2, _⟩ => rfl
  have e2 : broadcastInDim S1x16000x320 ![0, 1, 2] bcast_S1x16000x1_S1x16000x320_0_1_2 (broadcastInDim S1x16000x1 ![0, 1] bcast_S1x16000_S1x16000x1_0_1 (anchor80 (fore A))) (ix3 0 r k) = anchor80 (fore A) (ix2 0 r) := by
    refine congrArg (anchor80 (fore A)) (funext fun b => ?_)
    match b with
    | ⟨0, _⟩ => rfl
    | ⟨1, _⟩ => rfl
  refine (congrArg₂ (fun x y : EReal => x * y) e1 e2).trans ?_
  unfold lb hot
  split
  · next h => rw [one_mul, anchor80_class A cls hA r (kc k) h]
  · exact zero_mul _

theorem dist_at (r : Fin 16000) (k : Fin 320) :
    (dist (fore A) (deltas O) (deltas D) (ix3 0 r k) : EReal) = ab ((O (ix3 0 r (k4 k)) : EReal) - D (ix3 0 r (k4 k))) * lb cls r k := by
  rw [← ab_mul _ _ _ (lb_bound cls r k).1 (lb_bound cls r k).2, ← labels_at A cls hA r k, ← deltas_at O r k, ← deltas_at D r k]
  rfl

omit hA in
theorem quot_lane (X Y : FVec Ideal S_ .f32) (j : S_.Idx) : (Host.divf (F := Ideal) X (maximumf (constant S_ .f32 0x33D6BF95#32) Y) j : EReal) = Ideal.div (X j) (max eps (Y j)) := rfl

/-- The reference's regression loss. -/
theorem regPart_eq (j : S_.Idx) : (regPart A O D j : EReal) = regLoss cls (fun r k => O (ix3 0 r k)) fun r k => D (ix3 0 r k) := by
  have e1 : (Host.reduceAdd (F := Ideal) (smooth (dist (fore A) (deltas O) (deltas D))) (constant S_ .f32 0x00000000#32) reducesTo_S1x16000x320_S_d0_1_2 h_S_ j : EReal)
      = ∑ r : Fin 16000, ∑ k : Fin 320, sl (ab ((O (ix3 0 r (k4 k)) : EReal) - D (ix3 0 r (k4 k))) * lb cls r k) := by
    rw [red_total, sum3, Fin.sum_univ_one]
    refine Finset.sum_congr rfl fun r _ => Finset.sum_congr rfl fun k _ => ?_
    rw [smooth_at, dist_at A O D cls hA]
  exact (quot_lane _ _ j).trans <| congrArg₂ (fun x y => Ideal.div x (max eps y)) e1 (all_sum80 A cls hA j)

end

end Cert.Proof.Ref

end
-- ==== Proof.Claims.Algebraic.lean ====
/-
  The value claim: on one-hot targets the idealized kernel and the reference end with the same number, the sum of the
  classification loss and the regression loss.
-/
module

public import proofs.«01_k».proof.Defs
public import proofs.«01_k».proof.Proof.Run.Main
public import proofs.«01_k».proof.Proof.Run.Ends
public import proofs.«01_k».proof.Proof.Math.KernelCls
public import proofs.«01_k».proof.Proof.Math.KernelReg
public import proofs.«01_k».proof.Proof.Math.RefReg
public import proofs.«01_k».proof.Proof.Gen.ReferenceIdeal.Run
public import proofs.«01_k».proof.Proof.Claims.Frames

@[expose] public section

noncomputable section

namespace Cert.Proof

open Cert.Proof.Math Idealize.SL.Sem
open Idealize.ShloMosaic hiding ix0 ix1 ix2 ix3 eq_ix1 eq_ix2 eq_ix3
open Idealize.ShloMosaic.ValueIdx (ix0 ix1 ix2 ix3 eq_ix1 eq_ix2 eq_ix3)

/-! ## The arguments, with their unit axis and without -/

section Args

variable (m : (ℓ : Loc Cert.KernelIdeal.nD Cert.KernelIdeal.τ Cert.KernelIdeal.sig) → Buf (Elt Ideal) ℓ) (d : Dev Cert.KernelIdeal.nD)

/-- The four arguments: target deltas, target scores, output deltas, output scores. -/
abbrev targetDeltas : Cert.KernelIdeal.S1x16000x324.Idx → EReal := m (d, Run.dv Cert.KernelIdeal.main_arg0)
abbrev targetScores : Cert.KernelIdeal.S1x16000x81.Idx → EReal := m (d, Run.dv Cert.KernelIdeal.main_arg1)
abbrev outputDeltas : Cert.KernelIdeal.S1x16000x324.Idx → EReal := m (d, Run.dv Cert.KernelIdeal.main_arg2)
abbrev outputScores : Cert.KernelIdeal.S1x16000x81.Idx → EReal := m (d, Run.dv Cert.KernelIdeal.main_arg3)

theorem drop_unit {n0 n1 : ℕ} (x : (⟨3, ![1, n0, n1]⟩ : Shape).Idx → EReal) (h : (⟨3, ![1, n0, n1]⟩ : Shape).ShapeCasts ⟨2, ![n0, n1]⟩) (r : Fin n0) (c : Fin n1) :
    shapeCast ⟨2, ![n0, n1]⟩ x h (ix2 r c) = x (ix3 0 r c) := by
  refine (shapeCast_dropUnit_apply ![n0, n1] x h (ix2 r c)).trans (congrArg x (funext fun b => ?_))
  match b with
  | ⟨0, _⟩ => rfl
  | ⟨1, _⟩ => rfl
  | ⟨2, _⟩ => rfl

theorem x0_flat (r : Fin 16000) (c : Fin 81) : (Run.x0 m d (ix2 r c) : EReal) = targetScores m d (ix3 0 r c) := by
  rw [Run.x0_eq]; exact drop_unit _ _ r c
theorem x1_flat (r : Fin 16000) (c : Fin 81) : (Run.x1 m d (ix2 r c) : EReal) = outputScores m d (ix3 0 r c) := by
  rw [Run.x1_eq]; exact drop_unit _ _ r c
theorem y0_flat (r : Fin 16000) (k : Fin 324) : (Run.y0 m d (ix2 r k) : EReal) = outputDeltas m d (ix3 0 r k) := by
  rw [Run.y0_eq]; exact drop_unit _ _ r k
theorem y1_flat (r : Fin 16000) (k : Fin 324) : (Run.y1 m d (ix2 r k) : EReal) = targetDeltas m d (ix3 0 r k) := by
  rw [Run.y1_eq]; exact drop_unit _ _ r k

/-- The loss of the arguments at device `d`, the anchors' classes given. -/
def loss (cls : Fin 16000 → Fin 81) : EReal :=
  clsLoss cls (fun r c => outputScores m d (ix3 0 r c))
    + regLoss cls (fun r k => outputDeltas m d (ix3 0 r k)) (fun r k => targetDeltas m d (ix3 0 r k))

/-- The idealized kernel ends with the loss. -/
theorem kernel_value (cls : Fin 16000 → Fin 81) (h : Run.OneHot (Run.x0 m d) cls) (j : Cert.KernelIdeal.S_.Idx) :
    ((Run.VE m d (Run.dv Cert.KernelIdeal.main_v9) : Cert.KernelIdeal.S_.Idx → EReal) j) = loss m d cls := by
  have e0 : (fun r c => (Run.x1 m d (ix2 r c) : EReal)) = fun r c => outputScores m d (ix3 0 r c) := funext fun r => funext fun c => x1_flat m d r c
  have e1 : (fun r k => (Run.y0 m d (ix2 r k) : EReal)) = fun r k => outputDeltas m d (ix3 0 r k) := funext fun r => funext fun k => y0_flat m d r k
  have e2 : (fun r k => (Run.y1 m d (ix2 r k) : EReal)) = fun r k => targetDeltas m d (ix3 0 r k) := funext fun r => funext fun k => y1_flat m d r k
  have c1 := Run.kernel_cls (Run.x0 m d) (Run.x1 m d) cls h
  have c2 := Run.kernel_reg (Run.x0 m d) cls h (Run.y0 m d) (Run.y1 m d)
  rw [e0] at c1
  rw [e1, e2] at c2
  unfold loss
  rw [← c1, ← c2, Run.VE_v9, Run.lab_eq, Run.nl_eq, Run.wv_eq]
  refine congrArg₂ (fun x y : EReal => x + y) ?_ ?_
  · refine (Ideal.hostReduceAdd_total _ (fun b => b.elim0) _ _ j).trans ?_
    refine Eq.trans (congrArg (· + _) (show _ = (0 : EReal) from Ideal.ofBits_zero_f32)) (zero_add _)
  · show Run.regOut (Run.y0 m) (Run.y1 m) (Run.z0 m) (Run.z2 m) (Run.z3 m) d = _
    unfold Run.regOut
    rw [Run.z0_eq, Run.z2_eq, Run.z3_eq]

end Args

section Reference

variable (m : (ℓ : Loc Cert.ReferenceIdeal.nD Cert.ReferenceIdeal.τ Cert.ReferenceIdeal.sig) → Buf (Elt Ideal) ℓ) (c : Dev Cert.ReferenceIdeal.nD)

set_option maxRecDepth 8192 in
/-- The reference's result is its two losses' sum. -/
theorem ref_parts : Cert.ReferenceIdeal.Value.res_main_v74 (F := Ideal) m c
    = (addf (Ref.clsPart (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3)))
        (Ref.regPart (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg0))) : FVec Ideal Cert.ReferenceIdeal.S_ .f32) := by
  unfold Cert.ReferenceIdeal.Value.res_main_v74
  rfl

end Reference

/-- On one-hot targets the idealized kernel and the reference end with the same number. -/
theorem algebraic : Cert.algebraic_KernelIdeal_ReferenceIdeal (hKernelIdeal := Cert.KernelIdeal.Gen.facts) (hReferenceIdeal := Cert.ReferenceIdeal.Gen.facts)
    (hPre_one_hot_targets := Pre.facts) := by
  intro m g m' g' hp hargs
  refine ⟨fun c => Run.VE m c (Run.dv Cert.KernelIdeal.main_v9), ?_, ?_⟩
  · exact (θ_run _ _ _).mono
      (fun _ h c => ⟨(h.1 c).2.2.2.2, (h.1 c).1.trans (Run.VE_arg m c _ (by decide)), (h.1 c).2.1.trans (Run.VE_arg m c _ (by decide)),
        (h.1 c).2.2.1.trans (Run.VE_arg m c _ (by decide)), (h.1 c).2.2.2.1.trans (Run.VE_arg m c _ (by decide))⟩)
      (Run.run_main (F := Ideal) m g (Run.labOK Pre.facts m hp))
  · refine (θ_run _ _ _).mono (fun _ h c => ⟨(h c).1.trans ?_, (h c).2⟩) (Cert.ReferenceIdeal.Value.run (F := Ideal) m' g')
    obtain ⟨a0, a1, a2, a3⟩ := hargs c
    obtain ⟨cls, hc⟩ := Run.oneHot Pre.facts m hp c
    have hA : ∀ r k, (targetScores m c (ix3 0 r k) : EReal) = hot cls r k := fun r k => (x0_flat m c r k).symm.trans (hc r k)
    rw [ref_parts, a0, a1, a2, a3]
    refine funext fun j => Eq.trans ?_ (kernel_value m c cls hc j).symm
    exact congrArg₂ (fun x y : EReal => x + y) (Ref.clsPart_eq (targetScores m c) (outputScores m c) cls hA j)
      (Ref.regPart_eq (targetScores m c) (outputDeltas m c) (targetDeltas m c) cls hA j)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Claims.Frames
public import proofs.«01_k».proof.Proof.Claims.Algebraic
public import Idealize.ShloMosaic.Adequacy
public import Idealize.ShloMosaic.Init

@[expose] public section

noncomputable section

namespace Cert.Proof

/-- Every claim of this certificate. -/
theorem claim : Cert.Claim :=
  ⟨Cert.Kernel.Gen.facts, Cert.KernelIdeal.Gen.facts, Cert.ReferenceIdeal.Gen.facts, Pre.facts,
    frame_kernel, frame_kernelIdeal, frame_reference, frame_reference_pre, preserves, algebraic⟩

end Cert.Proof

end
